-- ==== Defs.lean ====
def Pre_SharedDown (m : (ℓ : Loc Cert.SharedDown.nD Cert.SharedDown.τ Cert.SharedDown.sig) → Buf (Elt Bits) ℓ) : Prop :=
  True

def Pre_SharedDownIdeal (m : (ℓ : Loc Cert.SharedDownIdeal.nD Cert.SharedDownIdeal.τ Cert.SharedDownIdeal.sig) → Buf (Elt Ideal) ℓ) : Prop :=
  True

def Pre_RefDownIdeal (m : (ℓ : Loc Cert.RefDownIdeal.nD Cert.RefDownIdeal.τ Cert.RefDownIdeal.sig) → Buf (Elt Ideal) ℓ) : Prop :=
  True

def Pre_SharedUp (m : (ℓ : Loc Cert.SharedUp.nD Cert.SharedUp.τ Cert.SharedUp.sig) → Buf (Elt Bits) ℓ) : Prop :=
  True

def Pre_SharedUpIdeal (m : (ℓ : Loc Cert.SharedUpIdeal.nD Cert.SharedUpIdeal.τ Cert.SharedUpIdeal.sig) → Buf (Elt Ideal) ℓ) : Prop :=
  True

def Pre_SharedUpIdeal_finite [hPre_finite : Cert.Pre_finite.Facts] (m : (ℓ : Loc Cert.SharedUpIdeal.nD Cert.SharedUpIdeal.τ Cert.SharedUpIdeal.sig) → Buf (Elt Ideal) ℓ) : Prop :=
  ∀ c : Dev Cert.SharedUpIdeal.nD,
    (Cert.Pre_finite.fn (F := Ideal) (m ((c.tc : Thread Cert.SharedUpIdeal.nD Cert.SharedUpIdeal.τ).loc Cert.SharedUpIdeal.main_arg0)) (m ((c.tc : Thread Cert.SharedUpIdeal.nD Cert.SharedUpIdeal.τ).loc Cert.SharedUpIdeal.main_arg1)) (m ((c.tc : Thread Cert.SharedUpIdeal.nD Cert.SharedUpIdeal.τ).loc Cert.SharedUpIdeal.main_arg2)) (m ((c.tc : Thread Cert.SharedUpIdeal.nD Cert.SharedUpIdeal.τ).loc Cert.SharedUpIdeal.main_arg3)) (m ((c.tc : Thread Cert.SharedUpIdeal.nD Cert.SharedUpIdeal.τ).loc Cert.SharedUpIdeal.main_arg4)) (m ((c.tc : Thread Cert.SharedUpIdeal.nD Cert.SharedUpIdeal.τ).loc Cert.SharedUpIdeal.main_arg5))).1 = (fun _ => 1#1)
    ∧ (Cert.Pre_finite.fn (F := Ideal) (m ((c.tc : Thread Cert.SharedUpIdeal.nD Cert.SharedUpIdeal.τ).loc Cert.SharedUpIdeal.main_arg0)) (m ((c.tc : Thread Cert.SharedUpIdeal.nD Cert.SharedUpIdeal.τ).loc Cert.SharedUpIdeal.main_arg1)) (m ((c.tc : Thread Cert.SharedUpIdeal.nD Cert.SharedUpIdeal.τ).loc Cert.SharedUpIdeal.main_arg2)) (m ((c.tc : Thread Cert.SharedUpIdeal.nD Cert.SharedUpIdeal.τ).loc Cert.SharedUpIdeal.main_arg3)) (m ((c.tc : Thread Cert.SharedUpIdeal.nD Cert.SharedUpIdeal.τ).loc Cert.SharedUpIdeal.main_arg4)) (m ((c.tc : Thread Cert.SharedUpIdeal.nD Cert.SharedUpIdeal.τ).loc Cert.SharedUpIdeal.main_arg5))).2.1 = (fun _ => 1#1)
    ∧ (Cert.Pre_finite.fn (F := Ideal) (m ((c.tc : Thread Cert.SharedUpIdeal.nD Cert.SharedUpIdeal.τ).loc Cert.SharedUpIdeal.main_arg0)) (m ((c.tc : Thread Cert.SharedUpIdeal.nD Cert.SharedUpIdeal.τ).loc Cert.SharedUpIdeal.main_arg1)) (m ((c.tc : Thread Cert.SharedUpIdeal.nD Cert.SharedUpIdeal.τ).loc Cert.SharedUpIdeal.main_arg2)) (m ((c.tc : Thread Cert.SharedUpIdeal.nD Cert.SharedUpIdeal.τ).loc Cert.SharedUpIdeal.main_arg3)) (m ((c.tc : Thread Cert.SharedUpIdeal.nD Cert.SharedUpIdeal.τ).loc Cert.SharedUpIdeal.main_arg4)) (m ((c.tc : Thread Cert.SharedUpIdeal.nD Cert.SharedUpIdeal.τ).loc Cert.SharedUpIdeal.main_arg5))).2.2.1 = (fun _ => 1#1)
    ∧ (Cert.Pre_finite.fn (F := Ideal) (m ((c.tc : Thread Cert.SharedUpIdeal.nD Cert.SharedUpIdeal.τ).loc Cert.SharedUpIdeal.main_arg0)) (m ((c.tc : Thread Cert.SharedUpIdeal.nD Cert.SharedUpIdeal.τ).loc Cert.SharedUpIdeal.main_arg1)) (m ((c.tc : Thread Cert.SharedUpIdeal.nD Cert.SharedUpIdeal.τ).loc Cert.SharedUpIdeal.main_arg2)) (m ((c.tc : Thread Cert.SharedUpIdeal.nD Cert.SharedUpIdeal.τ).loc Cert.SharedUpIdeal.main_arg3)) (m ((c.tc : Thread Cert.SharedUpIdeal.nD Cert.SharedUpIdeal.τ).loc Cert.SharedUpIdeal.main_arg4)) (m ((c.tc : Thread Cert.SharedUpIdeal.nD Cert.SharedUpIdeal.τ).loc Cert.SharedUpIdeal.main_arg5))).2.2.2 = (fun _ => 1#1)

def Pre_RefUpIdeal (m : (ℓ : Loc Cert.RefUpIdeal.nD Cert.RefUpIdeal.τ Cert.RefUpIdeal.sig) → Buf (Elt Ideal) ℓ) : Prop :=
  True

def Pre_RefUpIdeal_finite [hPre_finite : Cert.Pre_finite.Facts] (m : (ℓ : Loc Cert.RefUpIdeal.nD Cert.RefUpIdeal.τ Cert.RefUpIdeal.sig) → Buf (Elt Ideal) ℓ) : Prop :=
  ∀ c : Dev Cert.RefUpIdeal.nD,
    (Cert.Pre_finite.fn (F := Ideal) (m ((c.tc : Thread Cert.RefUpIdeal.nD Cert.RefUpIdeal.τ).loc Cert.RefUpIdeal.main_arg0)) (m ((c.tc : Thread Cert.RefUpIdeal.nD Cert.RefUpIdeal.τ).loc Cert.RefUpIdeal.main_arg1)) (m ((c.tc : Thread Cert.RefUpIdeal.nD Cert.RefUpIdeal.τ).loc Cert.RefUpIdeal.main_arg2)) (m ((c.tc : Thread Cert.RefUpIdeal.nD Cert.RefUpIdeal.τ).loc Cert.RefUpIdeal.main_arg3)) (m ((c.tc : Thread Cert.RefUpIdeal.nD Cert.RefUpIdeal.τ).loc Cert.RefUpIdeal.main_arg4)) (m ((c.tc : Thread Cert.RefUpIdeal.nD Cert.RefUpIdeal.τ).loc Cert.RefUpIdeal.main_arg5))).1 = (fun _ => 1#1)
    ∧ (Cert.Pre_finite.fn (F := Ideal) (m ((c.tc : Thread Cert.RefUpIdeal.nD Cert.RefUpIdeal.τ).loc Cert.RefUpIdeal.main_arg0)) (m ((c.tc : Thread Cert.RefUpIdeal.nD Cert.RefUpIdeal.τ).loc Cert.RefUpIdeal.main_arg1)) (m ((c.tc : Thread Cert.RefUpIdeal.nD Cert.RefUpIdeal.τ).loc Cert.RefUpIdeal.main_arg2)) (m ((c.tc : Thread Cert.RefUpIdeal.nD Cert.RefUpIdeal.τ).loc Cert.RefUpIdeal.main_arg3)) (m ((c.tc : Thread Cert.RefUpIdeal.nD Cert.RefUpIdeal.τ).loc Cert.RefUpIdeal.main_arg4)) (m ((c.tc : Thread Cert.RefUpIdeal.nD Cert.RefUpIdeal.τ).loc Cert.RefUpIdeal.main_arg5))).2.1 = (fun _ => 1#1)
    ∧ (Cert.Pre_finite.fn (F := Ideal) (m ((c.tc : Thread Cert.RefUpIdeal.nD Cert.RefUpIdeal.τ).loc Cert.RefUpIdeal.main_arg0)) (m ((c.tc : Thread Cert.RefUpIdeal.nD Cert.RefUpIdeal.τ).loc Cert.RefUpIdeal.main_arg1)) (m ((c.tc : Thread Cert.RefUpIdeal.nD Cert.RefUpIdeal.τ).loc Cert.RefUpIdeal.main_arg2)) (m ((c.tc : Thread Cert.RefUpIdeal.nD Cert.RefUpIdeal.τ).loc Cert.RefUpIdeal.main_arg3)) (m ((c.tc : Thread Cert.RefUpIdeal.nD Cert.RefUpIdeal.τ).loc Cert.RefUpIdeal.main_arg4)) (m ((c.tc : Thread Cert.RefUpIdeal.nD Cert.RefUpIdeal.τ).loc Cert.RefUpIdeal.main_arg5))).2.2.1 = (fun _ => 1#1)
    ∧ (Cert.Pre_finite.fn (F := Ideal) (m ((c.tc : Thread Cert.RefUpIdeal.nD Cert.RefUpIdeal.τ).loc Cert.RefUpIdeal.main_arg0)) (m ((c.tc : Thread Cert.RefUpIdeal.nD Cert.RefUpIdeal.τ).loc Cert.RefUpIdeal.main_arg1)) (m ((c.tc : Thread Cert.RefUpIdeal.nD Cert.RefUpIdeal.τ).loc Cert.RefUpIdeal.main_arg2)) (m ((c.tc : Thread Cert.RefUpIdeal.nD Cert.RefUpIdeal.τ).loc Cert.RefUpIdeal.main_arg3)) (m ((c.tc : Thread Cert.RefUpIdeal.nD Cert.RefUpIdeal.τ).loc Cert.RefUpIdeal.main_arg4)) (m ((c.tc : Thread Cert.RefUpIdeal.nD Cert.RefUpIdeal.τ).loc Cert.RefUpIdeal.main_arg5))).2.2.2 = (fun _ => 1#1)

def quiescent_SharedDown [hSharedDown : Cert.SharedDown.Facts] : Prop :=
  ∀ (m : (ℓ : Loc Cert.SharedDown.nD Cert.SharedDown.τ Cert.SharedDown.sig) → Buf (Elt Bits) ℓ) (g : Dev Cert.SharedDown.nD → PrngReg), Pre_SharedDown m →
    θ_run (Cert.SharedDown.defs (F := Bits)) (onTc (τ := Cert.SharedDown.τ) (Cert.SharedDown.main (F := Bits))) ⟨m, fun _ => 0, g⟩ (fun r => (∀ c : Dev Cert.SharedDown.nD,
      r.2.mem ((c.tc : Thread Cert.SharedDown.nD Cert.SharedDown.τ).loc Cert.SharedDown.main_arg0) = m ((c.tc : Thread Cert.SharedDown.nD Cert.SharedDown.τ).loc Cert.SharedDown.main_arg0)
      ∧ r.2.mem ((c.tc : Thread Cert.SharedDown.nD Cert.SharedDown.τ).loc Cert.SharedDown.main_arg1) = m ((c.tc : Thread Cert.SharedDown.nD Cert.SharedDown.τ).loc Cert.SharedDown.main_arg1)
      ∧ r.2.mem ((c.tc : Thread Cert.SharedDown.nD Cert.SharedDown.τ).loc Cert.SharedDown.main_arg2) = m ((c.tc : Thread Cert.SharedDown.nD Cert.SharedDown.τ).loc Cert.SharedDown.main_arg2)
      ∧ r.2.mem ((c.tc : Thread Cert.SharedDown.nD Cert.SharedDown.τ).loc Cert.SharedDown.main_arg3) = m ((c.tc : Thread Cert.SharedDown.nD Cert.SharedDown.τ).loc Cert.SharedDown.main_arg3))
      ∧ r.2.sem = fun _ => 0)

def quiescent_SharedDownIdeal [hSharedDownIdeal : Cert.SharedDownIdeal.Facts] : Prop :=
  ∀ (m : (ℓ : Loc Cert.SharedDownIdeal.nD Cert.SharedDownIdeal.τ Cert.SharedDownIdeal.sig) → Buf (Elt Ideal) ℓ) (g : Dev Cert.SharedDownIdeal.nD → PrngReg), Pre_SharedDownIdeal m →
    θ_run (Cert.SharedDownIdeal.defs (F := Ideal)) (onTc (τ := Cert.SharedDownIdeal.τ) (Cert.SharedDownIdeal.main (F := Ideal))) ⟨m, fun _ => 0, g⟩ (fun r => (∀ c : Dev Cert.SharedDownIdeal.nD,
      r.2.mem ((c.tc : Thread Cert.SharedDownIdeal.nD Cert.SharedDownIdeal.τ).loc Cert.SharedDownIdeal.main_arg0) = m ((c.tc : Thread Cert.SharedDownIdeal.nD Cert.SharedDownIdeal.τ).loc Cert.SharedDownIdeal.main_arg0)
      ∧ r.2.mem ((c.tc : Thread Cert.SharedDownIdeal.nD Cert.SharedDownIdeal.τ).loc Cert.SharedDownIdeal.main_arg1) = m ((c.tc : Thread Cert.SharedDownIdeal.nD Cert.SharedDownIdeal.τ).loc Cert.SharedDownIdeal.main_arg1)
      ∧ r.2.mem ((c.tc : Thread Cert.SharedDownIdeal.nD Cert.SharedDownIdeal.τ).loc Cert.SharedDownIdeal.main_arg2) = m ((c.tc : Thread Cert.SharedDownIdeal.nD Cert.SharedDownIdeal.τ).loc Cert.SharedDownIdeal.main_arg2)
      ∧ r.2.mem ((c.tc : Thread Cert.SharedDownIdeal.nD Cert.SharedDownIdeal.τ).loc Cert.SharedDownIdeal.main_arg3) = m ((c.tc : Thread Cert.SharedDownIdeal.nD Cert.SharedDownIdeal.τ).loc Cert.SharedDownIdeal.main_arg3))
      ∧ r.2.sem = fun _ => 0)

def quiescent_RefDownIdeal [hRefDownIdeal : Cert.RefDownIdeal.Facts] : Prop :=
  ∀ (m : (ℓ : Loc Cert.RefDownIdeal.nD Cert.RefDownIdeal.τ Cert.RefDownIdeal.sig) → Buf (Elt Ideal) ℓ) (g : Dev Cert.RefDownIdeal.nD → PrngReg), Pre_RefDownIdeal m →
    θ_run (Cert.RefDownIdeal.defs (F := Ideal)) (onTc (τ := Cert.RefDownIdeal.τ) (Cert.RefDownIdeal.main (F := Ideal))) ⟨m, fun _ => 0, g⟩ (fun r => (∀ c : Dev Cert.RefDownIdeal.nD,
      r.2.mem ((c.tc : Thread Cert.RefDownIdeal.nD Cert.RefDownIdeal.τ).loc Cert.RefDownIdeal.main_arg0) = m ((c.tc : Thread Cert.RefDownIdeal.nD Cert.RefDownIdeal.τ).loc Cert.RefDownIdeal.main_arg0)
      ∧ r.2.mem ((c.tc : Thread Cert.RefDownIdeal.nD Cert.RefDownIdeal.τ).loc Cert.RefDownIdeal.main_arg1) = m ((c.tc : Thread Cert.RefDownIdeal.nD Cert.RefDownIdeal.τ).loc Cert.RefDownIdeal.main_arg1)
      ∧ r.2.mem ((c.tc : Thread Cert.RefDownIdeal.nD Cert.RefDownIdeal.τ).loc Cert.RefDownIdeal.main_arg2) = m ((c.tc : Thread Cert.RefDownIdeal.nD Cert.RefDownIdeal.τ).loc Cert.RefDownIdeal.main_arg2)
      ∧ r.2.mem ((c.tc : Thread Cert.RefDownIdeal.nD Cert.RefDownIdeal.τ).loc Cert.RefDownIdeal.main_arg3) = m ((c.tc : Thread Cert.RefDownIdeal.nD Cert.RefDownIdeal.τ).loc Cert.RefDownIdeal.main_arg3))
      ∧ r.2.sem = fun _ => 0)

def quiescent_SharedUp [hSharedUp : Cert.SharedUp.Facts] : Prop :=
  ∀ (m : (ℓ : Loc Cert.SharedUp.nD Cert.SharedUp.τ Cert.SharedUp.sig) → Buf (Elt Bits) ℓ) (g : Dev Cert.SharedUp.nD → PrngReg), Pre_SharedUp m →
    θ_run (Cert.SharedUp.defs (F := Bits)) (onTc (τ := Cert.SharedUp.τ) (Cert.SharedUp.main (F := Bits))) ⟨m, fun _ => 0, g⟩ (fun r => (∀ c : Dev Cert.SharedUp.nD,
      r.2.mem ((c.tc : Thread Cert.SharedUp.nD Cert.SharedUp.τ).loc Cert.SharedUp.main_arg0) = m ((c.tc : Thread Cert.SharedUp.nD Cert.SharedUp.τ).loc Cert.SharedUp.main_arg0)
      ∧ r.2.mem ((c.tc : Thread Cert.SharedUp.nD Cert.SharedUp.τ).loc Cert.SharedUp.main_arg1) = m ((c.tc : Thread Cert.SharedUp.nD Cert.SharedUp.τ).loc Cert.SharedUp.main_arg1)
      ∧ r.2.mem ((c.tc : Thread Cert.SharedUp.nD Cert.SharedUp.τ).loc Cert.SharedUp.main_arg2) = m ((c.tc : Thread Cert.SharedUp.nD Cert.SharedUp.τ).loc Cert.SharedUp.main_arg2)
      ∧ r.2.mem ((c.tc : Thread Cert.SharedUp.nD Cert.SharedUp.τ).loc Cert.SharedUp.main_arg3) = m ((c.tc : Thread Cert.SharedUp.nD Cert.SharedUp.τ).loc Cert.SharedUp.main_arg3)
      ∧ r.2.mem ((c.tc : Thread Cert.SharedUp.nD Cert.SharedUp.τ).loc Cert.SharedUp.main_arg4) = m ((c.tc : Thread Cert.SharedUp.nD Cert.SharedUp.τ).loc Cert.SharedUp.main_arg4)
      ∧ r.2.mem ((c.tc : Thread Cert.SharedUp.nD Cert.SharedUp.τ).loc Cert.SharedUp.main_arg5) = m ((c.tc : Thread Cert.SharedUp.nD Cert.SharedUp.τ).loc Cert.SharedUp.main_arg5))
      ∧ r.2.sem = fun _ => 0)

def quiescent_SharedUpIdeal [hSharedUpIdeal : Cert.SharedUpIdeal.Facts] : Prop :=
  ∀ (m : (ℓ : Loc Cert.SharedUpIdeal.nD Cert.SharedUpIdeal.τ Cert.SharedUpIdeal.sig) → Buf (Elt Ideal) ℓ) (g : Dev Cert.SharedUpIdeal.nD → PrngReg), Pre_SharedUpIdeal m →
    θ_run (Cert.SharedUpIdeal.defs (F := Ideal)) (onTc (τ := Cert.SharedUpIdeal.τ) (Cert.SharedUpIdeal.main (F := Ideal))) ⟨m, fun _ => 0, g⟩ (fun r => (∀ c : Dev Cert.SharedUpIdeal.nD,
      r.2.mem ((c.tc : Thread Cert.SharedUpIdeal.nD Cert.SharedUpIdeal.τ).loc Cert.SharedUpIdeal.main_arg0) = m ((c.tc : Thread Cert.SharedUpIdeal.nD Cert.SharedUpIdeal.τ).loc Cert.SharedUpIdeal.main_arg0)
      ∧ r.2.mem ((c.tc : Thread Cert.SharedUpIdeal.nD Cert.SharedUpIdeal.τ).loc Cert.SharedUpIdeal.main_arg1) = m ((c.tc : Thread Cert.SharedUpIdeal.nD Cert.SharedUpIdeal.τ).loc Cert.SharedUpIdeal.main_arg1)
      ∧ r.2.mem ((c.tc : Thread Cert.SharedUpIdeal.nD Cert.SharedUpIdeal.τ).loc Cert.SharedUpIdeal.main_arg2) = m ((c.tc : Thread Cert.SharedUpIdeal.nD Cert.SharedUpIdeal.τ).loc Cert.SharedUpIdeal.main_arg2)
      ∧ r.2.mem ((c.tc : Thread Cert.SharedUpIdeal.nD Cert.SharedUpIdeal.τ).loc Cert.SharedUpIdeal.main_arg3) = m ((c.tc : Thread Cert.SharedUpIdeal.nD Cert.SharedUpIdeal.τ).loc Cert.SharedUpIdeal.main_arg3)
      ∧ r.2.mem ((c.tc : Thread Cert.SharedUpIdeal.nD Cert.SharedUpIdeal.τ).loc Cert.SharedUpIdeal.main_arg4) = m ((c.tc : Thread Cert.SharedUpIdeal.nD Cert.SharedUpIdeal.τ).loc Cert.SharedUpIdeal.main_arg4)
      ∧ r.2.mem ((c.tc : Thread Cert.SharedUpIdeal.nD Cert.SharedUpIdeal.τ).loc Cert.SharedUpIdeal.main_arg5) = m ((c.tc : Thread Cert.SharedUpIdeal.nD Cert.SharedUpIdeal.τ).loc Cert.SharedUpIdeal.main_arg5))
      ∧ r.2.sem = fun _ => 0)

def quiescent_SharedUpIdeal_pre_finite [hSharedUpIdeal : Cert.SharedUpIdeal.Facts] [hPre_finite : Cert.Pre_finite.Facts] : Prop :=
  ∀ (m : (ℓ : Loc Cert.SharedUpIdeal.nD Cert.SharedUpIdeal.τ Cert.SharedUpIdeal.sig) → Buf (Elt Ideal) ℓ) (g : Dev Cert.SharedUpIdeal.nD → PrngReg), Pre_SharedUpIdeal_finite m →
    θ_run (Cert.SharedUpIdeal.defs (F := Ideal)) (onTc (τ := Cert.SharedUpIdeal.τ) (Cert.SharedUpIdeal.main (F := Ideal))) ⟨m, fun _ => 0, g⟩ (fun r => (∀ c : Dev Cert.SharedUpIdeal.nD,
      r.2.mem ((c.tc : Thread Cert.SharedUpIdeal.nD Cert.SharedUpIdeal.τ).loc Cert.SharedUpIdeal.main_arg0) = m ((c.tc : Thread Cert.SharedUpIdeal.nD Cert.SharedUpIdeal.τ).loc Cert.SharedUpIdeal.main_arg0)
      ∧ r.2.mem ((c.tc : Thread Cert.SharedUpIdeal.nD Cert.SharedUpIdeal.τ).loc Cert.SharedUpIdeal.main_arg1) = m ((c.tc : Thread Cert.SharedUpIdeal.nD Cert.SharedUpIdeal.τ).loc Cert.SharedUpIdeal.main_arg1)
      ∧ r.2.mem ((c.tc : Thread Cert.SharedUpIdeal.nD Cert.SharedUpIdeal.τ).loc Cert.SharedUpIdeal.main_arg2) = m ((c.tc : Thread Cert.SharedUpIdeal.nD Cert.SharedUpIdeal.τ).loc Cert.SharedUpIdeal.main_arg2)
      ∧ r.2.mem ((c.tc : Thread Cert.SharedUpIdeal.nD Cert.SharedUpIdeal.τ).loc Cert.SharedUpIdeal.main_arg3) = m ((c.tc : Thread Cert.SharedUpIdeal.nD Cert.SharedUpIdeal.τ).loc Cert.SharedUpIdeal.main_arg3)
      ∧ r.2.mem ((c.tc : Thread Cert.SharedUpIdeal.nD Cert.SharedUpIdeal.τ).loc Cert.SharedUpIdeal.main_arg4) = m ((c.tc : Thread Cert.SharedUpIdeal.nD Cert.SharedUpIdeal.τ).loc Cert.SharedUpIdeal.main_arg4)
      ∧ r.2.mem ((c.tc : Thread Cert.SharedUpIdeal.nD Cert.SharedUpIdeal.τ).loc Cert.SharedUpIdeal.main_arg5) = m ((c.tc : Thread Cert.SharedUpIdeal.nD Cert.SharedUpIdeal.τ).loc Cert.SharedUpIdeal.main_arg5))
      ∧ r.2.sem = fun _ => 0)

def quiescent_RefUpIdeal [hRefUpIdeal : Cert.RefUpIdeal.Facts] : Prop :=
  ∀ (m : (ℓ : Loc Cert.RefUpIdeal.nD Cert.RefUpIdeal.τ Cert.RefUpIdeal.sig) → Buf (Elt Ideal) ℓ) (g : Dev Cert.RefUpIdeal.nD → PrngReg), Pre_RefUpIdeal m →
    θ_run (Cert.RefUpIdeal.defs (F := Ideal)) (onTc (τ := Cert.RefUpIdeal.τ) (Cert.RefUpIdeal.main (F := Ideal))) ⟨m, fun _ => 0, g⟩ (fun r => (∀ c : Dev Cert.RefUpIdeal.nD,
      r.2.mem ((c.tc : Thread Cert.RefUpIdeal.nD Cert.RefUpIdeal.τ).loc Cert.RefUpIdeal.main_arg0) = m ((c.tc : Thread Cert.RefUpIdeal.nD Cert.RefUpIdeal.τ).loc Cert.RefUpIdeal.main_arg0)
      ∧ r.2.mem ((c.tc : Thread Cert.RefUpIdeal.nD Cert.RefUpIdeal.τ).loc Cert.RefUpIdeal.main_arg1) = m ((c.tc : Thread Cert.RefUpIdeal.nD Cert.RefUpIdeal.τ).loc Cert.RefUpIdeal.main_arg1)
      ∧ r.2.mem ((c.tc : Thread Cert.RefUpIdeal.nD Cert.RefUpIdeal.τ).loc Cert.RefUpIdeal.main_arg2) = m ((c.tc : Thread Cert.RefUpIdeal.nD Cert.RefUpIdeal.τ).loc Cert.RefUpIdeal.main_arg2)
      ∧ r.2.mem ((c.tc : Thread Cert.RefUpIdeal.nD Cert.RefUpIdeal.τ).loc Cert.RefUpIdeal.main_arg3) = m ((c.tc : Thread Cert.RefUpIdeal.nD Cert.RefUpIdeal.τ).loc Cert.RefUpIdeal.main_arg3)
      ∧ r.2.mem ((c.tc : Thread Cert.RefUpIdeal.nD Cert.RefUpIdeal.τ).loc Cert.RefUpIdeal.main_arg4) = m ((c.tc : Thread Cert.RefUpIdeal.nD Cert.RefUpIdeal.τ).loc Cert.RefUpIdeal.main_arg4)
      ∧ r.2.mem ((c.tc : Thread Cert.RefUpIdeal.nD Cert.RefUpIdeal.τ).loc Cert.RefUpIdeal.main_arg5) = m ((c.tc : Thread Cert.RefUpIdeal.nD Cert.RefUpIdeal.τ).loc Cert.RefUpIdeal.main_arg5))
      ∧ r.2.sem = fun _ => 0)

def quiescent_RefUpIdeal_pre_finite [hRefUpIdeal : Cert.RefUpIdeal.Facts] [hPre_finite : Cert.Pre_finite.Facts] : Prop :=
  ∀ (m : (ℓ : Loc Cert.RefUpIdeal.nD Cert.RefUpIdeal.τ Cert.RefUpIdeal.sig) → Buf (Elt Ideal) ℓ) (g : Dev Cert.RefUpIdeal.nD → PrngReg), Pre_RefUpIdeal_finite m →
    θ_run (Cert.RefUpIdeal.defs (F := Ideal)) (onTc (τ := Cert.RefUpIdeal.τ) (Cert.RefUpIdeal.main (F := Ideal))) ⟨m, fun _ => 0, g⟩ (fun r => (∀ c : Dev Cert.RefUpIdeal.nD,
      r.2.mem ((c.tc : Thread Cert.RefUpIdeal.nD Cert.RefUpIdeal.τ).loc Cert.RefUpIdeal.main_arg0) = m ((c.tc : Thread Cert.RefUpIdeal.nD Cert.RefUpIdeal.τ).loc Cert.RefUpIdeal.main_arg0)
      ∧ r.2.mem ((c.tc : Thread Cert.RefUpIdeal.nD Cert.RefUpIdeal.τ).loc Cert.RefUpIdeal.main_arg1) = m ((c.tc : Thread Cert.RefUpIdeal.nD Cert.RefUpIdeal.τ).loc Cert.RefUpIdeal.main_arg1)
      ∧ r.2.mem ((c.tc : Thread Cert.RefUpIdeal.nD Cert.RefUpIdeal.τ).loc Cert.RefUpIdeal.main_arg2) = m ((c.tc : Thread Cert.RefUpIdeal.nD Cert.RefUpIdeal.τ).loc Cert.RefUpIdeal.main_arg2)
      ∧ r.2.mem ((c.tc : Thread Cert.RefUpIdeal.nD Cert.RefUpIdeal.τ).loc Cert.RefUpIdeal.main_arg3) = m ((c.tc : Thread Cert.RefUpIdeal.nD Cert.RefUpIdeal.τ).loc Cert.RefUpIdeal.main_arg3)
      ∧ r.2.mem ((c.tc : Thread Cert.RefUpIdeal.nD Cert.RefUpIdeal.τ).loc Cert.RefUpIdeal.main_arg4) = m ((c.tc : Thread Cert.RefUpIdeal.nD Cert.RefUpIdeal.τ).loc Cert.RefUpIdeal.main_arg4)
      ∧ r.2.mem ((c.tc : Thread Cert.RefUpIdeal.nD Cert.RefUpIdeal.τ).loc Cert.RefUpIdeal.main_arg5) = m ((c.tc : Thread Cert.RefUpIdeal.nD Cert.RefUpIdeal.τ).loc Cert.RefUpIdeal.main_arg5))
      ∧ r.2.sem = fun _ => 0)

def preserves_SharedDown_SharedDownIdeal : Prop :=
  True

def algebraic_SharedDownIdeal_RefDownIdeal [hSharedDownIdeal : Cert.SharedDownIdeal.Facts] [hRefDownIdeal : Cert.RefDownIdeal.Facts] : Prop :=
  ∀ (m : (ℓ : Loc Cert.SharedDownIdeal.nD Cert.SharedDownIdeal.τ Cert.SharedDownIdeal.sig) → Buf (Elt Ideal) ℓ) (g : Dev Cert.SharedDownIdeal.nD → PrngReg)
    (m' : (ℓ : Loc Cert.RefDownIdeal.nD Cert.RefDownIdeal.τ Cert.RefDownIdeal.sig) → Buf (Elt Ideal) ℓ) (g' : Dev Cert.RefDownIdeal.nD → PrngReg), Pre_SharedDownIdeal m →
    (∀ c : Dev Cert.SharedDownIdeal.nD,
      m' ((c.tc : Thread Cert.RefDownIdeal.nD Cert.RefDownIdeal.τ).loc Cert.RefDownIdeal.main_arg0) = m ((c.tc : Thread Cert.SharedDownIdeal.nD Cert.SharedDownIdeal.τ).loc Cert.SharedDownIdeal.main_arg0)
      ∧ m' ((c.tc : Thread Cert.RefDownIdeal.nD Cert.RefDownIdeal.τ).loc Cert.RefDownIdeal.main_arg1) = m ((c.tc : Thread Cert.SharedDownIdeal.nD Cert.SharedDownIdeal.τ).loc Cert.SharedDownIdeal.main_arg1)
      ∧ m' ((c.tc : Thread Cert.RefDownIdeal.nD Cert.RefDownIdeal.τ).loc Cert.RefDownIdeal.main_arg2) = m ((c.tc : Thread Cert.SharedDownIdeal.nD Cert.SharedDownIdeal.τ).loc Cert.SharedDownIdeal.main_arg2)
      ∧ m' ((c.tc : Thread Cert.RefDownIdeal.nD Cert.RefDownIdeal.τ).loc Cert.RefDownIdeal.main_arg3) = m ((c.tc : Thread Cert.SharedDownIdeal.nD Cert.SharedDownIdeal.τ).loc Cert.SharedDownIdeal.main_arg3)) →
    ∃ (v0 : (c : Dev Cert.SharedDownIdeal.nD) → Buf (Elt Ideal) ((c.tc : Thread Cert.SharedDownIdeal.nD Cert.SharedDownIdeal.τ).loc Cert.SharedDownIdeal.main_v1_0)) (v1 : (c : Dev Cert.SharedDownIdeal.nD) → Buf (Elt Ideal) ((c.tc : Thread Cert.SharedDownIdeal.nD Cert.SharedDownIdeal.τ).loc Cert.SharedDownIdeal.main_v1_1)),
      θ_run (Cert.SharedDownIdeal.defs (F := Ideal)) (onTc (τ := Cert.SharedDownIdeal.τ) (Cert.SharedDownIdeal.main (F := Ideal))) ⟨m, fun _ => 0, g⟩ (fun r => ∀ c : Dev Cert.SharedDownIdeal.nD,
          r.2.mem ((c.tc : Thread Cert.SharedDownIdeal.nD Cert.SharedDownIdeal.τ).loc Cert.SharedDownIdeal.main_v1_0) = v0 c
          ∧ r.2.mem ((c.tc : Thread Cert.SharedDownIdeal.nD Cert.SharedDownIdeal.τ).loc Cert.SharedDownIdeal.main_v1_1) = v1 c
          ∧ r.2.mem ((c.tc : Thread Cert.SharedDownIdeal.nD Cert.SharedDownIdeal.τ).loc Cert.SharedDownIdeal.main_arg0) = m ((c.tc : Thread Cert.SharedDownIdeal.nD Cert.SharedDownIdeal.τ).loc Cert.SharedDownIdeal.main_arg0)
          ∧ r.2.mem ((c.tc : Thread Cert.SharedDownIdeal.nD Cert.SharedDownIdeal.τ).loc Cert.SharedDownIdeal.main_arg1) = m ((c.tc : Thread Cert.SharedDownIdeal.nD Cert.SharedDownIdeal.τ).loc Cert.SharedDownIdeal.main_arg1)
          ∧ r.2.mem ((c.tc : Thread Cert.SharedDownIdeal.nD Cert.SharedDownIdeal.τ).loc Cert.SharedDownIdeal.main_arg2) = m ((c.tc : Thread Cert.SharedDownIdeal.nD Cert.SharedDownIdeal.τ).loc Cert.SharedDownIdeal.main_arg2)
          ∧ r.2.mem ((c.tc : Thread Cert.SharedDownIdeal.nD Cert.SharedDownIdeal.τ).loc Cert.SharedDownIdeal.main_arg3) = m ((c.tc : Thread Cert.SharedDownIdeal.nD Cert.SharedDownIdeal.τ).loc Cert.SharedDownIdeal.main_arg3))
      ∧ θ_run (Cert.RefDownIdeal.defs (F := Ideal)) (onTc (τ := Cert.RefDownIdeal.τ) (Cert.RefDownIdeal.main (F := Ideal))) ⟨m', fun _ => 0, g'⟩ (fun r => ∀ c : Dev Cert.RefDownIdeal.nD,
          r.2.mem ((c.tc : Thread Cert.RefDownIdeal.nD Cert.RefDownIdeal.τ).loc Cert.RefDownIdeal.main_v0_0) = v0 c
          ∧ r.2.mem ((c.tc : Thread Cert.RefDownIdeal.nD Cert.RefDownIdeal.τ).loc Cert.RefDownIdeal.main_v0_1) = v1 c
          ∧ r.2.mem ((c.tc : Thread Cert.RefDownIdeal.nD Cert.RefDownIdeal.τ).loc Cert.RefDownIdeal.main_arg0) = m' ((c.tc : Thread Cert.RefDownIdeal.nD Cert.RefDownIdeal.τ).loc Cert.RefDownIdeal.main_arg0)
          ∧ r.2.mem ((c.tc : Thread Cert.RefDownIdeal.nD Cert.RefDownIdeal.τ).loc Cert.RefDownIdeal.main_arg1) = m' ((c.tc : Thread Cert.RefDownIdeal.nD Cert.RefDownIdeal.τ).loc Cert.RefDownIdeal.main_arg1)
          ∧ r.2.mem ((c.tc : Thread Cert.RefDownIdeal.nD Cert.RefDownIdeal.τ).loc Cert.RefDownIdeal.main_arg2) = m' ((c.tc : Thread Cert.RefDownIdeal.nD Cert.RefDownIdeal.τ).loc Cert.RefDownIdeal.main_arg2)
          ∧ r.2.mem ((c.tc : Thread Cert.RefDownIdeal.nD Cert.RefDownIdeal.τ).loc Cert.RefDownIdeal.main_arg3) = m' ((c.tc : Thread Cert.RefDownIdeal.nD Cert.RefDownIdeal.τ).loc Cert.RefDownIdeal.main_arg3))

def preserves_SharedUp_SharedUpIdeal : Prop :=
  True

def algebraic_SharedUpIdeal_RefUpIdeal_pre_finite [hSharedUpIdeal : Cert.SharedUpIdeal.Facts] [hRefUpIdeal : Cert.RefUpIdeal.Facts] [hPre_finite : Cert.Pre_finite.Facts] : Prop :=
  ∀ (m : (ℓ : Loc Cert.SharedUpIdeal.nD Cert.SharedUpIdeal.τ Cert.SharedUpIdeal.sig) → Buf (Elt Ideal) ℓ) (g : Dev Cert.SharedUpIdeal.nD → PrngReg)
    (m' : (ℓ : Loc Cert.RefUpIdeal.nD Cert.RefUpIdeal.τ Cert.RefUpIdeal.sig) → Buf (Elt Ideal) ℓ) (g' : Dev Cert.RefUpIdeal.nD → PrngReg), Pre_SharedUpIdeal_finite m →
    (∀ c : Dev Cert.SharedUpIdeal.nD,
      m' ((c.tc : Thread Cert.RefUpIdeal.nD Cert.RefUpIdeal.τ).loc Cert.RefUpIdeal.main_arg0) = m ((c.tc : Thread Cert.SharedUpIdeal.nD Cert.SharedUpIdeal.τ).loc Cert.SharedUpIdeal.main_arg0)
      ∧ m' ((c.tc : Thread Cert.RefUpIdeal.nD Cert.RefUpIdeal.τ).loc Cert.RefUpIdeal.main_arg1) = m ((c.tc : Thread Cert.SharedUpIdeal.nD Cert.SharedUpIdeal.τ).loc Cert.SharedUpIdeal.main_arg1)
      ∧ m' ((c.tc : Thread Cert.RefUpIdeal.nD Cert.RefUpIdeal.τ).loc Cert.RefUpIdeal.main_arg2) = m ((c.tc : Thread Cert.SharedUpIdeal.nD Cert.SharedUpIdeal.τ).loc Cert.SharedUpIdeal.main_arg2)
      ∧ m' ((c.tc : Thread Cert.RefUpIdeal.nD Cert.RefUpIdeal.τ).loc Cert.RefUpIdeal.main_arg3) = m ((c.tc : Thread Cert.SharedUpIdeal.nD Cert.SharedUpIdeal.τ).loc Cert.SharedUpIdeal.main_arg3)
      ∧ m' ((c.tc : Thread Cert.RefUpIdeal.nD Cert.RefUpIdeal.τ).loc Cert.RefUpIdeal.main_arg4) = m ((c.tc : Thread Cert.SharedUpIdeal.nD Cert.SharedUpIdeal.τ).loc Cert.SharedUpIdeal.main_arg4)
      ∧ m' ((c.tc : Thread Cert.RefUpIdeal.nD Cert.RefUpIdeal.τ).loc Cert.RefUpIdeal.main_arg5) = m ((c.tc : Thread Cert.SharedUpIdeal.nD Cert.SharedUpIdeal.τ).loc Cert.SharedUpIdeal.main_arg5)) →
    ∃ (v0 : (c : Dev Cert.SharedUpIdeal.nD) → Buf (Elt Ideal) ((c.tc : Thread Cert.SharedUpIdeal.nD Cert.SharedUpIdeal.τ).loc Cert.SharedUpIdeal.main_v48_0)) (v1 : (c : Dev Cert.SharedUpIdeal.nD) → Buf (Elt Ideal) ((c.tc : Thread Cert.SharedUpIdeal.nD Cert.SharedUpIdeal.τ).loc Cert.SharedUpIdeal.main_v48_1)) (v2 : (c : Dev Cert.SharedUpIdeal.nD) → Buf (Elt Ideal) ((c.tc : Thread Cert.SharedUpIdeal.nD Cert.SharedUpIdeal.τ).loc Cert.SharedUpIdeal.main_v48_2)),
      θ_run (Cert.SharedUpIdeal.defs (F := Ideal)) (onTc (τ := Cert.SharedUpIdeal.τ) (Cert.SharedUpIdeal.main (F := Ideal))) ⟨m, fun _ => 0, g⟩ (fun r => ∀ c : Dev Cert.SharedUpIdeal.nD,
          r.2.mem ((c.tc : Thread Cert.SharedUpIdeal.nD Cert.SharedUpIdeal.τ).loc Cert.SharedUpIdeal.main_v48_0) = v0 c
          ∧ r.2.mem ((c.tc : Thread Cert.SharedUpIdeal.nD Cert.SharedUpIdeal.τ).loc Cert.SharedUpIdeal.main_v48_1) = v1 c
          ∧ r.2.mem ((c.tc : Thread Cert.SharedUpIdeal.nD Cert.SharedUpIdeal.τ).loc Cert.SharedUpIdeal.main_v48_2) = v2 c
          ∧ r.2.mem ((c.tc : Thread Cert.SharedUpIdeal.nD Cert.SharedUpIdeal.τ).loc Cert.SharedUpIdeal.main_arg0) = m ((c.tc : Thread Cert.SharedUpIdeal.nD Cert.SharedUpIdeal.τ).loc Cert.SharedUpIdeal.main_arg0)
          ∧ r.2.mem ((c.tc : Thread Cert.SharedUpIdeal.nD Cert.SharedUpIdeal.τ).loc Cert.SharedUpIdeal.main_arg1) = m ((c.tc : Thread Cert.SharedUpIdeal.nD Cert.SharedUpIdeal.τ).loc Cert.SharedUpIdeal.main_arg1)
          ∧ r.2.mem ((c.tc : Thread Cert.SharedUpIdeal.nD Cert.SharedUpIdeal.τ).loc Cert.SharedUpIdeal.main_arg2) = m ((c.tc : Thread Cert.SharedUpIdeal.nD Cert.SharedUpIdeal.τ).loc Cert.SharedUpIdeal.main_arg2)
          ∧ r.2.mem ((c.tc : Thread Cert.SharedUpIdeal.nD Cert.SharedUpIdeal.τ).loc Cert.SharedUpIdeal.main_arg3) = m ((c.tc : Thread Cert.SharedUpIdeal.nD Cert.SharedUpIdeal.τ).loc Cert.SharedUpIdeal.main_arg3)
          ∧ r.2.mem ((c.tc : Thread Cert.SharedUpIdeal.nD Cert.SharedUpIdeal.τ).loc Cert.SharedUpIdeal.main_arg4) = m ((c.tc : Thread Cert.SharedUpIdeal.nD Cert.SharedUpIdeal.τ).loc Cert.SharedUpIdeal.main_arg4)
          ∧ r.2.mem ((c.tc : Thread Cert.SharedUpIdeal.nD Cert.SharedUpIdeal.τ).loc Cert.SharedUpIdeal.main_arg5) = m ((c.tc : Thread Cert.SharedUpIdeal.nD Cert.SharedUpIdeal.τ).loc Cert.SharedUpIdeal.main_arg5))
      ∧ θ_run (Cert.RefUpIdeal.defs (F := Ideal)) (onTc (τ := Cert.RefUpIdeal.τ) (Cert.RefUpIdeal.main (F := Ideal))) ⟨m', fun _ => 0, g'⟩ (fun r => ∀ c : Dev Cert.RefUpIdeal.nD,
          r.2.mem ((c.tc : Thread Cert.RefUpIdeal.nD Cert.RefUpIdeal.τ).loc Cert.RefUpIdeal.main_v0_0) = v0 c
          ∧ r.2.mem ((c.tc : Thread Cert.RefUpIdeal.nD Cert.RefUpIdeal.τ).loc Cert.RefUpIdeal.main_v0_1) = v1 c
          ∧ r.2.mem ((c.tc : Thread Cert.RefUpIdeal.nD Cert.RefUpIdeal.τ).loc Cert.RefUpIdeal.main_v0_2) = v2 c
          ∧ r.2.mem ((c.tc : Thread Cert.RefUpIdeal.nD Cert.RefUpIdeal.τ).loc Cert.RefUpIdeal.main_arg0) = m' ((c.tc : Thread Cert.RefUpIdeal.nD Cert.RefUpIdeal.τ).loc Cert.RefUpIdeal.main_arg0)
          ∧ r.2.mem ((c.tc : Thread Cert.RefUpIdeal.nD Cert.RefUpIdeal.τ).loc Cert.RefUpIdeal.main_arg1) = m' ((c.tc : Thread Cert.RefUpIdeal.nD Cert.RefUpIdeal.τ).loc Cert.RefUpIdeal.main_arg1)
          ∧ r.2.mem ((c.tc : Thread Cert.RefUpIdeal.nD Cert.RefUpIdeal.τ).loc Cert.RefUpIdeal.main_arg2) = m' ((c.tc : Thread Cert.RefUpIdeal.nD Cert.RefUpIdeal.τ).loc Cert.RefUpIdeal.main_arg2)
          ∧ r.2.mem ((c.tc : Thread Cert.RefUpIdeal.nD Cert.RefUpIdeal.τ).loc Cert.RefUpIdeal.main_arg3) = m' ((c.tc : Thread Cert.RefUpIdeal.nD Cert.RefUpIdeal.τ).loc Cert.RefUpIdeal.main_arg3)
          ∧ r.2.mem ((c.tc : Thread Cert.RefUpIdeal.nD Cert.RefUpIdeal.τ).loc Cert.RefUpIdeal.main_arg4) = m' ((c.tc : Thread Cert.RefUpIdeal.nD Cert.RefUpIdeal.τ).loc Cert.RefUpIdeal.main_arg4)
          ∧ r.2.mem ((c.tc : Thread Cert.RefUpIdeal.nD Cert.RefUpIdeal.τ).loc Cert.RefUpIdeal.main_arg5) = m' ((c.tc : Thread Cert.RefUpIdeal.nD Cert.RefUpIdeal.τ).loc Cert.RefUpIdeal.main_arg5))

def Claim : Prop :=
  ∃ (hSharedDown : Cert.SharedDown.Facts) (hSharedDownIdeal : Cert.SharedDownIdeal.Facts) (hRefDownIdeal : Cert.RefDownIdeal.Facts) (hSharedUp : Cert.SharedUp.Facts) (hSharedUpIdeal : Cert.SharedUpIdeal.Facts) (hRefUpIdeal : Cert.RefUpIdeal.Facts) (hPre_finite : Cert.Pre_finite.Facts),
    quiescent_SharedDown (hSharedDown := hSharedDown)
    ∧ quiescent_SharedDownIdeal (hSharedDownIdeal := hSharedDownIdeal)
    ∧ quiescent_RefDownIdeal (hRefDownIdeal := hRefDownIdeal)
    ∧ quiescent_SharedUp (hSharedUp := hSharedUp)
    ∧ quiescent_SharedUpIdeal (hSharedUpIdeal := hSharedUpIdeal)
    ∧ quiescent_SharedUpIdeal_pre_finite (hSharedUpIdeal := hSharedUpIdeal) (hPre_finite := hPre_finite)
    ∧ quiescent_RefUpIdeal (hRefUpIdeal := hRefUpIdeal)
    ∧ quiescent_RefUpIdeal_pre_finite (hRefUpIdeal := hRefUpIdeal) (hPre_finite := hPre_finite)
    ∧ preserves_SharedDown_SharedDownIdeal
    ∧ algebraic_SharedDownIdeal_RefDownIdeal (hSharedDownIdeal := hSharedDownIdeal) (hRefDownIdeal := hRefDownIdeal)
    ∧ preserves_SharedUp_SharedUpIdeal
    ∧ algebraic_SharedUpIdeal_RefUpIdeal_pre_finite (hSharedUpIdeal := hSharedUpIdeal) (hRefUpIdeal := hRefUpIdeal) (hPre_finite := hPre_finite)
-- ==== Pre_finite.lean ====
abbrev S4096x3584 : Shape := ⟨2, ![4096, 3584]⟩
abbrev S4096x128 : Shape := ⟨2, ![4096, 128]⟩
abbrev S3584x40960 : Shape := ⟨2, ![3584, 40960]⟩
abbrev S40960 : Shape := ⟨1, ![40960]⟩
abbrev S20480 : Shape := ⟨1, ![20480]⟩
abbrev S64x64 : Shape := ⟨2, ![64, 64]⟩
abbrev S4096x1 : Shape := ⟨2, ![4096, 1]⟩
abbrev S_ : Shape := ⟨0, ![]⟩

class Facts : Prop where
  slices_S4096x128_S4096x1_0_0 : S4096x128.Slices ![0, 0] S4096x1
  bcast_S_S4096x1 : S_.BroadcastsInDim S4096x1 (![] : Fin 0 → Fin S4096x1.rank)
  bcast_S_S40960 : S_.BroadcastsInDim S40960 (![] : Fin 0 → Fin S40960.rank)
  bcast_S_S20480 : S_.BroadcastsInDim S20480 (![] : Fin 0 → Fin S20480.rank)
  bcast_S_S64x64 : S_.BroadcastsInDim S64x64 (![] : Fin 0 → Fin S64x64.rank)

variable [Facts]

def fn {F : FTy → Type} [FloatOps F] (main_arg0 : IVec S4096x3584 8) (main_arg1 : FVec F S4096x128 .f32) (main_arg2 : IVec S3584x40960 8) (main_arg3 : FVec F S40960 .f32) (main_arg4 : FVec F S20480 .f32) (main_arg5 : FVec F S64x64 .f32) : IVec S4096x1 1 × IVec S40960 1 × IVec S20480 1 × IVec S64x64 1 :=
  let main_v0 : FVec F S4096x1 .f32 := (extractStridedSlice S4096x1 ![0, 0] · slices_S4096x128_S4096x1_0_0) main_arg1
  let main_v1 : FVec F S4096x1 .f32 := Host.absf main_v0
  let main_cst : FVec F S_ .f32 := constant S_ .f32 0x7F800000#32
  let main_v2 : FVec F S4096x1 .f32 := broadcastInDim S4096x1 ![] bcast_S_S4096x1 main_cst
  let main_v3 : IVec S4096x1 1 := cmpf .olt main_v1 main_v2
  let main_v4 : FVec F S40960 .f32 := Host.absf main_arg3
  let main_cst_0 : FVec F S_ .f32 := constant S_ .f32 0x7F800000#32
  let main_v5 : FVec F S40960 .f32 := broadcastInDim S40960 ![] bcast_S_S40960 main_cst_0
  let main_v6 : IVec S40960 1 := cmpf .olt main_v4 main_v5
  let main_v7 : FVec F S20480 .f32 := Host.absf main_arg4
  let main_cst_1 : FVec F S_ .f32 := constant S_ .f32 0x7F800000#32
  let main_v8 : FVec F S20480 .f32 := broadcastInDim S20480 ![] bcast_S_S20480 main_cst_1
  let main_v9 : IVec S20480 1 := cmpf .olt main_v7 main_v8
  let main_v10 : FVec F S64x64 .f32 := Host.absf main_arg5
  let main_cst_2 : FVec F S_ .f32 := constant S_ .f32 0x7F800000#32
  let main_v11 : FVec F S64x64 .f32 := broadcastInDim S64x64 ![] bcast_S_S64x64 main_cst_2
  let main_v12 : IVec S64x64 1 := cmpf .olt main_v10 main_v11
  (main_v3, main_v6, main_v9, main_v12)
-- ==== SharedDown.lean ====
abbrev S4096x20480 : Shape := ⟨2, ![4096, 20480]⟩
abbrev S4096x128 : Shape := ⟨2, ![4096, 128]⟩
abbrev S20480x3584 : Shape := ⟨2, ![20480, 3584]⟩
abbrev S3584 : Shape := ⟨1, ![3584]⟩
abbrev S1x3584 : Shape := ⟨2, ![1, 3584]⟩
abbrev S4096x3584 : Shape := ⟨2, ![4096, 3584]⟩
abbrev S1024x1024 : Shape := ⟨2, ![1024, 1024]⟩
abbrev S1024x128 : Shape := ⟨2, ![1024, 128]⟩
abbrev S1024x3584 : Shape := ⟨2, ![1024, 3584]⟩
abbrev S1024x1 : Shape := ⟨2, ![1024, 1]⟩

abbrev nBuf : Space → Nat
  | .hbm => 7
  | .vmem => 11
  | .smem => 0
  | _ => 0

abbrev bufTy : (tb : Table) → Fin (tcTables nBuf tb) → BufTy
  | .hbm, ⟨0, _⟩ => ⟨S4096x20480, .f32⟩
  | .hbm, ⟨1, _⟩ => ⟨S4096x128, .f32⟩
  | .hbm, ⟨2, _⟩ => ⟨S20480x3584, .i8⟩
  | .hbm, ⟨3, _⟩ => ⟨S3584, .f32⟩
  | .hbm, ⟨4, _⟩ => ⟨S1x3584, .f32⟩
  | .hbm, ⟨5, _⟩ => ⟨S4096x20480, .i8⟩
  | .hbm, ⟨6, _⟩ => ⟨S4096x3584, .f32⟩
  | .local _ .vmem, ⟨0, _⟩ => ⟨S1024x1024, .f32⟩
  | .local _ .vmem, ⟨1, _⟩ => ⟨S1024x1024, .f32⟩
  | .local _ .vmem, ⟨2, _⟩ => ⟨S1024x128, .f32⟩
  | .local _ .vmem, ⟨3, _⟩ => ⟨S1024x128, .f32⟩
  | .local _ .vmem, ⟨4, _⟩ => ⟨S1024x3584, .i8⟩
  | .local _ .vmem, ⟨5, _⟩ => ⟨S1024x3584, .i8⟩
  | .local _ .vmem, ⟨6, _⟩ => ⟨S1x3584, .f32⟩
  | .local _ .vmem, ⟨7, _⟩ => ⟨S1024x1024, .i8⟩
  | .local _ .vmem, ⟨8, _⟩ => ⟨S1024x1024, .i8⟩
  | .local _ .vmem, ⟨9, _⟩ => ⟨S1024x3584, .f32⟩
  | .local _ .vmem, ⟨10, _⟩ => ⟨S1024x3584, .f32⟩
  | _, _ => ⟨S4096x20480, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 20], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x3584 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x3584 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== RefDownIdeal.lean ====
abbrev S4096x20480 : Shape := ⟨2, ![4096, 20480]⟩
abbrev S4096x128 : Shape := ⟨2, ![4096, 128]⟩
abbrev S20480x3584 : Shape := ⟨2, ![20480, 3584]⟩
abbrev S3584 : Shape := ⟨1, ![3584]⟩
abbrev S4096x3584 : Shape := ⟨2, ![4096, 3584]⟩
abbrev S4096x1 : Shape := ⟨2, ![4096, 1]⟩
abbrev S1x3584 : Shape := ⟨2, ![1, 3584]⟩

abbrev nBuf : Space → Nat
  | .hbm => 6
  | .vmem => 6
  | .smem => 0
  | _ => 0

abbrev bufTy : (tb : Table) → Fin (tcTables nBuf tb) → BufTy
  | .hbm, ⟨0, _⟩ => ⟨S4096x20480, .f32⟩
  | .hbm, ⟨1, _⟩ => ⟨S4096x128, .f32⟩
  | .hbm, ⟨2, _⟩ => ⟨S20480x3584, .i8⟩
  | .hbm, ⟨3, _⟩ => ⟨S3584, .f32⟩
  | .hbm, ⟨4, _⟩ => ⟨S4096x20480, .i8⟩
  | .hbm, ⟨5, _⟩ => ⟨S4096x3584, .f32⟩
  | .local _ .vmem, ⟨0, _⟩ => ⟨S4096x20480, .f32⟩
  | .local _ .vmem, ⟨1, _⟩ => ⟨S4096x128, .f32⟩
  | .local _ .vmem, ⟨2, _⟩ => ⟨S20480x3584, .i8⟩
  | .local _ .vmem, ⟨3, _⟩ => ⟨S3584, .f32⟩
  | .local _ .vmem, ⟨4, _⟩ => ⟨S4096x20480, .i8⟩
  | .local _ .vmem, ⟨5, _⟩ => ⟨S4096x3584, .f32⟩
  | _, _ => ⟨S4096x20480, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S4096x20480 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S20480x3584 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x20480 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096x3584 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== SharedUp.lean ====
abbrev S4096x3584 : Shape := ⟨2, ![4096, 3584]⟩
abbrev S4096x128 : Shape := ⟨2, ![4096, 128]⟩
abbrev S3584x40960 : Shape := ⟨2, ![3584, 40960]⟩
abbrev S40960 : Shape := ⟨1, ![40960]⟩
abbrev S20480 : Shape := ⟨1, ![20480]⟩
abbrev S64x64 : Shape := ⟨2, ![64, 64]⟩
abbrev S2x2 : Shape := ⟨2, ![2, 2]⟩
abbrev S_ : Shape := ⟨0, ![]⟩
abbrev S2x1x2x1 : Shape := ⟨4, ![2, 1, 2, 1]⟩
abbrev S1x64x1x64 : Shape := ⟨4, ![1, 64, 1, 64]⟩
abbrev S2x64x2x64 : Shape := ⟨4, ![2, 64, 2, 64]⟩
abbrev S128x128 : Shape := ⟨2, ![128, 128]⟩
abbrev S128x256 : Shape := ⟨2, ![128, 256]⟩
abbrev S256x256 : Shape := ⟨2, ![256, 256]⟩
abbrev S4x4 : Shape := ⟨2, ![4, 4]⟩
abbrev S4x1x4x1 : Shape := ⟨4, ![4, 1, 4, 1]⟩
abbrev S4x64x4x64 : Shape := ⟨4, ![4, 64, 4, 64]⟩
abbrev S512x256 : Shape := ⟨2, ![512, 256]⟩
abbrev S1x40960 : Shape := ⟨2, ![1, 40960]⟩
abbrev S1x20480 : Shape := ⟨2, ![1, 20480]⟩
abbrev S4096x20480 : Shape := ⟨2, ![4096, 20480]⟩
abbrev S3584x256 : Shape := ⟨2, ![3584, 256]⟩
abbrev S1x256 : Shape := ⟨2, ![1, 256]⟩
abbrev S4096x256 : Shape := ⟨2, ![4096, 256]⟩
abbrev S1024x128 : Shape := ⟨2, ![1024, 128]⟩
abbrev S1024x1 : Shape := ⟨2, ![1024, 1]⟩
abbrev S1024x256 : Shape := ⟨2, ![1024, 256]⟩
abbrev S1024x512 : Shape := ⟨2, ![1024, 512]⟩
abbrev S1024x3584 : Shape := ⟨2, ![1024, 3584]⟩
abbrev S1024 : Shape := ⟨1, ![1024]⟩

abbrev nBuf : Space → Nat
  | .hbm => 81
  | .vmem => 22
  | .smem => 0
  | _ => 0

abbrev bufTy : (tb : Table) → Fin (tcTables nBuf tb) → BufTy
  | .hbm, ⟨0, _⟩ => ⟨S4096x3584, .i8⟩
  | .hbm, ⟨1, _⟩ => ⟨S4096x128, .f32⟩
  | .hbm, ⟨2, _⟩ => ⟨S3584x40960, .i8⟩
  | .hbm, ⟨3, _⟩ => ⟨S40960, .f32⟩
  | .hbm, ⟨4, _⟩ => ⟨S20480, .f32⟩
  | .hbm, ⟨5, _⟩ => ⟨S64x64, .f32⟩
  | .hbm, ⟨6, _⟩ => ⟨S64x64, .bf16⟩
  | .hbm, ⟨7, _⟩ => ⟨S64x64, .f32⟩
  | .hbm, ⟨8, _⟩ => ⟨S64x64, .f32⟩
  | .hbm, ⟨9, _⟩ => ⟨S64x64, .bf16⟩
  | .hbm, ⟨10, _⟩ => ⟨S64x64, .f32⟩
  | .hbm, ⟨11, _⟩ => ⟨S64x64, .f32⟩
  | .hbm, ⟨12, _⟩ => ⟨S64x64, .bf16⟩
  | .hbm, ⟨13, _⟩ => ⟨S2x2, .i32⟩
  | .hbm, ⟨14, _⟩ => ⟨S2x2, .i32⟩
  | .hbm, ⟨15, _⟩ => ⟨S_, .i32⟩
  | .hbm, ⟨16, _⟩ => ⟨S2x2, .i32⟩
  | .hbm, ⟨17, _⟩ => ⟨S2x2, .i32⟩
  | .hbm, ⟨18, _⟩ => ⟨S2x2, .i1⟩
  | .hbm, ⟨19, _⟩ => ⟨S2x2, .f32⟩
  | .hbm, ⟨20, _⟩ => ⟨S64x64, .f32⟩
  | .hbm, ⟨21, _⟩ => ⟨S2x1x2x1, .f32⟩
  | .hbm, ⟨22, _⟩ => ⟨S1x64x1x64, .f32⟩
  | .hbm, ⟨23, _⟩ => ⟨S2x64x2x64, .f32⟩
  | .hbm, ⟨24, _⟩ => ⟨S2x64x2x64, .f32⟩
  | .hbm, ⟨25, _⟩ => ⟨S2x64x2x64, .f32⟩
  | .hbm, ⟨26, _⟩ => ⟨S128x128, .f32⟩
  | .hbm, ⟨27, _⟩ => ⟨S128x128, .bf16⟩
  | .hbm, ⟨28, _⟩ => ⟨S2x2, .i32⟩
  | .hbm, ⟨29, _⟩ => ⟨S2x2, .i32⟩
  | .hbm, ⟨30, _⟩ => ⟨S_, .i32⟩
  | .hbm, ⟨31, _⟩ => ⟨S2x2, .i32⟩
  | .hbm, ⟨32, _⟩ => ⟨S2x2, .i32⟩
  | .hbm, ⟨33, _⟩ => ⟨S2x2, .i1⟩
  | .hbm, ⟨34, _⟩ => ⟨S2x2, .f32⟩
  | .hbm, ⟨35, _⟩ => ⟨S64x64, .f32⟩
  | .hbm, ⟨36, _⟩ => ⟨S2x1x2x1, .f32⟩
  | .hbm, ⟨37, _⟩ => ⟨S1x64x1x64, .f32⟩
  | .hbm, ⟨38, _⟩ => ⟨S2x64x2x64, .f32⟩
  | .hbm, ⟨39, _⟩ => ⟨S2x64x2x64, .f32⟩
  | .hbm, ⟨40, _⟩ => ⟨S2x64x2x64, .f32⟩
  | .hbm, ⟨41, _⟩ => ⟨S128x128, .f32⟩
  | .hbm, ⟨42, _⟩ => ⟨S128x128, .bf16⟩
  | .hbm, ⟨43, _⟩ => ⟨S128x256, .bf16⟩
  | .hbm, ⟨44, _⟩ => ⟨S256x256, .bf16⟩
  | .hbm, ⟨45, _⟩ => ⟨S4x4, .i32⟩
  | .hbm, ⟨46, _⟩ => ⟨S4x4, .i32⟩
  | .hbm, ⟨47, _⟩ => ⟨S_, .i32⟩
  | .hbm, ⟨48, _⟩ => ⟨S4x4, .i32⟩
  | .hbm, ⟨49, _⟩ => ⟨S4x4, .i32⟩
  | .hbm, ⟨50, _⟩ => ⟨S4x4, .i1⟩
  | .hbm, ⟨51, _⟩ => ⟨S4x4, .f32⟩
  | .hbm, ⟨52, _⟩ => ⟨S64x64, .f32⟩
  | .hbm, ⟨53, _⟩ => ⟨S4x1x4x1, .f32⟩
  | .hbm, ⟨54, _⟩ => ⟨S1x64x1x64, .f32⟩
  | .hbm, ⟨55, _⟩ => ⟨S4x64x4x64, .f32⟩
  | .hbm, ⟨56, _⟩ => ⟨S4x64x4x64, .f32⟩
  | .hbm, ⟨57, _⟩ => ⟨S4x64x4x64, .f32⟩
  | .hbm, ⟨58, _⟩ => ⟨S256x256, .f32⟩
  | .hbm, ⟨59, _⟩ => ⟨S256x256, .bf16⟩
  | .hbm, ⟨60, _⟩ => ⟨S4x4, .i32⟩
  | .hbm, ⟨61, _⟩ => ⟨S4x4, .i32⟩
  | .hbm, ⟨62, _⟩ => ⟨S_, .i32⟩
  | .hbm, ⟨63, _⟩ => ⟨S4x4, .i32⟩
  | .hbm, ⟨64, _⟩ => ⟨S4x4, .i32⟩
  | .hbm, ⟨65, _⟩ => ⟨S4x4, .i1⟩
  | .hbm, ⟨66, _⟩ => ⟨S4x4, .f32⟩
  | .hbm, ⟨67, _⟩ => ⟨S64x64, .f32⟩
  | .hbm, ⟨68, _⟩ => ⟨S4x1x4x1, .f32⟩
  | .hbm, ⟨69, _⟩ => ⟨S1x64x1x64, .f32⟩
  | .hbm, ⟨70, _⟩ => ⟨S4x64x4x64, .f32⟩
  | .hbm, ⟨71, _⟩ => ⟨S4x64x4x64, .f32⟩
  | .hbm, ⟨72, _⟩ => ⟨S4x64x4x64, .f32⟩
  | .hbm, ⟨73, _⟩ => ⟨S256x256, .f32⟩
  | .hbm, ⟨74, _⟩ => ⟨S256x256, .bf16⟩
  | .hbm, ⟨75, _⟩ => ⟨S512x256, .bf16⟩
  | .hbm, ⟨76, _⟩ => ⟨S1x40960, .f32⟩
  | .hbm, ⟨77, _⟩ => ⟨S1x20480, .f32⟩
  | .hbm, ⟨78, _⟩ => ⟨S4096x20480, .f32⟩
  | .hbm, ⟨79, _⟩ => ⟨S4096x20480, .f32⟩
  | .hbm, ⟨80, _⟩ => ⟨S4096x128, .f32⟩
  | .local _ .vmem, ⟨0, _⟩ => ⟨S4096x3584, .i8⟩
  | .local _ .vmem, ⟨1, _⟩ => ⟨S4096x128, .f32⟩
  | .local _ .vmem, ⟨2, _⟩ => ⟨S3584x256, .i8⟩
  | .local _ .vmem, ⟨3, _⟩ => ⟨S3584x256, .i8⟩
  | .local _ .vmem, ⟨4, _⟩ => ⟨S3584x256, .i8⟩
  | .local _ .vmem, ⟨5, _⟩ => ⟨S3584x256, .i8⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S256x256, .bf16⟩
  | .local _ .vmem, ⟨13, _⟩ => ⟨S512x256, .bf16⟩
  | .local _ .vmem, ⟨14, _⟩ => ⟨S4096x256, .f32⟩
  | .local _ .vmem, ⟨15, _⟩ => ⟨S4096x256, .f32⟩
  | .local _ .vmem, ⟨16, _⟩ => ⟨S4096x256, .f32⟩
  | .local _ .vmem, ⟨17, _⟩ => ⟨S4096x256, .f32⟩
  | .local _ .vmem, ⟨18, _⟩ => ⟨S4096x128, .f32⟩
  | .local _ .vmem, ⟨19, _⟩ => ⟨S4096x256, .f32⟩
  | .local _ .vmem, ⟨20, _⟩ => ⟨S4096x256, .f32⟩
  | .local _ .vmem, ⟨21, _⟩ => ⟨S4096x128, .f32⟩
  | _, _ => ⟨S4096x3584, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_0 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_1 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_c_2 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_call3_v0 : Ref sig .tc := ⟨.hbm, 68, rfl⟩
abbrev main_call3_v1 : Ref sig .tc := ⟨.hbm, 69, rfl⟩
abbrev main_call3_v2 : Ref sig .tc := ⟨.hbm, 70, rfl⟩
abbrev main_call3_v3 : Ref sig .tc := ⟨.hbm, 71, rfl⟩
abbrev main_call3_v4 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48_0 : Ref sig .tc := ⟨.hbm, 78, rfl⟩
abbrev main_v48_1 : Ref sig .tc := ⟨.hbm, 79, rfl⟩
abbrev main_v48_2 : Ref sig .tc := ⟨.hbm, 80, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18

abbrev nD : Nat := 1
abbrev τ : Topo := Topo.v7x

variable {F : FTy → Type} [FloatOps F]

abbrev grid0 : Pipeline.Grid := ⟨1, ![81], ![false]⟩

def k0_cond2 (i : grid0.Coords) : BitVec 1 :=
  let arg0 : BitVec 32 := BitVec.ofNat 32 (i 0).val
  let c80_i32 : BitVec 32 := 80#32
  let v3 : BitVec 1 := Scalar.cmpi .slt arg0 c80_i32
  let v4 : BitVec 32 := Scalar.extui v3
  let c0_i32_1 : BitVec 32 := 0#32
  let v5 : BitVec 1 := Scalar.cmpi .ne v4 c0_i32_1
  v5

@[reducible] def k0_t1_loop : Scf.Loop 32 :=
  let c0_i32_4 : BitVec 32 := 0#32
  let c4_i32 : BitVec 32 := 4#32
  let v9 : BitVec 32 := Scalar.addi c0_i32_4 c4_i32
  let c1_i32 : BitVec 32 := 1#32
  ⟨c0_i32_4, v9, c1_i32⟩
def k0_mult1 (k0_t1 : Fin k0_t1_loop.trips) : BitVec 32 :=
  let c0_i32_4 : BitVec 32 := 0#32
  let c1_i32 : BitVec 32 := 1#32
  let arg16 : BitVec 32 := Scf.iv c0_i32_4 c1_i32 k0_t1
  let c1024_i32 : BitVec 32 := 1024#32
  let v10 : BitVec 32 := Scalar.muli arg16 c1024_i32
  v10
def k0_off1 (k0_t1 : Fin k0_t1_loop.trips) : Fin 2 → Nat :=
  let c0_i32_4 : BitVec 32 := 0#32
  let c1_i32 : BitVec 32 := 1#32
  let arg16 : BitVec 32 := Scf.iv c0_i32_4 c1_i32 k0_t1
  let c1024_i32 : BitVec 32 := 1024#32
  let v10 : BitVec 32 := Scalar.muli arg16 c1024_i32
  let v11 : BitVec 32 := v10
  let v12 : Index := Scalar.indexCast v11
  let c0 : Index := 0#32
  ![v12.toNat, 0]
def k0_off2 (k0_t1 : Fin k0_t1_loop.trips) : Fin 2 → Nat :=
  let c0_i32_4 : BitVec 32 := 0#32
  let c1_i32 : BitVec 32 := 1#32
  let arg16 : BitVec 32 := Scf.iv c0_i32_4 c1_i32 k0_t1
  let c1024_i32 : BitVec 32 := 1024#32
  let v10 : BitVec 32 := Scalar.muli arg16 c1024_i32
  let v11 : BitVec 32 := v10
  let v15 : Index := Scalar.indexCast v11
  let c0_6 : Index := 0#32
  ![v15.toNat, 0]
def k0_mult2 (k0_t1 : Fin k0_t1_loop.trips) : BitVec 32 :=
  let c0_i32_4 : BitVec 32 := 0#32
  let c1_i32 : BitVec 32 := 1#32
  let arg16 : BitVec 32 := Scf.iv c0_i32_4 c1_i32 k0_t1
  let c1024_i32_26 : BitVec 32 := 1024#32
  let v88 : BitVec 32 := Scalar.muli arg16 c1024_i32_26
  v88
def k0_off3 (k0_t1 : Fin k0_t1_loop.trips) : Fin 2 → Nat :=
  let c0_i32_4 : BitVec 32 := 0#32
  let c1_i32 : BitVec 32 := 1#32
  let arg16 : BitVec 32 := Scf.iv c0_i32_4 c1_i32 k0_t1
  let c1024_i32_26 : BitVec 32 := 1024#32
  let v88 : BitVec 32 := Scalar.muli arg16 c1024_i32_26
  let v89 : BitVec 32 := v88
  let v90 : Index := Scalar.indexCast v89
  let c0_27 : Index := 0#32
  ![v90.toNat, 0]
def k0_cond3 (i : grid0.Coords) : BitVec 1 :=
  let arg0 : BitVec 32 := BitVec.ofNat 32 (i 0).val
  let c80_i32_2 : BitVec 32 := 80#32
  let v6 : BitVec 1 := Scalar.cmpi .eq arg0 c80_i32_2
  let v7 : BitVec 32 := Scalar.extui v6
  let c0_i32_3 : BitVec 32 := 0#32
  let v8 : BitVec 1 := Scalar.cmpi .ne v7 c0_i32_3
  v8

@[reducible] def k0_t2_loop : Scf.Loop 32 :=
  let c0_i32_4 : BitVec 32 := 0#32
  let c4_i32 : BitVec 32 := 4#32
  let v9 : BitVec 32 := Scalar.addi c0_i32_4 c4_i32
  let c1_i32 : BitVec 32 := 1#32
  ⟨c0_i32_4, v9, c1_i32⟩
def k0_mult3 (k0_t2 : Fin k0_t2_loop.trips) : BitVec 32 :=
  let c0_i32_4 : BitVec 32 := 0#32
  let c1_i32 : BitVec 32 := 1#32
  let arg16 : BitVec 32 := Scf.iv c0_i32_4 c1_i32 k0_t2
  let c1024_i32 : BitVec 32 := 1024#32
  let v10 : BitVec 32 := Scalar.muli arg16 c1024_i32
  v10
def k0_off4 (k0_t2 : Fin k0_t2_loop.trips) : Fin 2 → Nat :=
  let c0_i32_4 : BitVec 32 := 0#32
  let c1_i32 : BitVec 32 := 1#32
  let arg16 : BitVec 32 := Scf.iv c0_i32_4 c1_i32 k0_t2
  let c1024_i32 : BitVec 32 := 1024#32
  let v10 : BitVec 32 := Scalar.muli arg16 c1024_i32
  let v11 : BitVec 32 := v10
  let v12 : Index := Scalar.indexCast v11
  let c0 : Index := 0#32
  ![v12.toNat, 0]
def k0_off5 (k0_t2 : Fin k0_t2_loop.trips) : Fin 2 → Nat :=
  let c0_i32_4 : BitVec 32 := 0#32
  let c1_i32 : BitVec 32 := 1#32
  let arg16 : BitVec 32 := Scf.iv c0_i32_4 c1_i32 k0_t2
  let c1024_i32 : BitVec 32 := 1024#32
  let v10 : BitVec 32 := Scalar.muli arg16 c1024_i32
  let v11 : BitVec 32 := v10
  let v15 : Index := Scalar.indexCast v11
  let c0_6 : Index := 0#32
  ![v15.toNat, 0]
def k0_mult4 (k0_t2 : Fin k0_t2_loop.trips) : BitVec 32 :=
  let c0_i32_4 : BitVec 32 := 0#32
  let c1_i32 : BitVec 32 := 1#32
  let arg16 : BitVec 32 := Scf.iv c0_i32_4 c1_i32 k0_t2
  let c1024_i32_26 : BitVec 32 := 1024#32
  let v88 : BitVec 32 := Scalar.muli arg16 c1024_i32_26
  v88
def k0_mult5 (k0_t2 : Fin k0_t2_loop.trips) : BitVec 32 :=
  let c0_i32_4 : BitVec 32 := 0#32
  let c1_i32 : BitVec 32 := 1#32
  let arg16 : BitVec 32 := Scf.iv c0_i32_4 c1_i32 k0_t2
  let c1024_i32_32 : BitVec 32 := 1024#32
  let v102 : BitVec 32 := Scalar.muli arg16 c1024_i32_32
  v102
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c79_i32 : BitVec 32 := 79#32
  let v0 : BitVec 32 := Scalar.minsi arg0 c79_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c79_i32 : BitVec 32 := 79#32
  let v0 : BitVec 32 := Scalar.minsi arg0 c79_i32
  let c80_i32 : BitVec 32 := 80#32
  let v1 : BitVec 32 := Scalar.addi v0 c80_i32
  let c0_i32 : BitVec 32 := 0#32
  let c0_i32_0 : BitVec 32 := 0#32
  ![c0_i32.toNat, v1.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c80_i32 : BitVec 32 := 80#32
  let v2 : BitVec 32 := Scalar.addi v1 c80_i32
  let c0_i32_0 : BitVec 32 := 0#32
  let c0_i32_1 : BitVec 32 := 0#32
  ![c0_i32_0.toNat, v2.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_10 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x3584 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S3584x256 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3584x256 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4096x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4096x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S4096x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== RefUpIdeal.lean ====
abbrev S4096x3584 : Shape := ⟨2, ![4096, 3584]⟩
abbrev S4096x128 : Shape := ⟨2, ![4096, 128]⟩
abbrev S3584x40960 : Shape := ⟨2, ![3584, 40960]⟩
abbrev S40960 : Shape := ⟨1, ![40960]⟩
abbrev S20480 : Shape := ⟨1, ![20480]⟩
abbrev S64x64 : Shape := ⟨2, ![64, 64]⟩
abbrev S4096x20480 : Shape := ⟨2, ![4096, 20480]⟩
abbrev S4096x40960 : Shape := ⟨2, ![4096, 40960]⟩
abbrev S4096x1 : Shape := ⟨2, ![4096, 1]⟩
abbrev S1x40960 : Shape := ⟨2, ![1, 40960]⟩
abbrev S1x20480 : Shape := ⟨2, ![1, 20480]⟩
abbrev S4096x320x64 : Shape := ⟨3, ![4096, 320, 64]⟩
abbrev S4096 : Shape := ⟨1, ![4096]⟩

abbrev nBuf : Space → Nat
  | .hbm => 9
  | .vmem => 9
  | .smem => 0
  | _ => 0

abbrev bufTy : (tb : Table) → Fin (tcTables nBuf tb) → BufTy
  | .hbm, ⟨0, _⟩ => ⟨S4096x3584, .i8⟩
  | .hbm, ⟨1, _⟩ => ⟨S4096x128, .f32⟩
  | .hbm, ⟨2, _⟩ => ⟨S3584x40960, .i8⟩
  | .hbm, ⟨3, _⟩ => ⟨S40960, .f32⟩
  | .hbm, ⟨4, _⟩ => ⟨S20480, .f32⟩
  | .hbm, ⟨5, _⟩ => ⟨S64x64, .f32⟩
  | .hbm, ⟨6, _⟩ => ⟨S4096x20480, .f32⟩
  | .hbm, ⟨7, _⟩ => ⟨S4096x20480, .f32⟩
  | .hbm, ⟨8, _⟩ => ⟨S4096x128, .f32⟩
  | .local _ .vmem, ⟨0, _⟩ => ⟨S4096x3584, .i8⟩
  | .local _ .vmem, ⟨1, _⟩ => ⟨S4096x128, .f32⟩
  | .local _ .vmem, ⟨2, _⟩ => ⟨S3584x40960, .i8⟩
  | .local _ .vmem, ⟨3, _⟩ => ⟨S40960, .f32⟩
  | .local _ .vmem, ⟨4, _⟩ => ⟨S20480, .f32⟩
  | .local _ .vmem, ⟨5, _⟩ => ⟨S64x64, .f32⟩
  | .local _ .vmem, ⟨6, _⟩ => ⟨S4096x20480, .f32⟩
  | .local _ .vmem, ⟨7, _⟩ => ⟨S4096x20480, .f32⟩
  | .local _ .vmem, ⟨8, _⟩ => ⟨S4096x128, .f32⟩
  | _, _ => ⟨S4096x3584, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S4096x3584 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3584x40960 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S40960 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S20480 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4096x20480 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4096x20480 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4096x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.Down.Block.lean ====
/- What one grid point of the shared down-projection leaves in its two output blocks, as functions of the
   point's input blocks and of what the point before left. -/
module

public import proofs.«01_k».proof.Proof.Gen.SharedDownIdeal.Value
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.SharedDownIdeal.Block

open Cert.SharedDownIdeal Cert.SharedDownIdeal.Gen

variable {F : FTy → Type} [FloatOps F]

theorem hz : (![0, 0] : Fin 2 → Nat) = fun _ => 0 := funext fun a => by fin_cases a <;> rfl

variable (c : Dev nD) (i : grid0.Coords)
  (a2 : Memref sig .tc .vmem S1024x1024 .f32) (h2 : a2.IsWhole) (a3 : Memref sig .tc .vmem S1024x128 .f32) (h3 : a3.IsWhole)
  (a4 : Memref sig .tc .vmem S1024x3584 .i8) (h4 : a4.IsWhole) (a5 : Memref sig .tc .vmem S1x3584 .f32) (h5 : a5.IsWhole)
  (a6 : Memref sig .tc .vmem S1024x1024 .i8) (h6 : a6.IsWhole) (a7 : Memref sig .tc .vmem S1024x3584 .f32) (h7 : a7.IsWhole)
  (x0 : Vec F S1024x1024 .f32) (x1 : Vec F S1024x128 .f32) (x2 : Vec F S1024x3584 .i8) (x3 : Vec F S1x3584 .f32)
  (xo : Vec F S1024x3584 .f32)

/-- At a first inner point the codes block is the quantised input block. -/
theorem codes_A (hc0 : cond0_0 i) (hc1 : ¬cond0_1 i) :
    out0_A_4 c i a2 h2 a3 h3 a4 h4 a5 h5 a6 h6 a7 h7 hc0 hc1 x0 x1 x2 x3 = k0_pay4 x1 x0 := by
  unfold out0_A_4
  rw [View.read_writes_eq_canon _ _ _ (cover0_A_4 c i a2 h2 a3 h3 a4 h4 a5 h5 a6 h6 a7 h7 hc0 hc1 x0 x1 x2 x3)]
  unfold kernelRun0_A
  dsimp only
  sl_unfold_words
  rw [View.canon_unit_zero (S := S1024x1024) hz]
  simp only [View.readAt_eq_ld, h2.read_unread, h3.read_unread, View.ld_unit_zero (S := S1024x1024) hz,
    View.ld_unit_zero (S := S1024x128) hz]

/-- At a middle inner point likewise. -/
theorem codes_B (hc0 : ¬cond0_0 i) (hc1 : ¬cond0_1 i) :
    out0_B_4 c i a2 h2 a3 h3 a4 h4 a5 h5 a6 h6 a7 h7 hc0 hc1 x0 x1 x2 x3 xo = k0_pay4 x1 x0 := by
  unfold out0_B_4
  rw [View.read_writes_eq_canon _ _ _ (cover0_B_4 c i a2 h2 a3 h3 a4 h4 a5 h5 a6 h6 a7 h7 hc0 hc1 x0 x1 x2 x3 xo)]
  unfold kernelRun0_B
  dsimp only
  sl_unfold_words
  rw [View.canon_unit_zero (S := S1024x1024) hz]
  simp only [View.readAt_eq_ld, h2.read_unread, h3.read_unread, View.ld_unit_zero (S := S1024x1024) hz,
    View.ld_unit_zero (S := S1024x128) hz]

/-- At a last inner point likewise. -/
theorem codes_C (hc0 : ¬cond0_0 i) (hc1 : cond0_1 i) :
    out0_C_4 c i a2 h2 a3 h3 a4 h4 a5 h5 a6 h6 a7 h7 hc0 hc1 x0 x1 x2 x3 xo = k0_pay4 x1 x0 := by
  unfold out0_C_4
  rw [View.read_writes_eq_canon _ _ _ (cover0_C_4 c i a2 h2 a3 h3 a4 h4 a5 h5 a6 h6 a7 h7 hc0 hc1 x0 x1 x2 x3 xo)]
  unfold kernelRun0_C
  dsimp only
  sl_unfold_words
  rw [View.canon_unit_zero (S := S1024x1024) hz]
  simp only [View.readAt_eq_ld, h2.read_unread, h3.read_unread, View.ld_unit_zero (S := S1024x1024) hz,
    View.ld_unit_zero (S := S1024x128) hz]

/-- A first inner point adds its product to the zero block. -/
theorem acc_A (hc0 : cond0_0 i) (hc1 : ¬cond0_1 i) :
    out0_A_5 c i a2 h2 a3 h3 a4 h4 a5 h5 a6 h6 a7 h7 hc0 hc1 x0 x1 x2 x3 = k0_pay5 x1 x0 k0_pay1 x2 := by
  unfold out0_A_5
  rw [View.read_writes_eq_canon _ _ _ (cover0_A_5 c i a2 h2 a3 h3 a4 h4 a5 h5 a6 h6 a7 h7 hc0 hc1 x0 x1 x2 x3)]
  unfold kernelRun0_A
  dsimp only
  sl_unfold_words
  rw [View.canon_cons_unit_zero (S := S1024x3584) hz, View.readCov_unit_zero (S := S1024x3584) _ hz]
  simp only [View.readAt_eq_ld, h2.read_unread, h3.read_unread, h4.read_unread, View.ld_unit_zero (S := S1024x1024) hz,
    View.ld_unit_zero (S := S1024x128) hz, View.ld_unit_zero (S := S1024x3584) hz]

/-- A middle inner point adds its product to what the point before left. -/
theorem acc_B (hc0 : ¬cond0_0 i) (hc1 : ¬cond0_1 i) :
    out0_B_5 c i a2 h2 a3 h3 a4 h4 a5 h5 a6 h6 a7 h7 hc0 hc1 x0 x1 x2 x3 xo = k0_pay5 x1 x0 xo x2 := by
  unfold out0_B_5
  rw [View.read_writes_eq_canon _ _ _ (cover0_B_5 c i a2 h2 a3 h3 a4 h4 a5 h5 a6 h6 a7 h7 hc0 hc1 x0 x1 x2 x3 xo)]
  unfold kernelRun0_B
  dsimp only
  sl_unfold_words
  rw [View.canon_unit_zero (S := S1024x3584) hz]
  simp only [View.readAt_eq_ld, h2.read_unread, h3.read_unread, h4.read_unread, h7.read_unread, View.ld_unit_zero (S := S1024x1024) hz,
    View.ld_unit_zero (S := S1024x128) hz, View.ld_unit_zero (S := S1024x3584) hz]

/-- A last inner point adds its product, then multiplies by the two scales. -/
theorem acc_C (hc0 : ¬cond0_0 i) (hc1 : cond0_1 i) :
    out0_C_5 c i a2 h2 a3 h3 a4 h4 a5 h5 a6 h6 a7 h7 hc0 hc1 x0 x1 x2 x3 xo = k0_pay6 x1 (k0_pay5 x1 x0 xo x2) x3 := by
  unfold out0_C_5
  rw [View.read_writes_eq_canon _ _ _ (cover0_C_5 c i a2 h2 a3 h3 a4 h4 a5 h5 a6 h6 a7 h7 hc0 hc1 x0 x1 x2 x3 xo)]
  unfold kernelRun0_C
  dsimp only
  sl_unfold_words
  rw [View.canon_cons_unit_zero (S := S1024x3584) hz, View.readCov_unit_zero (S := S1024x3584) _ hz]
  simp only [View.readAt_eq_ld, h2.read_unread, h3.read_unread, h4.read_unread, h5.read_unread, h7.read_unread, View.ld_unit_zero (S := S1024x1024) hz,
    View.ld_unit_zero (S := S1024x128) hz, View.ld_unit_zero (S := S1024x3584) hz, View.ld_unit_zero (S := S1x3584) hz]

end Cert.SharedDownIdeal.Block

end
-- ==== Proof.Quant.lean ====
/- The symmetric eight-bit quantiser over the extended reals: a value divided by its row's scale, rounded to the
   nearest integer (ties to even) and clipped to [-127, 127]. The clipped value IS an integer, so writing it as an
   eight-bit word and reading the word back changes nothing. -/
module

public import Idealize.ShloMosaic.Lib.Pointwise

@[expose] public section

noncomputable section

open Idealize.ShloMosaic

namespace Cert.Quant

/-- The clipped rounding of `v / s`. -/
def code (v s : EReal) : EReal :=
  min ((127 : ℝ) : EReal) (max ((-127 : ℝ) : EReal) (Ideal.liftRound Ideal.roundHalfEven (Ideal.div v s)))

/-- The eight-bit word of the clipped rounding. -/
def word (v s : EReal) : BitVec 8 := Ideal.fptosi 8 (code v s)

/-- The constant `127` of the clip. -/
theorem bits_127 : Ideal.ofBits .f32 0x42FE0000#32 = ((127 : ℝ) : EReal) := by
  simp [Ideal.ofBits, Ideal.ieee, -EReal.coe_mul]; norm_num

/-- The constant `-127` of the clip. -/
theorem bits_neg127 : Ideal.ofBits .f32 0xC2FE0000#32 = ((-127 : ℝ) : EReal) := by
  simp [Ideal.ofBits, Ideal.ieee, -EReal.coe_mul]; norm_num

/-- A rounded, clipped value is an integer of at most 127 in magnitude. -/
theorem exists_int (f : ℝ → ℤ) (x : EReal) : ∃ n : ℤ, -127 ≤ n ∧ n ≤ 127 ∧
    min ((127 : ℝ) : EReal) (max ((-127 : ℝ) : EReal) (Ideal.liftRound f x)) = ((n : ℝ) : EReal) := by
  induction x with
  | bot => exact ⟨-127, by decide, by decide, by
      show min _ (max _ (⊥ : EReal)) = _
      rw [max_eq_left bot_le, ← EReal.coe_strictMono.monotone.map_min]; norm_num⟩
  | top => exact ⟨127, by decide, by decide, by
      show min _ (max _ (⊤ : EReal)) = _
      rw [max_eq_right le_top, min_eq_left le_top]; norm_num⟩
  | coe r =>
    refine ⟨min 127 (max (-127) (f r)), by omega, by omega, ?_⟩
    show min _ (max _ (((f r : ℝ)) : EReal)) = _
    rw [← EReal.coe_strictMono.monotone.map_max, ← EReal.coe_strictMono.monotone.map_min]
    push_cast
    rfl

/-- An integer of at most 127 in magnitude survives the eight-bit word. -/
theorem toInt_fptosi {n : ℤ} (h1 : -127 ≤ n) (h2 : n ≤ 127) : (Ideal.fptosi 8 ((n : ℝ) : EReal)).toInt = n := by
  have h : Ideal.toIntClamped (-(2 ^ (8 - 1) : Nat)) ((2 ^ (8 - 1) : Nat) - 1) ((n : ℝ) : EReal) = n := by
    rw [Ideal.toIntClamped_coe, Int.floor_intCast, Int.ceil_intCast, ite_self]
    norm_num; omega
  rw [Ideal.fptosi, h, BitVec.toInt_ofInt, Int.bmod_def]
  norm_num; omega

/-- So the word read back as a number is the clipped rounding itself. -/
theorem toInt_word (v s : EReal) : (((word v s).toInt : ℝ) : EReal) = code v s := by
  obtain ⟨n, h1, h2, h⟩ := exists_int Ideal.roundHalfEven (Ideal.div v s)
  unfold word code
  rw [h, toInt_fptosi h1 h2]

end Cert.Quant

end
-- ==== Proof.Down.Pay.lean ====
/- The values one point of the shared down-projection computes, entry by entry over the extended reals. -/
module

public import proofs.«01_k».proof.Proof.Gen.SharedDownIdeal.Value
public import proofs.«01_k».proof.Proof.Quant

@[expose] public section

set_option maxRecDepth 16384

noncomputable section

open Idealize.ShloMosaic Idealize.ShloMosaic.TcCoe Idealize.SL.Sem

namespace Cert.SharedDownIdeal.Pay

open Cert.SharedDownIdeal Cert.SharedDownIdeal.Gen Cert.Quant

variable (s : Vec Ideal S1024x128 .f32) (x : Vec Ideal S1024x1024 .f32) (acc : Vec Ideal S1024x3584 .f32)
  (w : Vec Ideal S1024x3584 .i8) (ws : Vec Ideal S1x3584 .f32)

/-- The clipped rounding of an entry over its row's scale. -/
theorem pay3 (r k : Fin 1024) : k0_pay3 s x (ix2 r k) = code (x (ix2 r k)) (s (ix2 r 0)) := by
  pointwise [k0_pay3, k0_pay2]
  rw [bits_127, bits_neg127]
  rfl

/-- The code stored for an entry. -/
theorem pay4 (r k : Fin 1024) : k0_pay4 s x (ix2 r k) = word (x (ix2 r k)) (s (ix2 r 0)) := by
  show Ideal.fptosi 8 (k0_pay3 s x (ix2 r k)) = _
  rw [pay3]; rfl

/-- The zero block. -/
theorem pay1 (r : Fin 1024) (l : Fin 3584) : k0_pay1 (F := Ideal) (ix2 r l) = 0 := by
  pointwise [k0_pay1]

/-- One accumulation step. -/
theorem pay5 (r : Fin 1024) (l : Fin 3584) : k0_pay5 s x acc w (ix2 r l)
    = acc (ix2 r l) + ∑ k : Fin 1024, code (x (ix2 r k)) (s (ix2 r 0)) * (((w (ix2 k l)).toInt : ℝ) : EReal) := by
  have h := fun k => pay3 s x r k
  generalize hq : k0_pay3 s x = q at h
  unfold k0_pay5
  rw [hq]
  pointwise []
  exact congrArg _ (Finset.sum_congr rfl fun k _ => by rw [h]; rfl)

/-- The two scale multiplications. -/
theorem pay6 (r : Fin 1024) (l : Fin 3584) : k0_pay6 s acc ws (ix2 r l) = acc (ix2 r l) * s (ix2 r 0) * ws (ix2 0 l) := by
  pointwise [k0_pay6, k0_pay2]

end Cert.SharedDownIdeal.Pay

end
-- ==== Proof.Down.Step.lean ====
/- The blocks of the shared down-projection's points, read off the argument arrays, and the running sum that its
   output block holds after each point. -/
module

public import proofs.«01_k».proof.Proof.Down.Block
public import proofs.«01_k».proof.Proof.Down.Pay

@[expose] public section

set_option maxRecDepth 16384

noncomputable section

open Idealize.ShloMosaic Idealize.ShloMosaic.TcCoe Idealize.SL.Sem
open Idealize.ShloMosaic.Pipeline (Dat)

namespace Cert.SharedDownIdeal.Step

open Cert.SharedDownIdeal Cert.SharedDownIdeal.Gen Cert.Quant

variable (m : (ℓ : Loc nD τ sig) → Buf (Elt Ideal) ℓ)

/-- The rotated activations, as launched. -/
abbrev a0 (c : Dev nD) : Vec Ideal S4096x20480 .f32 := m ((c : Thread nD τ).loc main_arg0)
/-- Their row scales. -/
abbrev a1 (c : Dev nD) : Vec Ideal S4096x128 .f32 := m ((c : Thread nD τ).loc main_arg1)
/-- The weight codes. -/
abbrev a2 (c : Dev nD) : Vec Ideal S20480x3584 .i8 := m ((c : Thread nD τ).loc main_arg2)
/-- The weight scales. -/
abbrev a3 (c : Dev nD) : Vec Ideal S3584 .f32 := m ((c : Thread nD τ).loc main_arg3)

/-- The row of the array that row `r` of point `t`'s blocks is. -/
abbrev row (t : Fin cfg0.N) (r : Fin 1024) : Fin 4096 :=
  ⟨1024 * (t.val / 20) + r.val, by have h : t.val < 80 := lt_of_lt_of_eq t.isLt N_0; have := r.isLt; omega⟩

/-- The inner position that position `k` of point `t`'s blocks is. -/
abbrev col (t : Fin cfg0.N) (k : Fin 1024) : Fin 20480 :=
  ⟨1024 * (t.val % 20) + k.val, by have := k.isLt; omega⟩

theorem idx0 : ∀ t : Fin cfg0.N, win0_0.index t 0 = t.val / 20 ∧ win0_0.index t 1 = t.val % 20 :=
  (by decide +kernel : ∀ t : Fin grid0.N, win0_0.index t 0 = t.val / 20 ∧ win0_0.index t 1 = t.val % 20)
theorem idx1 : ∀ t : Fin cfg0.N, win0_1.index t 0 = t.val / 20 ∧ win0_1.index t 1 = 0 :=
  (by decide +kernel : ∀ t : Fin grid0.N, win0_1.index t 0 = t.val / 20 ∧ win0_1.index t 1 = 0)
theorem idx2 : ∀ t : Fin cfg0.N, win0_2.index t 0 = t.val % 20 ∧ win0_2.index t 1 = 0 :=
  (by decide +kernel : ∀ t : Fin grid0.N, win0_2.index t 0 = t.val % 20 ∧ win0_2.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)
theorem idx4 : ∀ t : Fin cfg0.N, win0_4.index t 0 = t.val / 20 ∧ win0_4.index t 1 = t.val % 20 :=
  (by decide +kernel : ∀ t : Fin grid0.N, win0_4.index t 0 = t.val / 20 ∧ win0_4.index t 1 = t.val % 20)
theorem idx5 : ∀ t : Fin cfg0.N, win0_5.index t 0 = t.val / 20 ∧ win0_5.index t 1 = 0 :=
  (by decide +kernel : ∀ t : Fin grid0.N, win0_5.index t 0 = t.val / 20 ∧ win0_5.index t 1 = 0)

/-- Point `t`'s block of the activations. -/
theorem blk0 (c : Dev nD) (t : Fin cfg0.N) (r k : Fin 1024) :
    (iblk m c 0 t : Vec Ideal S1024x1024 .f32) (ix2 r k) = a0 m c (ix2 (row t r) (col t k)) := by
  have hi := idx0 t
  unfold iblk
  rw [View.read_apply]
  show V m c main_arg0 _ = _
  rw [V_main_arg0]
  congr 1
  funext a
  apply Fin.ext
  match a with
  | ⟨0, _⟩ => show win0_0.index t 0 * 1024 + 1 * r.val = 1024 * (t.val / 20) + r.val; rw [hi.1]; omega
  | ⟨1, _⟩ => show win0_0.index t 1 * 1024 + 1 * k.val = 1024 * (t.val % 20) + k.val; rw [hi.2]; omega

/-- Point `t`'s block of the row scales. -/
theorem blk1 (c : Dev nD) (t : Fin cfg0.N) (r : Fin 1024) :
    (iblk m c 1 t : Vec Ideal S1024x128 .f32) (ix2 r 0) = a1 m c (ix2 (row t r) 0) := by
  have hi := idx1 t
  unfold iblk
  rw [View.read_apply]
  show V m c main_arg1 _ = _
  rw [V_main_arg1]
  congr 1
  funext a
  apply Fin.ext
  match a with
  | ⟨0, _⟩ => show win0_1.index t 0 * 1024 + 1 * r.val = 1024 * (t.val / 20) + r.val; rw [hi.1]; omega
  | ⟨1, _⟩ => show win0_1.index t 1 * 128 + 1 * 0 = 0; rw [hi.2]

/-- Point `t`'s block of the weight codes. -/
theorem blk2 (c : Dev nD) (t : Fin cfg0.N) (k : Fin 1024) (l : Fin 3584) :
    (iblk m c 2 t : Vec Ideal S1024x3584 .i8) (ix2 k l) = a2 m c (ix2 (col t k) l) := by
  have hi := idx2 t
  unfold iblk
  rw [View.read_apply]
  show V m c main_arg2 _ = _
  rw [V_main_arg2]
  congr 1
  funext a
  apply Fin.ext
  match a with
  | ⟨0, _⟩ => show win0_2.index t 0 * 1024 + 1 * k.val = 1024 * (t.val % 20) + k.val; rw [hi.1]; omega
  | ⟨1, _⟩ => show win0_2.index t 1 * 3584 + 1 * l.val = l.val; rw [hi.2]; omega

/-- The host lays the weight scales out as one row before the call. -/
theorem V_main_v0 (c : Dev nD) : (V m c main_v0 : Vec Ideal S1x3584 .f32) = shapeCast S1x3584 (a3 m c) shapeCasts_S3584_S1x3584 := by
  unfold V
  simp only [StableHlo.after, hostOps0, List.flatten_cons, List.flatten_nil, List.append_nil, List.cons_append, List.nil_append]
  rfl

/-- Point `t`'s block of the weight scales. -/
theorem blk3 (c : Dev nD) (t : Fin cfg0.N) (l : Fin 3584) :
    (iblk m c 3 t : Vec Ideal S1x3584 .f32) (ix2 0 l) = a3 m c (ix1 l) := by
  have hi := idx3 t
  unfold iblk
  rw [View.read_apply]
  show (V m c main_v0 : Vec Ideal S1x3584 .f32) _ = _
  rw [V_main_v0]
  have e : (((cfg0.win 3).blk t).view.emb (ix2 0 l) : S1x3584.Idx) = ix2 0 l := by
    funext a
    apply Fin.ext
    match a with
    | ⟨0, _⟩ => show win0_3.index t 0 * 1 + 1 * 0 = 0; rw [hi.1]
    | ⟨1, _⟩ => show win0_3.index t 1 * 3584 + 1 * l.val = l.val; rw [hi.2]; omega
  refine (congrArg (shapeCast S1x3584 (a3 m c) shapeCasts_S3584_S1x3584) e).trans ?_
  pointwise []

/-- The product at inner position `K` that entry (`R`, `l`) of the projection sums (zero past the last position). -/
def term (c : Dev nD) (R : Fin 4096) (l : Fin 3584) (K : ℕ) : EReal :=
  if h : K < 20480 then
    code (a0 m c (ix2 R ⟨K, h⟩)) (a1 m c (ix2 R 0)) * (((a2 m c (ix2 ⟨K, h⟩ l)).toInt : ℝ) : EReal)
  else 0

/-- The products of the first `n` blocks of 1024 inner positions, summed. -/
def part (c : Dev nD) (R : Fin 4096) (l : Fin 3584) (n : ℕ) : EReal :=
  ∑ s ∈ Finset.range n, ∑ k : Fin 1024, term m c R l (1024 * s + k.val)

/-- One point's accumulation, off the argument arrays. -/
theorem step (c : Dev nD) (t : Fin cfg0.N) (acc : Vec Ideal S1024x3584 .f32) (r : Fin 1024) (l : Fin 3584) :
    k0_pay5 (iblk m c 1 t) (iblk m c 0 t) acc (iblk m c 2 t) (ix2 r l)
      = acc (ix2 r l) + ∑ k : Fin 1024, term m c (row t r) l (1024 * (t.val % 20) + k.val) := by
  rw [Pay.pay5]
  refine congrArg _ (Finset.sum_congr rfl fun k _ => ?_)
  rw [blk0, blk1, blk2, term, dif_pos (by have := k.isLt; omega)]

/-- After an inner point other than the last, the output block is the running sum. -/
theorem acc_eq (c : Dev nD) : ∀ (n : ℕ) (h : n < cfg0.N), ¬n % 20 = 19 → ∀ (r : Fin 1024) (l : Fin 3584),
    (outsAt0 m c n h).2 (ix2 r l) = part m c (row ⟨n, h⟩ r) l (n % 20 + 1) := by
  intro n
  induction n with
  | zero =>
    intro h h1 r l
    rw [outsAt0_A m c ⟨0, h⟩ rfl h1]
    dsimp only
    rw [Block.acc_A, step, Pay.pay1, zero_add, part]
    simp
  | succ n ih =>
    intro h h1 r l
    by_cases h0 : (n + 1) % 20 = 0
    · rw [outsAt0_A m c ⟨n + 1, h⟩ h0 h1]
      dsimp only
      rw [Block.acc_A, step, Pay.pay1, zero_add, part]
      simp [h0]
    · rw [outsAt0_B m c ⟨n + 1, h⟩ h0 h1]
      dsimp only
      rw [Block.acc_B, step]
      have e := ih (Nat.lt_of_succ_lt h) (by omega) r l
      have hr : row ⟨n, Nat.lt_of_succ_lt h⟩ r = row ⟨n + 1, h⟩ r := Fin.ext (by
        show 1024 * (n / 20) + r.val = 1024 * ((n + 1) / 20) + r.val
        omega)
      rw [hr] at e
      refine (congrArg (· + _) e).trans ?_
      have hk : (n + 1) % 20 = n % 20 + 1 := by omega
      simp only [part, hk]
      exact (Finset.sum_range_succ _ _).symm

/-- After the last inner point it is the whole sum times the two scales. -/
theorem acc_last (c : Dev nD) (t : Fin cfg0.N) (h1 : t.val % 20 = 19) (r : Fin 1024) (l : Fin 3584) :
    (outsAt0 m c t.val t.isLt).2 (ix2 r l)
      = part m c (row t r) l 20 * a1 m c (ix2 (row t r) 0) * a3 m c (ix1 l) := by
  have h0 : ¬t.val % 20 = 0 := by omega
  rw [outsAt0_C m c t h0 h1]
  dsimp only
  rw [Block.acc_C, Pay.pay6, step, blk1, blk3]
  have hlt : t.val - 1 < cfg0.N := Nat.lt_of_le_of_lt (Nat.sub_le _ _) t.isLt
  have e := acc_eq m c (t.val - 1) hlt (by omega) r l
  have hr : row ⟨t.val - 1, hlt⟩ r = row t r := Fin.ext (by
    show 1024 * ((t.val - 1) / 20) + r.val = 1024 * (t.val / 20) + r.val
    omega)
  rw [hr, show (t.val - 1) % 20 + 1 = 19 by omega] at e
  congr 2
  refine (congrArg (· + _) e).trans ?_
  simp only [part, h1]
  exact (Finset.sum_range_succ _ _).symm

/-- At every point the codes block holds the codes of the activations' block. -/
theorem codes_eq (c : Dev nD) (t : Fin cfg0.N) (r k : Fin 1024) :
    (outsAt0 m c t.val t.isLt).1 (ix2 r k) = word (a0 m c (ix2 (row t r) (col t k))) (a1 m c (ix2 (row t r) 0)) := by
  have e : (outsAt0 m c t.val t.isLt).1 = k0_pay4 (iblk m c 1 t) (iblk m c 0 t) := by
    by_cases h0 : t.val % 20 = 0
    · rw [outsAt0_A m c t h0 (by omega)]
      dsimp only
      rw [Block.codes_A]
    · by_cases h1 : t.val % 20 = 19
      · rw [outsAt0_C m c t h0 h1]
        dsimp only
        rw [Block.codes_C]
      · rw [outsAt0_B m c t h0 h1]
        dsimp only
        rw [Block.codes_B]
  rw [e, Pay.pay4, blk0, blk1]

end Cert.SharedDownIdeal.Step

end
-- ==== Proof.Down.Value.lean ====
/- The two result arrays of the shared down-projection as whole arrays: the codes of the rotated activations, and their
   product with the weight codes times the two scales. -/
module

public import proofs.«01_k».proof.Proof.Down.Step

@[expose] public section

set_option maxRecDepth 16384

noncomputable section

open Idealize.ShloMosaic Idealize.ShloMosaic.TcCoe Idealize.SL.Sem
open Idealize.ShloMosaic.Pipeline (Dat)

namespace Cert.SharedDownIdeal.Arrays

open Cert.SharedDownIdeal Cert.SharedDownIdeal.Gen Cert.Quant Cert.SharedDownIdeal.Step

variable (m : (ℓ : Loc nD τ sig) → Buf (Elt Ideal) ℓ) (ρ : Dev nD → PrngReg)

/-- The codes: every activation over its row's scale, rounded, clipped and stored as a word. -/
def codes (x : Vec Ideal S4096x20480 .f32) (s : Vec Ideal S4096x128 .f32) : Vec Ideal S4096x20480 .i8 :=
  fun i => word (x i) (s (ix2 (i 0) 0))

/-- The projection: the sum over all 20480 inner positions, times the row's scale, times the column's. -/
def out (x : Vec Ideal S4096x20480 .f32) (s : Vec Ideal S4096x128 .f32) (w : Vec Ideal S20480x3584 .i8)
    (ws : Vec Ideal S3584 .f32) : Vec Ideal S4096x3584 .f32 :=
  fun i => (∑ K : Fin 20480, code (x (ix2 (i 0) K)) (s (ix2 (i 0) 0)) * (((w (ix2 K (i 1))).toInt : ℝ) : EReal))
    * s (ix2 (i 0) 0) * ws (ix1 (i 1))

/-- Twenty blocks of 1024 inner positions are all 20480 of them. -/
theorem part_all (c : Dev nD) (R : Fin 4096) (l : Fin 3584) :
    part m c R l 20 = ∑ K : Fin 20480, code (a0 m c (ix2 R K)) (a1 m c (ix2 R 0)) * (((a2 m c (ix2 K l)).toInt : ℝ) : EReal) := by
  rw [Fin.sum_univ_tiles 20 1024 (by decide), part, Finset.sum_range]
  refine Finset.sum_congr rfl fun s _ => Finset.sum_congr rfl fun k _ => ?_
  have h : 1024 * s.val + k.val < 20480 := by have := s.isLt; have := k.isLt; omega
  have e : (⟨1024 * s.val + k.val, h⟩ : Fin 20480) = ⟨s.val * 1024 + k.val, by omega⟩ := Fin.ext (by show 1024 * s.val + k.val = s.val * 1024 + k.val; omega)
  rw [term, dif_pos h, e]

/-- What a point writes back to the codes array is its block of the codes. -/
theorem flushed4 (c : Dev nD) (t : Fin cfg0.N) :
    (dats m 0 c).flushed 4 t = ((cfg0.win 4).blk t).view.read (Elt Ideal) (codes (a0 m c) (a1 m c)) := by
  rw [Value.flushed4]
  funext j
  show (outsAt0 m c t.val t.isLt).1 (j : S1024x1024.Idx) = codes (a0 m c) (a1 m c) (((cfg0.win 4).blk t).view.emb j)
  have hi := idx4 t
  have hj : (j : S1024x1024.Idx) = ix2 (j 0) (j 1) := funext fun a => by fin_cases a <;> rfl
  have e : (((cfg0.win 4).blk t).view.emb j : S4096x20480.Idx) = ix2 (row t (j 0)) (col t (j 1)) := by
    funext a
    apply Fin.ext
    match a with
    | ⟨0, _⟩ => show win0_4.index t 0 * 1024 + 1 * (j 0).val = 1024 * (t.val / 20) + (j 0).val; rw [hi.1]; omega
    | ⟨1, _⟩ => show win0_4.index t 1 * 1024 + 1 * (j 1).val = 1024 * (t.val % 20) + (j 1).val; rw [hi.2]; omega
  refine (congrArg (outsAt0 m c t.val t.isLt).1 hj).trans ((codes_eq m c t (j 0) (j 1)).trans ?_)
  exact (congrArg (codes (a0 m c) (a1 m c)) e).symm

/-- Every entry of the codes array is in some point's block. -/
theorem covered4 (i : S4096x20480.Idx) :
    ∃ t : Fin cfg0.N, (cfg0.win 4).flush t = true ∧ i ∈ ((cfg0.win 4).blk t).view.set := by
  have h0 : (i 0 : Nat) < 4096 := (i 0).isLt
  have h1 : (i 1 : Nat) < 20480 := (i 1).isLt
  have hN : cfg0.N = 80 := N_0
  let t : Fin cfg0.N := ⟨20 * ((i 0 : Nat) / 1024) + (i 1 : Nat) / 1024, by omega⟩
  have hv : t.val = 20 * ((i 0 : Nat) / 1024) + (i 1 : Nat) / 1024 := rfl
  refine ⟨t, flush0_4 t, ?_⟩
  have hi := idx4 t
  show i ∈ ((View.whole main_v1_0).slice (win0_4.rect t)).set
  rw [View.set_slice_whole, Rect.mem_set_unit]
  intro a
  match a with
  | ⟨0, _⟩ =>
    show win0_4.index t 0 * 1024 ≤ (i 0 : Nat) ∧ (i 0 : Nat) < win0_4.index t 0 * 1024 + 1024
    rw [hi.1]; omega
  | ⟨1, _⟩ =>
    show win0_4.index t 1 * 1024 ≤ (i 1 : Nat) ∧ (i 1 : Nat) < win0_4.index t 1 * 1024 + 1024
    rw [hi.2]; omega

/-- The codes array after the run. -/
theorem final4 (c : Dev nD) : (dats m 0 c).arrAt 4 cfg0.N = codes (a0 m c) (a1 m c) :=
  (dats m 0 c).arrAt_eq_of_cover 4 (codes (a0 m c) (a1 m c)) (fun t _ => flushed4 m c t) covered4

/-- After the last inner point the output block is its rows of the projection. -/
theorem acc_last_all (c : Dev nD) (t : Fin cfg0.N) (h1 : t.val % 20 = 19) (r : Fin 1024) (l : Fin 3584) :
    (outsAt0 m c t.val t.isLt).2 (ix2 r l) = out (a0 m c) (a1 m c) (a2 m c) (a3 m c) (ix2 (row t r) l) := by
  rw [acc_last m c t h1, part_all]
  rfl

/-- What a last inner point writes back to the projection is its block of the projection. -/
theorem flushed5 (c : Dev nD) (t : Fin cfg0.N) (hf : (cfg0.win 5).flush t = true) :
    (dats m 0 c).flushed 5 t = ((cfg0.win 5).blk t).view.read (Elt Ideal) (out (a0 m c) (a1 m c) (a2 m c) (a3 m c)) := by
  have h1 : t.val % 20 = 19 := (flush0_5 t).mp hf
  rw [Value.flushed5]
  funext j
  show (outsAt0 m c t.val t.isLt).2 (j : S1024x3584.Idx) = out (a0 m c) (a1 m c) (a2 m c) (a3 m c) (((cfg0.win 5).blk t).view.emb j)
  have hi := idx5 t
  have hj : (j : S1024x3584.Idx) = ix2 (j 0) (j 1) := funext fun a => by fin_cases a <;> rfl
  have e : (((cfg0.win 5).blk t).view.emb j : S4096x3584.Idx) = ix2 (row t (j 0)) (j 1) := by
    funext a
    apply Fin.ext
    match a with
    | ⟨0, _⟩ => show win0_5.index t 0 * 1024 + 1 * (j 0).val = 1024 * (t.val / 20) + (j 0).val; rw [hi.1]; omega
    | ⟨1, _⟩ => show win0_5.index t 1 * 3584 + 1 * (j 1).val = (j 1).val; rw [hi.2]; omega
  refine (congrArg (outsAt0 m c t.val t.isLt).2 hj).trans ((acc_last_all m c t h1 (j 0) (j 1)).trans ?_)
  exact (congrArg (out (a0 m c) (a1 m c) (a2 m c) (a3 m c)) e).symm

/-- Every entry of the projection is in some last inner point's block. -/
theorem covered5 (i : S4096x3584.Idx) :
    ∃ t : Fin cfg0.N, (cfg0.win 5).flush t = true ∧ i ∈ ((cfg0.win 5).blk t).view.set := by
  have h0 : (i 0 : Nat) < 4096 := (i 0).isLt
  have h1 : (i 1 : Nat) < 3584 := (i 1).isLt
  have hN : cfg0.N = 80 := N_0
  let t : Fin cfg0.N := ⟨20 * ((i 0 : Nat) / 1024) + 19, by omega⟩
  have hv : t.val = 20 * ((i 0 : Nat) / 1024) + 19 := rfl
  refine ⟨t, (flush0_5 t).mpr (by omega), ?_⟩
  have hi := idx5 t
  show i ∈ ((View.whole main_v1_1).slice (win0_5.rect t)).set
  rw [View.set_slice_whole, Rect.mem_set_unit]
  intro a
  match a with
  | ⟨0, _⟩ =>
    show win0_5.index t 0 * 1024 ≤ (i 0 : Nat) ∧ (i 0 : Nat) < win0_5.index t 0 * 1024 + 1024
    rw [hi.1]; omega
  | ⟨1, _⟩ =>
    show win0_5.index t 1 * 3584 ≤ (i 1 : Nat) ∧ (i 1 : Nat) < win0_5.index t 1 * 3584 + 3584
    rw [hi.2]; omega

/-- The projection after the run. -/
theorem final5 (c : Dev nD) : (dats m 0 c).arrAt 5 cfg0.N = out (a0 m c) (a1 m c) (a2 m c) (a3 m c) :=
  (dats m 0 c).arrAt_eq_of_cover 5 (out (a0 m c) (a1 m c) (a2 m c) (a3 m c)) (fun t hf => flushed5 m c t hf) covered5

end Cert.SharedDownIdeal.Arrays

end
-- ==== Proof.Down.Ref.lean ====
/- The reference of the shared down-projection computes the same two arrays. -/
module

public import proofs.«01_k».proof.Proof.Down.Value
public import proofs.«01_k».proof.Proof.Gen.RefDownIdeal.Value

@[expose] public section

set_option maxRecDepth 16384

noncomputable section

open Idealize.ShloMosaic Idealize.ShloMosaic.TcCoe Idealize.SL.Sem

namespace Cert.RefDownIdeal.Equal

open Cert.RefDownIdeal Cert.RefDownIdeal.Gen Cert.Quant

variable (x : Vec Ideal S4096x20480 .f32) (s : Vec Ideal S4096x128 .f32) (w : Vec Ideal S20480x3584 .i8) (ws : Vec Ideal S3584 .f32)

/-- The column of row scales that the reference loads. -/
theorem ld_scale (r : Fin 4096) : (View.ld s r0_0 : Vec Ideal S4096x1 .f32) (ix2 r 0) = s (ix2 r 0) := by
  show s _ = s _
  congr 1
  funext a
  apply Fin.ext
  match a with
  | ⟨0, _⟩ => show 0 + 1 * r.val = r.val; omega
  | ⟨1, _⟩ => rfl

/-- The reference's codes, entry by entry. -/
theorem pay1 (u : Vec Ideal S4096x1 .f32) (r : Fin 4096) (k : Fin 20480) : k0_pay1 u x (ix2 r k) = word (x (ix2 r k)) (u (ix2 r 0)) := by
  pointwise [k0_pay1]
  rw [bits_127, bits_neg127]
  rfl

/-- The reference's projection, entry by entry: its codes are read back as the integers they are. -/
theorem pay2 (u : Vec Ideal S4096x1 .f32) (r : Fin 4096) (l : Fin 3584) : k0_pay2 u x w ws (ix2 r l)
    = (∑ K : Fin 20480, code (x (ix2 r K)) (u (ix2 r 0)) * (((w (ix2 K l)).toInt : ℝ) : EReal)) * u (ix2 r 0) * ws (ix1 l) := by
  have h := fun k => pay1 x u r k
  generalize hq : k0_pay1 u x = q at h
  unfold k0_pay2
  rw [hq]
  pointwise []
  have e : ∀ k : Fin 20480, FloatOps.sitofp (F := Ideal) FTy.bf16 (q (ix2 r k)) = code (x (ix2 r k)) (u (ix2 r 0)) := fun k => by
    rw [h, ← toInt_word]; rfl
  simp only [e]
  rfl

/-- The reference's codes array is the kernel's. -/
theorem codes_eq : Value.G4 x s w ws = Cert.SharedDownIdeal.Arrays.codes x s := by
  funext i
  obtain ⟨r, k, rfl⟩ : ∃ r k, i = ix2 r k := ⟨i 0, i 1, funext fun a => by fin_cases a <;> rfl⟩
  refine (pay1 x (View.ld s r0_0) r k).trans ?_
  rw [ld_scale]
  rfl

/-- The reference's projection is the kernel's. -/
theorem out_eq : Value.G5 x s w ws = Cert.SharedDownIdeal.Arrays.out x s w ws := by
  funext i
  obtain ⟨r, l, rfl⟩ : ∃ r l, i = ix2 r l := ⟨i 0, i 1, funext fun a => by fin_cases a <;> rfl⟩
  refine (pay2 x w ws (View.ld s r0_0) r l).trans ?_
  rw [ld_scale]
  rfl

end Cert.RefDownIdeal.Equal

end
-- ==== Proof.Down.Claim.lean ====
/- The value claim of the shared down-projection: run from memories that agree on the arguments, the kernel and the
   reference end with the same codes and the same projection. -/
module

public import proofs.«01_k».proof.Defs
public import proofs.«01_k».proof.Proof.Down.Ref

@[expose] public section

noncomputable section

open Idealize.ShloMosaic Idealize.ShloMosaic.TcCoe Idealize.SL.Sem

namespace Cert.DownClaim

open Cert.SharedDownIdeal.Step Cert.SharedDownIdeal.Arrays in
theorem algebraic : Cert.algebraic_SharedDownIdeal_RefDownIdeal
    (hSharedDownIdeal := Cert.SharedDownIdeal.Gen.facts) (hRefDownIdeal := Cert.RefDownIdeal.Gen.facts) := by
  intro m ρ m' ρ' _ hag
  refine ⟨fun c => codes (a0 m c) (a1 m c), fun c => out (a0 m c) (a1 m c) (a2 m c) (a3 m c), ?_, ?_⟩
  · exact (θ_run (Cert.SharedDownIdeal.defs (F := Ideal)) _ _).mono
      (fun _ h c => ⟨(h c).1.trans (final4 m c), (h c).2.1.trans (final5 m c), (h c).2.2⟩)
      (Cert.SharedDownIdeal.Value.run_blocks m ρ)
  · refine (θ_run (Cert.RefDownIdeal.defs (F := Ideal)) _ _).mono
      (fun _ h c => ⟨(h c).1.trans ?_, (h c).2.1.trans ?_, (h c).2.2⟩) (Cert.RefDownIdeal.Value.run m' ρ')
    · rw [Cert.RefDownIdeal.Equal.codes_eq, (hag c).1, (hag c).2.1]
    · rw [Cert.RefDownIdeal.Equal.out_eq, (hag c).1, (hag c).2.1, (hag c).2.2.1, (hag c).2.2.2]

end Cert.DownClaim

end
-- ==== Proof.Up.Rows.lean ====
/- A block of 4096 rows as four bands of 1024: reading a band, putting bands together, and what a buffer reads
   once its first bands have been overwritten. -/
module

public import Idealize.ShloMosaic.Lib.Pipeline.FrameBody
public import Idealize.ShloMosaic.Lib.Pipeline.Value
public import Idealize.ShloMosaic.Lib.WritesUnit
public import Idealize.ShloMosaic.Lib.Pointwise

@[expose] public section

noncomputable section

open Idealize.ShloMosaic

namespace Cert.Rows

variable {α : Type} {N : ℕ}

theorem zz : (![0, 0] : Fin 2 → ℕ) = fun _ => 0 := by
  funext a
  match a with
  | ⟨0, _⟩ => rfl
  | ⟨1, _⟩ => rfl

/-- Band `k` of the rows. -/
def band (x : (⟨2, ![4096, N]⟩ : Shape).Idx → α) (k : Fin 4) : (⟨2, ![1024, N]⟩ : Shape).Idx → α :=
  fun p => x (ix2 ⟨1024 * k.val + (p (0 : Fin 2)).val, by
    have h : (p (0 : Fin 2)).val < 1024 := (p (0 : Fin 2)).isLt
    have := k.isLt; omega⟩ (p (1 : Fin 2)))

/-- Four bands under one another. -/
def glue (g : Fin 4 → (⟨2, ![1024, N]⟩ : Shape).Idx → α) : (⟨2, ![4096, N]⟩ : Shape).Idx → α :=
  fun j => g ⟨(j (0 : Fin 2)).val / 1024, by
    have h : (j (0 : Fin 2)).val < 4096 := (j (0 : Fin 2)).isLt
    omega⟩ (ix2 ⟨(j (0 : Fin 2)).val % 1024, Nat.mod_lt _ (by decide)⟩ (j (1 : Fin 2)))

/-- The first `n` bands from `g`, the rest from `x`. -/
def mix (g : Fin 4 → (⟨2, ![1024, N]⟩ : Shape).Idx → α) (x : (⟨2, ![4096, N]⟩ : Shape).Idx → α) (n : ℕ) :
    (⟨2, ![4096, N]⟩ : Shape).Idx → α :=
  fun j => if (j (0 : Fin 2)).val < 1024 * n then glue g j else x j

theorem mix_zero (g : Fin 4 → (⟨2, ![1024, N]⟩ : Shape).Idx → α) (x) : mix g x 0 = x := by
  funext j; unfold mix; exact if_neg (by omega)

theorem mix_four (g : Fin 4 → (⟨2, ![1024, N]⟩ : Shape).Idx → α) (x) : mix g x 4 = glue g := by
  funext j; unfold mix
  have h : (j (0 : Fin 2)).val < 4096 := (j (0 : Fin 2)).isLt
  exact if_pos (by omega)

theorem glue_ix2 (g : Fin 4 → (⟨2, ![1024, N]⟩ : Shape).Idx → α) (k : Fin 4) (p : (⟨2, ![1024, N]⟩ : Shape).Idx)
    (j : (⟨2, ![4096, N]⟩ : Shape).Idx) (h0 : (j (0 : Fin 2)).val = 1024 * k.val + (p (0 : Fin 2)).val)
    (h1 : (j (1 : Fin 2)).val = (p (1 : Fin 2)).val) : glue g j = g k p := by
  have hp : (p (0 : Fin 2)).val < 1024 := (p (0 : Fin 2)).isLt
  unfold glue
  have hk : (⟨(j (0 : Fin 2)).val / 1024, by
    have h : (j (0 : Fin 2)).val < 4096 := (j (0 : Fin 2)).isLt
    omega⟩ : Fin 4) = k := Fin.ext (by show (j (0 : Fin 2)).val / 1024 = k.val; omega)
  rw [hk]
  congr 1
  funext a
  apply Fin.ext
  match a with
  | ⟨0, _⟩ => show (j (0 : Fin 2)).val % 1024 = (p (0 : Fin 2)).val; omega
  | ⟨1, _⟩ => exact h1

/-- Band `n`, not yet overwritten. -/
theorem band_mix (g : Fin 4 → (⟨2, ![1024, N]⟩ : Shape).Idx → α) (x) (k : Fin 4) : band (mix g x k.val) k = band x k := by
  funext p; unfold band mix
  exact if_neg (by show ¬ 1024 * k.val + (p (0 : Fin 2)).val < 1024 * k.val; omega)

/-- Band `n`, just overwritten. -/
theorem band_mix_succ (g : Fin 4 → (⟨2, ![1024, N]⟩ : Shape).Idx → α) (x) (k : Fin 4) :
    band (mix g x (k.val + 1)) k = g k := by
  funext p; unfold band mix
  have hp : (p (0 : Fin 2)).val < 1024 := (p (0 : Fin 2)).isLt
  exact (if_pos (by show 1024 * k.val + (p (0 : Fin 2)).val < 1024 * (k.val + 1); omega)).trans
    (glue_ix2 g k p _ rfl rfl)

theorem band_glue (g : Fin 4 → (⟨2, ![1024, N]⟩ : Shape).Idx → α) (k : Fin 4) : band (glue g) k = g k := by
  funext p; exact glue_ix2 g k p _ rfl rfl

section
variable {sig : RefSig} {κ : Kind} {sp : Space} {e : EltTy} {Val : EltTy → Type}

/-- A load of band `k`. -/
theorem ld_band (x : (⟨2, ![4096, N]⟩ : Shape).Idx → α) (k : Fin 4) {off : Fin 2 → ℕ} (hoff : off = ![1024 * k.val, 0])
    (inb : ∀ a : Fin 2, off a + (![1024, N] : Fin 2 → ℕ) a ≤ (![4096, N] : Fin 2 → ℕ) a) :
    (fun p => x ((Rect.unit (s := ⟨2, ![4096, N]⟩) off ![1024, N] inb).idx p)) = band x k := by
  subst hoff
  funext p; unfold band
  congr 1
  funext a
  apply Fin.ext
  match a with
  | ⟨0, _⟩ => show 1024 * k.val + 1 * (p (0 : Fin 2)).val = 1024 * k.val + (p (0 : Fin 2)).val; omega
  | ⟨1, _⟩ => show 0 + 1 * (p (1 : Fin 2)).val = (p (1 : Fin 2)).val; omega

theorem readAt_band (v : View sig κ sp (⟨2, ![4096, N]⟩ : Shape) e) (f : v.ty.Contents Val)
    (x : (⟨2, ![4096, N]⟩ : Shape).Idx → Val e) (h : v.read Val f = x) (k : Fin 4) {off : Fin 2 → ℕ}
    (hoff : off = ![1024 * k.val, 0])
    (inb : ∀ a : Fin 2, off a + (![1024, N] : Fin 2 → ℕ) a ≤ (![4096, N] : Fin 2 → ℕ) a) :
    v.readAt Val (Rect.unit (s := ⟨2, ![4096, N]⟩) off ![1024, N] inb).toLoadRect f = band x k := by
  subst h
  exact ld_band (v.read Val f) k hoff inb

theorem readAt_mix (v : View sig κ sp (⟨2, ![4096, N]⟩ : Shape) e) (f : v.ty.Contents Val)
    (g : Fin 4 → (⟨2, ![1024, N]⟩ : Shape).Idx → Val e) (x : (⟨2, ![4096, N]⟩ : Shape).Idx → Val e) (k : Fin 4)
    (h : v.read Val f = mix g x k.val) {off : Fin 2 → ℕ} (hoff : off = ![1024 * k.val, 0])
    (inb : ∀ a : Fin 2, off a + (![1024, N] : Fin 2 → ℕ) a ≤ (![4096, N] : Fin 2 → ℕ) a) :
    v.readAt Val (Rect.unit (s := ⟨2, ![4096, N]⟩) off ![1024, N] inb).toLoadRect f = band x k :=
  (readAt_band v f _ h k hoff inb).trans (band_mix g x k)

theorem readAt_mix_succ (v : View sig κ sp (⟨2, ![4096, N]⟩ : Shape) e) (f : v.ty.Contents Val)
    (g : Fin 4 → (⟨2, ![1024, N]⟩ : Shape).Idx → Val e) (x : (⟨2, ![4096, N]⟩ : Shape).Idx → Val e) (k : Fin 4)
    (h : v.read Val f = mix g x (k.val + 1)) {off : Fin 2 → ℕ} (hoff : off = ![1024 * k.val, 0])
    (inb : ∀ a : Fin 2, off a + (![1024, N] : Fin 2 → ℕ) a ≤ (![4096, N] : Fin 2 → ℕ) a) :
    v.readAt Val (Rect.unit (s := ⟨2, ![4096, N]⟩) off ![1024, N] inb).toLoadRect f = g k :=
  (readAt_band v f _ h k hoff inb).trans (band_mix_succ g x k)

/-- A load of a whole buffer. -/
theorem readAt_all {S : Shape} (v : View sig κ sp S e) (f : v.ty.Contents Val) (x : S.Idx → Val e)
    (h : v.read Val f = x) {off : Fin S.rank → ℕ} (hoff : off = fun _ => 0)
    (inb : ∀ a, off a + S.size a ≤ S.size a) :
    v.readAt Val (Rect.unit (s := S) off S.size inb).toLoadRect f = x := by
  subst h
  exact View.ld_unit_zero hoff inb (v.read Val f)

/-- A store of a whole buffer. -/
theorem read_write_all {S : Shape} (v : View sig κ sp S e) (f : v.ty.Contents Val) (w : S.Idx → Val e)
    {off : Fin S.rank → ℕ} (hoff : off = fun _ => 0) (inb : ∀ a, off a + S.size a ≤ S.size a) :
    v.read Val (v.writes Val f [(⟨Rect.unit (s := S) off S.size inb, w⟩ : View.Piece Val S e)]) = w := by
  subst hoff
  funext y
  have h := View.read_writes_cons_emb v f (Rect.whole S) w [] y
  rw [Rect.emb_whole_apply] at h
  exact h

/-- A store of band `k` over a buffer whose first `k` bands have been overwritten. -/
theorem store_band (v : View sig κ sp (⟨2, ![4096, N]⟩ : Shape) e) (f : v.ty.Contents Val)
    (g : Fin 4 → (⟨2, ![1024, N]⟩ : Shape).Idx → Val e) (x : (⟨2, ![4096, N]⟩ : Shape).Idx → Val e) (k : Fin 4)
    {off : Fin 2 → ℕ} (hoff : off = ![1024 * k.val, 0])
    (inb : ∀ a : Fin 2, off a + (![1024, N] : Fin 2 → ℕ) a ≤ (![4096, N] : Fin 2 → ℕ) a)
    (w : (⟨2, ![1024, N]⟩ : Shape).Idx → Val e) (hw : w = g k) (h : v.read Val f = mix g x k.val) :
    v.read Val (v.writes Val f [(⟨Rect.unit (s := ⟨2, ![4096, N]⟩) off ![1024, N] inb, w⟩ :
      View.Piece Val (⟨2, ![4096, N]⟩ : Shape) e)]) = mix g x (k.val + 1) := by
  subst hw
  funext j
  have hj : (j (0 : Fin 2)).val < 4096 := (j (0 : Fin 2)).isLt
  by_cases hc : 1024 * k.val ≤ (j (0 : Fin 2)).val ∧ (j (0 : Fin 2)).val < 1024 * k.val + 1024
  · refine (View.read_writes_cons_rows_of_mem v f inb (g k) [] j
      (ix2 ⟨(j (0 : Fin 2)).val - 1024 * k.val, by omega⟩ (j (1 : Fin 2))) hoff
      (by show (j (0 : Fin 2)).val = 1024 * k.val + ((j (0 : Fin 2)).val - 1024 * k.val); omega) rfl).trans ?_
    unfold mix
    refine Eq.trans ?_ (if_pos (by omega)).symm
    exact (glue_ix2 g k _ j (by show (j (0 : Fin 2)).val = 1024 * k.val + ((j (0 : Fin 2)).val - 1024 * k.val); omega) rfl).symm
  · refine (View.read_writes_cons_rows_of_not_mem v f inb (g k) [] j hoff (W := 1024) rfl (by omega)).trans ?_
    rw [View.writes_nil, h]
    unfold mix
    by_cases hlt : (j (0 : Fin 2)).val < 1024 * k.val
    · rw [if_pos hlt, if_pos (by omega)]
    · rw [if_neg hlt, if_neg (by omega)]

end

end Cert.Rows

end
-- ==== Proof.UpBits.Chunk.lean ====
/- What one band of 1024 rows of the call computes: the gated product, its rotation, the running largest magnitude,
   and the next pair of products. -/
module

public import proofs.«01_k».proof.Proof.Up.Rows
public import proofs.«01_k».proof.Proof.Gen.SharedUp.Frame.Runs

@[expose] public section
set_option maxRecDepth 16384
set_option maxHeartbeats 1000000
noncomputable section
namespace Cert.SharedUp.Hand
open Cert.SharedUp.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]
local notation "𝕄" => MT nD τ sig Unit (Elt F) ℕ (UR sig nD τ) ℕ

open Cert.Rows

/-- The gated product of a band. -/
def usC (s : Vec F S4096x128 .f32) (g : Vec F S4096x256 .f32) (sg : Vec F S1x256 .f32) (u : Vec F S4096x256 .f32)
    (su : Vec F S1x256 .f32) : Fin 4 → Vec F S1024x256 .f32 :=
  fun k => k0_pay7 (band s k) (band g k) sg (band u k) su

/-- The rotated band. -/
def rC (s : Vec F S4096x128 .f32) (g : Vec F S4096x256 .f32) (sg : Vec F S1x256 .f32) (u : Vec F S4096x256 .f32)
    (su sm : Vec F S1x256 .f32) (ha : Vec F S256x256 .bf16) (hbc : Vec F S512x256 .bf16) :
    Fin 4 → Vec F S1024x256 .f32 :=
  fun k => k0_pay14 (k0_pay9 (band s k) (band g k) sg (band u k) su sm)
    (k0_pay11 (band s k) (band g k) sg (band u k) su sm) (k0_pay12 (band s k) (band g k) sg (band u k) su sm hbc)
    (k0_pay13 (band s k) (band g k) sg (band u k) su sm) ha ha

/-- The running largest magnitude of a band's rows. -/
def mC (s : Vec F S4096x128 .f32) (g : Vec F S4096x256 .f32) (sg : Vec F S1x256 .f32) (u : Vec F S4096x256 .f32)
    (su sm : Vec F S1x256 .f32) (ha : Vec F S256x256 .bf16) (hbc : Vec F S512x256 .bf16) (mx : Vec F S4096x128 .f32) :
    Fin 4 → Vec F S1024x128 .f32 :=
  fun k => k0_pay15 (k0_pay9 (band s k) (band g k) sg (band u k) su sm)
    (k0_pay11 (band s k) (band g k) sg (band u k) su sm) (k0_pay12 (band s k) (band g k) sg (band u k) su sm hbc)
    (k0_pay13 (band s k) (band g k) sg (band u k) su sm) ha ha (band mx k)

/-- The gate product of a band. -/
def gC (a : Vec F S4096x3584 .i8) (w : Vec F S3584x256 .i8) : Fin 4 → Vec F S1024x256 .f32 :=
  fun k => k0_pay4 (k0_pay17 (band a k) w)

/-- The up product of a band. -/
def uC (a : Vec F S4096x3584 .i8) (w : Vec F S3584x256 .i8) : Fin 4 → Vec F S1024x256 .f32 :=
  fun k => k0_pay5 (k0_pay16 (band a k)) w

/-- The scale of a band from the largest magnitudes `m`. -/
def sC (m : Fin 4 → Vec F S1024x128 .f32) : Fin 4 → Vec F S1024x128 .f32 :=
  fun k => k0_pay6 (k0_pay28 (m k)) (k0_pay29 (m k))

end Cert.SharedUp.Hand
end
-- ==== Proof.UpBits.Loop.lean ====
/- The two counted loops of the call: after `n` trips the first `n` bands of every written buffer hold the chunk
   functions of `Chunk.lean`, the rest what they held before. -/
module

public import proofs.«01_k».proof.Proof.UpBits.Chunk

@[expose] public section
set_option maxRecDepth 16384
set_option maxHeartbeats 1000000
noncomputable section
namespace Cert.SharedUp.Hand
open Cert.SharedUp.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]
local notation "𝕄" => MT nD τ sig Unit (Elt F) ℕ (UR sig nD τ) ℕ

open Cert.Rows

theorem off1 : ∀ k : Fin k0_t1_loop.trips, k0_off1 k = ![1024 * k.val, 0] := by decide +kernel
theorem off2 : ∀ k : Fin k0_t1_loop.trips, k0_off2 k = ![1024 * k.val, 0] := by decide +kernel
theorem off3 : ∀ k : Fin k0_t1_loop.trips, k0_off3 k = ![1024 * k.val, 0] := by decide +kernel
theorem off4 : ∀ k : Fin k0_t2_loop.trips, k0_off4 k = ![1024 * k.val, 0] := by decide +kernel
theorem off5 : ∀ k : Fin k0_t2_loop.trips, k0_off5 k = ![1024 * k.val, 0] := by decide +kernel

theorem trip_t1 (𝒱 : Variants) (c : Dev nD) (bd : Option 𝒱.V) (i : grid0.Coords) (arg1 : Memref sig .tc .vmem S4096x3584 .i8) (harg1 : arg1.IsWhole) (arg2 : Memref sig .tc .vmem S4096x128 .f32) (harg2 : arg2.IsWhole) (arg3 : Memref sig .tc .vmem S3584x256 .i8) (harg3 : arg3.IsWhole) (arg4 : Memref sig .tc .vmem S3584x256 .i8) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S256x256 .bf16) (harg8 : arg8.IsWhole) (arg9 : Memref sig .tc .vmem S512x256 .bf16) (harg9 : arg9.IsWhole) (arg10 : Memref sig .tc .vmem S4096x256 .f32) (harg10 : arg10.IsWhole) (arg11 : Memref sig .tc .vmem S4096x256 .f32) (harg11 : arg11.IsWhole) (arg12 : Memref sig .tc .vmem S4096x128 .f32) (harg12 : arg12.IsWhole) (arg13 : Memref sig .tc .vmem S4096x256 .f32) (harg13 : arg13.IsWhole) (arg14 : Memref sig .tc .vmem S4096x256 .f32) (harg14 : arg14.IsWhole) (arg15 : Memref sig .tc .vmem S4096x128 .f32) (harg15 : arg15.IsWhole) (k0_h2 : k0_cond2 i = 1#1) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (k : Fin k0_t1_loop.trips) (f_arg10 : BufTy.Contents (Elt F) arg10.view.ty) (f_arg11 : BufTy.Contents (Elt F) arg11.view.ty) (f_arg13 : BufTy.Contents (Elt F) arg13.view.ty) (f_arg14 : BufTy.Contents (Elt F) arg14.view.ty) (f_arg15 : BufTy.Contents (Elt F) arg15.view.ty) (x1 : Vec F S4096x3584 .i8) (x2 : Vec F S4096x128 .f32) (x3 : Vec F S3584x256 .i8) (x4 : Vec F S3584x256 .i8) (x5 : Vec F S1x256 .f32) (x6 : Vec F S1x256 .f32) (x7 : Vec F S1x256 .f32) (x8 : Vec F S256x256 .bf16) (x9 : Vec F S512x256 .bf16) (y10 : Vec F S4096x256 .f32) (y11 : Vec F S4096x256 .f32) (y13 : Vec F S4096x256 .f32) (y14 : Vec F S4096x256 .f32) (y15 : Vec F S4096x128 .f32) (h1 : arg1.view.read (Elt F) X_arg1 = x1) (h2 : arg2.view.read (Elt F) X_arg2 = x2) (h3 : arg3.view.read (Elt F) X_arg3 = x3) (h4 : arg4.view.read (Elt F) X_arg4 = x4) (h5 : arg5.view.read (Elt F) X_arg5 = x5) (h6 : arg6.view.read (Elt F) X_arg6 = x6) (h7 : arg7.view.read (Elt F) X_arg7 = x7) (h8 : arg8.view.read (Elt F) X_arg8 = x8) (h9 : arg9.view.read (Elt F) X_arg9 = x9) (e10 : arg10.view.read (Elt F) f_arg10 = mix (usC x2 y13 x5 y14 x6) y10 k.val) (e11 : arg11.view.read (Elt F) f_arg11 = mix (rC x2 y13 x5 y14 x6 x7 x8 x9) y11 k.val) (e13 : arg13.view.read (Elt F) f_arg13 = mix (gC x1 x3) y13 k.val) (e14 : arg14.view.read (Elt F) f_arg14 = mix (uC x1 x4) y14 k.val) (e15 : arg15.view.read (Elt F) f_arg15 = mix (mC x2 y13 x5 y14 x6 x7 x8 x9 y15) y15 k.val) :
    arg10.view.read (Elt F) (arg10.view.writes (Elt F) f_arg10 (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h2 X_arg1 X_arg2 X_arg3 X_arg4 X_arg5 X_arg6 X_arg7 X_arg8 X_arg9 k f_arg10 f_arg11 f_arg13 f_arg14 f_arg15).1) = mix (usC x2 y13 x5 y14 x6) y10 (k.val + 1) ∧
    arg11.view.read (Elt F) (arg11.view.writes (Elt F) f_arg11 (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h2 X_arg1 X_arg2 X_arg3 X_arg4 X_arg5 X_arg6 X_arg7 X_arg8 X_arg9 k f_arg10 f_arg11 f_arg13 f_arg14 f_arg15).2.1) = mix (rC x2 y13 x5 y14 x6 x7 x8 x9) y11 (k.val + 1) ∧
    arg13.view.read (Elt F) (arg13.view.writes (Elt F) f_arg13 (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h2 X_arg1 X_arg2 X_arg3 X_arg4 X_arg5 X_arg6 X_arg7 X_arg8 X_arg9 k f_arg10 f_arg11 f_arg13 f_arg14 f_arg15).2.2.1) = mix (gC x1 x3) y13 (k.val + 1) ∧
    arg14.view.read (Elt F) (arg14.view.writes (Elt F) f_arg14 (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h2 X_arg1 X_arg2 X_arg3 X_arg4 X_arg5 X_arg6 X_arg7 X_arg8 X_arg9 k f_arg10 f_arg11 f_arg13 f_arg14 f_arg15).2.2.2.1) = mix (uC x1 x4) y14 (k.val + 1) ∧
    arg15.view.read (Elt F) (arg15.view.writes (Elt F) f_arg15 (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h2 X_arg1 X_arg2 X_arg3 X_arg4 X_arg5 X_arg6 X_arg7 X_arg8 X_arg9 k f_arg10 f_arg11 f_arg13 f_arg14 f_arg15).2.2.2.2) = mix (mC x2 y13 x5 y14 x6 x7 x8 x9 y15) y15 (k.val + 1) := by
  have hk : k.val < 4 := Nat.lt_of_lt_of_le k.isLt k0_t1_abs.2.1
  have o1 : k0_off1 k = ![1024 * k.val, 0] := off1 k
  have o2 : k0_off2 k = ![1024 * k.val, 0] := off2 k
  have o3 : k0_off3 k = ![1024 * k.val, 0] := off3 k
  have z : (![0, 0] : Fin 2 → ℕ) = fun _ => 0 := by funext a; match a with | ⟨0, _⟩ => rfl | ⟨1, _⟩ => rfl
  unfold tripL_k0_t1 trip_k0_t1
  dsimp only
  have r2 := readAt_band _ _ _ h2 ⟨k.val, hk⟩ o1 (k0_off1_inb i k k0_h2)
  have r13 := readAt_mix _ _ _ _ ⟨k.val, hk⟩ e13 o2 (k0_off2_inb i k k0_h2)
  have r14 := readAt_mix _ _ _ _ ⟨k.val, hk⟩ e14 o2 (k0_off2_inb i k k0_h2)
  have r5 := readAt_all _ _ _ h5 z inb_S1x256_S1x256_0_0
  have r6 := readAt_all _ _ _ h6 z inb_S1x256_S1x256_0_0
  have r7 := readAt_all _ _ _ h7 z inb_S1x256_S1x256_0_0
  have r8 := readAt_all _ _ _ h8 z inb_S256x256_S256x256_0_0
  have r9 := readAt_all _ _ _ h9 z inb_S512x256_S512x256_0_0
  have r15 := readAt_mix _ _ _ _ ⟨k.val, hk⟩ e15 o1 (k0_off1_inb i k k0_h2)
  have r1 := readAt_band _ _ _ h1 ⟨k.val, hk⟩ o3 (k0_off3_inb i k k0_h2)
  have r3 := readAt_all _ _ _ h3 z inb_S3584x256_S3584x256_0_0
  have r4 := readAt_all _ _ _ h4 z inb_S3584x256_S3584x256_0_0
  refine ⟨store_band _ _ _ _ ⟨k.val, hk⟩ o2 _ _ ?_ e10, store_band _ _ _ _ ⟨k.val, hk⟩ o2 _ _ ?_ e11, store_band _ _ _ _ ⟨k.val, hk⟩ o2 _ _ ?_ e13, store_band _ _ _ _ ⟨k.val, hk⟩ o2 _ _ ?_ e14, store_band _ _ _ _ ⟨k.val, hk⟩ o1 _ _ ?_ e15⟩
  · unfold usC; exact congr (congr (congr (congr (congrArg k0_pay7 r2) r13) r5) r14) r6
  · unfold rC
    rw [← r2, ← r13, ← r14, ← r5, ← r6, ← r7, ← r8, ← r9]; rfl
  · unfold gC; rw [← r1, ← r3]; rfl
  · unfold uC; rw [← r1, ← r4]; rfl
  · unfold mC; rw [← r2, ← r13, ← r14, ← r5, ← r6, ← r7, ← r8, ← r9, ← r15]; rfl

theorem trip_t2 (𝒱 : Variants) (c : Dev nD) (bd : Option 𝒱.V) (i : grid0.Coords) (arg1 : Memref sig .tc .vmem S4096x3584 .i8) (harg1 : arg1.IsWhole) (arg2 : Memref sig .tc .vmem S4096x128 .f32) (harg2 : arg2.IsWhole) (arg3 : Memref sig .tc .vmem S3584x256 .i8) (harg3 : arg3.IsWhole) (arg4 : Memref sig .tc .vmem S3584x256 .i8) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S256x256 .bf16) (harg8 : arg8.IsWhole) (arg9 : Memref sig .tc .vmem S512x256 .bf16) (harg9 : arg9.IsWhole) (arg10 : Memref sig .tc .vmem S4096x256 .f32) (harg10 : arg10.IsWhole) (arg11 : Memref sig .tc .vmem S4096x256 .f32) (harg11 : arg11.IsWhole) (arg12 : Memref sig .tc .vmem S4096x128 .f32) (harg12 : arg12.IsWhole) (arg13 : Memref sig .tc .vmem S4096x256 .f32) (harg13 : arg13.IsWhole) (arg14 : Memref sig .tc .vmem S4096x256 .f32) (harg14 : arg14.IsWhole) (arg15 : Memref sig .tc .vmem S4096x128 .f32) (harg15 : arg15.IsWhole) (k0_h3 : k0_cond3 i = 1#1) (X_arg2 : BufTy.Contents (Elt F) arg2.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg13 : BufTy.Contents (Elt F) arg13.view.ty) (X_arg14 : BufTy.Contents (Elt F) arg14.view.ty) (k : Fin k0_t2_loop.trips) (f_arg10 : BufTy.Contents (Elt F) arg10.view.ty) (f_arg11 : BufTy.Contents (Elt F) arg11.view.ty) (f_arg12 : BufTy.Contents (Elt F) arg12.view.ty) (f_arg15 : BufTy.Contents (Elt F) arg15.view.ty) (x2 : Vec F S4096x128 .f32) (x5 : Vec F S1x256 .f32) (x6 : Vec F S1x256 .f32) (x7 : Vec F S1x256 .f32) (x8 : Vec F S256x256 .bf16) (x9 : Vec F S512x256 .bf16) (x13 : Vec F S4096x256 .f32) (x14 : Vec F S4096x256 .f32) (y10 : Vec F S4096x256 .f32) (y11 : Vec F S4096x256 .f32) (y12 : Vec F S4096x128 .f32) (y15 : Vec F S4096x128 .f32) (h2 : arg2.view.read (Elt F) X_arg2 = x2) (h5 : arg5.view.read (Elt F) X_arg5 = x5) (h6 : arg6.view.read (Elt F) X_arg6 = x6) (h7 : arg7.view.read (Elt F) X_arg7 = x7) (h8 : arg8.view.read (Elt F) X_arg8 = x8) (h9 : arg9.view.read (Elt F) X_arg9 = x9) (h13 : arg13.view.read (Elt F) X_arg13 = x13) (h14 : arg14.view.read (Elt F) X_arg14 = x14) (e10 : arg10.view.read (Elt F) f_arg10 = mix (usC x2 x13 x5 x14 x6) y10 k.val) (e11 : arg11.view.read (Elt F) f_arg11 = mix (rC x2 x13 x5 x14 x6 x7 x8 x9) y11 k.val) (e12 : arg12.view.read (Elt F) f_arg12 = mix (sC (mC x2 x13 x5 x14 x6 x7 x8 x9 y15)) y12 k.val) (e15 : arg15.view.read (Elt F) f_arg15 = mix (mC x2 x13 x5 x14 x6 x7 x8 x9 y15) y15 k.val) :
    arg10.view.read (Elt F) (arg10.view.writes (Elt F) f_arg10 (tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 X_arg2 X_arg5 X_arg6 X_arg7 X_arg8 X_arg9 X_arg13 X_arg14 k f_arg10 f_arg11 f_arg12 f_arg15).1) = mix (usC x2 x13 x5 x14 x6) y10 (k.val + 1) ∧
    arg11.view.read (Elt F) (arg11.view.writes (Elt F) f_arg11 (tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 X_arg2 X_arg5 X_arg6 X_arg7 X_arg8 X_arg9 X_arg13 X_arg14 k f_arg10 f_arg11 f_arg12 f_arg15).2.1) = mix (rC x2 x13 x5 x14 x6 x7 x8 x9) y11 (k.val + 1) ∧
    arg12.view.read (Elt F) (arg12.view.writes (Elt F) f_arg12 (tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 X_arg2 X_arg5 X_arg6 X_arg7 X_arg8 X_arg9 X_arg13 X_arg14 k f_arg10 f_arg11 f_arg12 f_arg15).2.2.1) = mix (sC (mC x2 x13 x5 x14 x6 x7 x8 x9 y15)) y12 (k.val + 1) ∧
    arg15.view.read (Elt F) (arg15.view.writes (Elt F) f_arg15 (tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 X_arg2 X_arg5 X_arg6 X_arg7 X_arg8 X_arg9 X_arg13 X_arg14 k f_arg10 f_arg11 f_arg12 f_arg15).2.2.2) = mix (mC x2 x13 x5 x14 x6 x7 x8 x9 y15) y15 (k.val + 1) := by
  have hk : k.val < 4 := Nat.lt_of_lt_of_le k.isLt k0_t2_abs.2.1
  have o4 : k0_off4 k = ![1024 * k.val, 0] := off4 k
  have o5 : k0_off5 k = ![1024 * k.val, 0] := off5 k
  have z : (![0, 0] : Fin 2 → ℕ) = fun _ => 0 := by funext a; match a with | ⟨0, _⟩ => rfl | ⟨1, _⟩ => rfl
  unfold tripL_k0_t2 trip_k0_t2
  dsimp only
  have r2 := readAt_band _ _ _ h2 ⟨k.val, hk⟩ o4 (k0_off4_inb i k k0_h3)
  have r13 := readAt_band _ _ _ h13 ⟨k.val, hk⟩ o5 (k0_off5_inb i k k0_h3)
  have r14 := readAt_band _ _ _ h14 ⟨k.val, hk⟩ o5 (k0_off5_inb i k k0_h3)
  have r5 := readAt_all _ _ _ h5 z inb_S1x256_S1x256_0_0
  have r6 := readAt_all _ _ _ h6 z inb_S1x256_S1x256_0_0
  have r7 := readAt_all _ _ _ h7 z inb_S1x256_S1x256_0_0
  have r8 := readAt_all _ _ _ h8 z inb_S256x256_S256x256_0_0
  have r9 := readAt_all _ _ _ h9 z inb_S512x256_S512x256_0_0
  have r15 := readAt_mix _ _ _ _ ⟨k.val, hk⟩ e15 o4 (k0_off4_inb i k k0_h3)
  refine ⟨store_band _ _ _ _ ⟨k.val, hk⟩ o5 _ _ ?_ e10, store_band _ _ _ _ ⟨k.val, hk⟩ o5 _ _ ?_ e11, store_band _ _ _ _ ⟨k.val, hk⟩ o4 _ _ ?_ e12, store_band _ _ _ _ ⟨k.val, hk⟩ o4 _ _ ?_ e15⟩
  · unfold usC; rw [← r2, ← r13, ← r14, ← r5, ← r6]; rfl
  · unfold rC; rw [← r2, ← r13, ← r14, ← r5, ← r6, ← r7, ← r8, ← r9]; rfl
  · unfold sC
    unfold trip_k0_t2.sl.r_4 trip_k0_t2.sl.r_5 trip_k0_t2.sl.v91 trip_k0_t2.sl.HW_arg15_1
    rw [View.readCov_cons_toLoadRect]
    unfold mC; rw [← r2, ← r13, ← r14, ← r5, ← r6, ← r7, ← r8, ← r9, ← r15]; rfl
  · unfold mC; rw [← r2, ← r13, ← r14, ← r5, ← r6, ← r7, ← r8, ← r9, ← r15]; rfl

theorem loop_t1 (𝒱 : Variants) (c : Dev nD) (bd : Option 𝒱.V) (i : grid0.Coords) (arg1 : Memref sig .tc .vmem S4096x3584 .i8) (harg1 : arg1.IsWhole) (arg2 : Memref sig .tc .vmem S4096x128 .f32) (harg2 : arg2.IsWhole) (arg3 : Memref sig .tc .vmem S3584x256 .i8) (harg3 : arg3.IsWhole) (arg4 : Memref sig .tc .vmem S3584x256 .i8) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S256x256 .bf16) (harg8 : arg8.IsWhole) (arg9 : Memref sig .tc .vmem S512x256 .bf16) (harg9 : arg9.IsWhole) (arg10 : Memref sig .tc .vmem S4096x256 .f32) (harg10 : arg10.IsWhole) (arg11 : Memref sig .tc .vmem S4096x256 .f32) (harg11 : arg11.IsWhole) (arg12 : Memref sig .tc .vmem S4096x128 .f32) (harg12 : arg12.IsWhole) (arg13 : Memref sig .tc .vmem S4096x256 .f32) (harg13 : arg13.IsWhole) (arg14 : Memref sig .tc .vmem S4096x256 .f32) (harg14 : arg14.IsWhole) (arg15 : Memref sig .tc .vmem S4096x128 .f32) (harg15 : arg15.IsWhole) (k0_h2 : k0_cond2 i = 1#1) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (G_arg10 : BufTy.Contents (Elt F) arg10.view.ty) (G_arg11 : BufTy.Contents (Elt F) arg11.view.ty) (G_arg13 : BufTy.Contents (Elt F) arg13.view.ty) (G_arg14 : BufTy.Contents (Elt F) arg14.view.ty) (G_arg15 : BufTy.Contents (Elt F) arg15.view.ty) (x1 : Vec F S4096x3584 .i8) (x2 : Vec F S4096x128 .f32) (x3 : Vec F S3584x256 .i8) (x4 : Vec F S3584x256 .i8) (x5 : Vec F S1x256 .f32) (x6 : Vec F S1x256 .f32) (x7 : Vec F S1x256 .f32) (x8 : Vec F S256x256 .bf16) (x9 : Vec F S512x256 .bf16) (y10 : Vec F S4096x256 .f32) (y11 : Vec F S4096x256 .f32) (y13 : Vec F S4096x256 .f32) (y14 : Vec F S4096x256 .f32) (y15 : Vec F S4096x128 .f32) (h1 : arg1.view.read (Elt F) X_arg1 = x1) (h2 : arg2.view.read (Elt F) X_arg2 = x2) (h3 : arg3.view.read (Elt F) X_arg3 = x3) (h4 : arg4.view.read (Elt F) X_arg4 = x4) (h5 : arg5.view.read (Elt F) X_arg5 = x5) (h6 : arg6.view.read (Elt F) X_arg6 = x6) (h7 : arg7.view.read (Elt F) X_arg7 = x7) (h8 : arg8.view.read (Elt F) X_arg8 = x8) (h9 : arg9.view.read (Elt F) X_arg9 = x9) (g10 : arg10.view.read (Elt F) G_arg10 = y10) (g11 : arg11.view.read (Elt F) G_arg11 = y11) (g13 : arg13.view.read (Elt F) G_arg13 = y13) (g14 : arg14.view.read (Elt F) G_arg14 = y14) (g15 : arg15.view.read (Elt F) G_arg15 = y15) (n : ℕ) (hn : n ≤ k0_t1_loop.trips) :
    arg10.view.read (Elt F) (arg10.view.writes (Elt F) G_arg10 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h2 X_arg1 X_arg2 X_arg3 X_arg4 X_arg5 X_arg6 X_arg7 X_arg8 X_arg9 G_arg10 G_arg11 G_arg13 G_arg14 G_arg15 n).1) = mix (usC x2 y13 x5 y14 x6) y10 n ∧
    arg11.view.read (Elt F) (arg11.view.writes (Elt F) G_arg11 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h2 X_arg1 X_arg2 X_arg3 X_arg4 X_arg5 X_arg6 X_arg7 X_arg8 X_arg9 G_arg10 G_arg11 G_arg13 G_arg14 G_arg15 n).2.1) = mix (rC x2 y13 x5 y14 x6 x7 x8 x9) y11 n ∧
    arg13.view.read (Elt F) (arg13.view.writes (Elt F) G_arg13 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h2 X_arg1 X_arg2 X_arg3 X_arg4 X_arg5 X_arg6 X_arg7 X_arg8 X_arg9 G_arg10 G_arg11 G_arg13 G_arg14 G_arg15 n).2.2.1) = mix (gC x1 x3) y13 n ∧
    arg14.view.read (Elt F) (arg14.view.writes (Elt F) G_arg14 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h2 X_arg1 X_arg2 X_arg3 X_arg4 X_arg5 X_arg6 X_arg7 X_arg8 X_arg9 G_arg10 G_arg11 G_arg13 G_arg14 G_arg15 n).2.2.2.1) = mix (uC x1 x4) y14 n ∧
    arg15.view.read (Elt F) (arg15.view.writes (Elt F) G_arg15 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h2 X_arg1 X_arg2 X_arg3 X_arg4 X_arg5 X_arg6 X_arg7 X_arg8 X_arg9 G_arg10 G_arg11 G_arg13 G_arg14 G_arg15 n).2.2.2.2) = mix (mC x2 y13 x5 y14 x6 x7 x8 x9 y15) y15 n := by
  induction n with
  | zero =>
    simp only [pb_k0_t1, View.writes_nil, mix_zero]
    exact ⟨g10, g11, g13, g14, g15⟩
  | succ n ih =>
    obtain ⟨i10, i11, i13, i14, i15⟩ := ih (Nat.le_of_succ_le hn)
    have hs := pb_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h2 X_arg1 X_arg2 X_arg3 X_arg4 X_arg5 X_arg6 X_arg7 X_arg8 X_arg9 G_arg10 G_arg11 G_arg13 G_arg14 G_arg15 ⟨n, hn⟩
    rw [show (n + 1) = (⟨n, hn⟩ : Fin k0_t1_loop.trips).val + 1 from rfl, hs]
    simp only [View.writes_append]
    exact trip_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h2 X_arg1 X_arg2 X_arg3 X_arg4 X_arg5 X_arg6 X_arg7 X_arg8 X_arg9 ⟨n, hn⟩ _ _ _ _ _ x1 x2 x3 x4 x5 x6 x7 x8 x9 y10 y11 y13 y14 y15 h1 h2 h3 h4 h5 h6 h7 h8 h9 i10 i11 i13 i14 i15

theorem loop_t2 (𝒱 : Variants) (c : Dev nD) (bd : Option 𝒱.V) (i : grid0.Coords) (arg1 : Memref sig .tc .vmem S4096x3584 .i8) (harg1 : arg1.IsWhole) (arg2 : Memref sig .tc .vmem S4096x128 .f32) (harg2 : arg2.IsWhole) (arg3 : Memref sig .tc .vmem S3584x256 .i8) (harg3 : arg3.IsWhole) (arg4 : Memref sig .tc .vmem S3584x256 .i8) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S256x256 .bf16) (harg8 : arg8.IsWhole) (arg9 : Memref sig .tc .vmem S512x256 .bf16) (harg9 : arg9.IsWhole) (arg10 : Memref sig .tc .vmem S4096x256 .f32) (harg10 : arg10.IsWhole) (arg11 : Memref sig .tc .vmem S4096x256 .f32) (harg11 : arg11.IsWhole) (arg12 : Memref sig .tc .vmem S4096x128 .f32) (harg12 : arg12.IsWhole) (arg13 : Memref sig .tc .vmem S4096x256 .f32) (harg13 : arg13.IsWhole) (arg14 : Memref sig .tc .vmem S4096x256 .f32) (harg14 : arg14.IsWhole) (arg15 : Memref sig .tc .vmem S4096x128 .f32) (harg15 : arg15.IsWhole) (k0_h3 : k0_cond3 i = 1#1) (X_arg2 : BufTy.Contents (Elt F) arg2.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg13 : BufTy.Contents (Elt F) arg13.view.ty) (X_arg14 : BufTy.Contents (Elt F) arg14.view.ty) (G_arg10 : BufTy.Contents (Elt F) arg10.view.ty) (G_arg11 : BufTy.Contents (Elt F) arg11.view.ty) (G_arg12 : BufTy.Contents (Elt F) arg12.view.ty) (G_arg15 : BufTy.Contents (Elt F) arg15.view.ty) (x2 : Vec F S4096x128 .f32) (x5 : Vec F S1x256 .f32) (x6 : Vec F S1x256 .f32) (x7 : Vec F S1x256 .f32) (x8 : Vec F S256x256 .bf16) (x9 : Vec F S512x256 .bf16) (x13 : Vec F S4096x256 .f32) (x14 : Vec F S4096x256 .f32) (y10 : Vec F S4096x256 .f32) (y11 : Vec F S4096x256 .f32) (y12 : Vec F S4096x128 .f32) (y15 : Vec F S4096x128 .f32) (h2 : arg2.view.read (Elt F) X_arg2 = x2) (h5 : arg5.view.read (Elt F) X_arg5 = x5) (h6 : arg6.view.read (Elt F) X_arg6 = x6) (h7 : arg7.view.read (Elt F) X_arg7 = x7) (h8 : arg8.view.read (Elt F) X_arg8 = x8) (h9 : arg9.view.read (Elt F) X_arg9 = x9) (h13 : arg13.view.read (Elt F) X_arg13 = x13) (h14 : arg14.view.read (Elt F) X_arg14 = x14) (g10 : arg10.view.read (Elt F) G_arg10 = y10) (g11 : arg11.view.read (Elt F) G_arg11 = y11) (g12 : arg12.view.read (Elt F) G_arg12 = y12) (g15 : arg15.view.read (Elt F) G_arg15 = y15) (n : ℕ) (hn : n ≤ k0_t2_loop.trips) :
    arg10.view.read (Elt F) (arg10.view.writes (Elt F) G_arg10 (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 X_arg2 X_arg5 X_arg6 X_arg7 X_arg8 X_arg9 X_arg13 X_arg14 G_arg10 G_arg11 G_arg12 G_arg15 n).1) = mix (usC x2 x13 x5 x14 x6) y10 n ∧
    arg11.view.read (Elt F) (arg11.view.writes (Elt F) G_arg11 (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 X_arg2 X_arg5 X_arg6 X_arg7 X_arg8 X_arg9 X_arg13 X_arg14 G_arg10 G_arg11 G_arg12 G_arg15 n).2.1) = mix (rC x2 x13 x5 x14 x6 x7 x8 x9) y11 n ∧
    arg12.view.read (Elt F) (arg12.view.writes (Elt F) G_arg12 (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 X_arg2 X_arg5 X_arg6 X_arg7 X_arg8 X_arg9 X_arg13 X_arg14 G_arg10 G_arg11 G_arg12 G_arg15 n).2.2.1) = mix (sC (mC x2 x13 x5 x14 x6 x7 x8 x9 y15)) y12 n ∧
    arg15.view.read (Elt F) (arg15.view.writes (Elt F) G_arg15 (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 X_arg2 X_arg5 X_arg6 X_arg7 X_arg8 X_arg9 X_arg13 X_arg14 G_arg10 G_arg11 G_arg12 G_arg15 n).2.2.2) = mix (mC x2 x13 x5 x14 x6 x7 x8 x9 y15) y15 n := by
  induction n with
  | zero =>
    simp only [pb_k0_t2, View.writes_nil, mix_zero]
    exact ⟨g10, g11, g12, g15⟩
  | succ n ih =>
    obtain ⟨i10, i11, i12, i15⟩ := ih (Nat.le_of_succ_le hn)
    have hs := pb_k0_t2_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 X_arg2 X_arg5 X_arg6 X_arg7 X_arg8 X_arg9 X_arg13 X_arg14 G_arg10 G_arg11 G_arg12 G_arg15 ⟨n, hn⟩
    rw [show (n + 1) = (⟨n, hn⟩ : Fin k0_t2_loop.trips).val + 1 from rfl, hs]
    simp only [View.writes_append]
    exact trip_t2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 X_arg2 X_arg5 X_arg6 X_arg7 X_arg8 X_arg9 X_arg13 X_arg14 ⟨n, hn⟩ _ _ _ _ x2 x5 x6 x7 x8 x9 x13 x14 y10 y11 y12 y15 h2 h5 h6 h7 h8 h9 h13 h14 i10 i11 i12 i15

theorem done_t1 (𝒱 : Variants) (c : Dev nD) (bd : Option 𝒱.V) (i : grid0.Coords) (arg1 : Memref sig .tc .vmem S4096x3584 .i8) (harg1 : arg1.IsWhole) (arg2 : Memref sig .tc .vmem S4096x128 .f32) (harg2 : arg2.IsWhole) (arg3 : Memref sig .tc .vmem S3584x256 .i8) (harg3 : arg3.IsWhole) (arg4 : Memref sig .tc .vmem S3584x256 .i8) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S256x256 .bf16) (harg8 : arg8.IsWhole) (arg9 : Memref sig .tc .vmem S512x256 .bf16) (harg9 : arg9.IsWhole) (arg10 : Memref sig .tc .vmem S4096x256 .f32) (harg10 : arg10.IsWhole) (arg11 : Memref sig .tc .vmem S4096x256 .f32) (harg11 : arg11.IsWhole) (arg12 : Memref sig .tc .vmem S4096x128 .f32) (harg12 : arg12.IsWhole) (arg13 : Memref sig .tc .vmem S4096x256 .f32) (harg13 : arg13.IsWhole) (arg14 : Memref sig .tc .vmem S4096x256 .f32) (harg14 : arg14.IsWhole) (arg15 : Memref sig .tc .vmem S4096x128 .f32) (harg15 : arg15.IsWhole) (k0_h2 : k0_cond2 i = 1#1) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (G_arg10 : BufTy.Contents (Elt F) arg10.view.ty) (G_arg11 : BufTy.Contents (Elt F) arg11.view.ty) (G_arg13 : BufTy.Contents (Elt F) arg13.view.ty) (G_arg14 : BufTy.Contents (Elt F) arg14.view.ty) (G_arg15 : BufTy.Contents (Elt F) arg15.view.ty) (x1 : Vec F S4096x3584 .i8) (x2 : Vec F S4096x128 .f32) (x3 : Vec F S3584x256 .i8) (x4 : Vec F S3584x256 .i8) (x5 : Vec F S1x256 .f32) (x6 : Vec F S1x256 .f32) (x7 : Vec F S1x256 .f32) (x8 : Vec F S256x256 .bf16) (x9 : Vec F S512x256 .bf16) (y10 : Vec F S4096x256 .f32) (y11 : Vec F S4096x256 .f32) (y13 : Vec F S4096x256 .f32) (y14 : Vec F S4096x256 .f32) (y15 : Vec F S4096x128 .f32) (h1 : arg1.view.read (Elt F) X_arg1 = x1) (h2 : arg2.view.read (Elt F) X_arg2 = x2) (h3 : arg3.view.read (Elt F) X_arg3 = x3) (h4 : arg4.view.read (Elt F) X_arg4 = x4) (h5 : arg5.view.read (Elt F) X_arg5 = x5) (h6 : arg6.view.read (Elt F) X_arg6 = x6) (h7 : arg7.view.read (Elt F) X_arg7 = x7) (h8 : arg8.view.read (Elt F) X_arg8 = x8) (h9 : arg9.view.read (Elt F) X_arg9 = x9) (g10 : arg10.view.read (Elt F) G_arg10 = y10) (g11 : arg11.view.read (Elt F) G_arg11 = y11) (g13 : arg13.view.read (Elt F) G_arg13 = y13) (g14 : arg14.view.read (Elt F) G_arg14 = y14) (g15 : arg15.view.read (Elt F) G_arg15 = y15) :
    arg10.view.read (Elt F) (arg10.view.writes (Elt F) G_arg10 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h2 X_arg1 X_arg2 X_arg3 X_arg4 X_arg5 X_arg6 X_arg7 X_arg8 X_arg9 G_arg10 G_arg11 G_arg13 G_arg14 G_arg15 k0_t1_loop.trips).1) = glue (usC x2 y13 x5 y14 x6) ∧
    arg11.view.read (Elt F) (arg11.view.writes (Elt F) G_arg11 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h2 X_arg1 X_arg2 X_arg3 X_arg4 X_arg5 X_arg6 X_arg7 X_arg8 X_arg9 G_arg10 G_arg11 G_arg13 G_arg14 G_arg15 k0_t1_loop.trips).2.1) = glue (rC x2 y13 x5 y14 x6 x7 x8 x9) ∧
    arg13.view.read (Elt F) (arg13.view.writes (Elt F) G_arg13 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h2 X_arg1 X_arg2 X_arg3 X_arg4 X_arg5 X_arg6 X_arg7 X_arg8 X_arg9 G_arg10 G_arg11 G_arg13 G_arg14 G_arg15 k0_t1_loop.trips).2.2.1) = glue (gC x1 x3) ∧
    arg14.view.read (Elt F) (arg14.view.writes (Elt F) G_arg14 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h2 X_arg1 X_arg2 X_arg3 X_arg4 X_arg5 X_arg6 X_arg7 X_arg8 X_arg9 G_arg10 G_arg11 G_arg13 G_arg14 G_arg15 k0_t1_loop.trips).2.2.2.1) = glue (uC x1 x4) ∧
    arg15.view.read (Elt F) (arg15.view.writes (Elt F) G_arg15 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h2 X_arg1 X_arg2 X_arg3 X_arg4 X_arg5 X_arg6 X_arg7 X_arg8 X_arg9 G_arg10 G_arg11 G_arg13 G_arg14 G_arg15 k0_t1_loop.trips).2.2.2.2) = glue (mC x2 y13 x5 y14 x6 x7 x8 x9 y15) := by
  have hl := loop_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h2 X_arg1 X_arg2 X_arg3 X_arg4 X_arg5 X_arg6 X_arg7 X_arg8 X_arg9 G_arg10 G_arg11 G_arg13 G_arg14 G_arg15 x1 x2 x3 x4 x5 x6 x7 x8 x9 y10 y11 y13 y14 y15 h1 h2 h3 h4 h5 h6 h7 h8 h9 g10 g11 g13 g14 g15 k0_t1_loop.trips le_rfl
  have e : ∀ {N : ℕ} (g : Fin 4 → (⟨2, ![1024, N]⟩ : Shape).Idx → Elt F .f32) x, mix g x k0_t1_loop.trips = glue g := by
    intro N g x
    rw [show k0_t1_loop.trips = 4 from by decide +kernel]; exact mix_four g x
  obtain ⟨i10, i11, i13, i14, i15⟩ := hl
  exact ⟨i10.trans (e _ _), i11.trans (e _ _), i13.trans (e _ _), i14.trans (e _ _), i15.trans (e _ _)⟩

theorem done_t2 (𝒱 : Variants) (c : Dev nD) (bd : Option 𝒱.V) (i : grid0.Coords) (arg1 : Memref sig .tc .vmem S4096x3584 .i8) (harg1 : arg1.IsWhole) (arg2 : Memref sig .tc .vmem S4096x128 .f32) (harg2 : arg2.IsWhole) (arg3 : Memref sig .tc .vmem S3584x256 .i8) (harg3 : arg3.IsWhole) (arg4 : Memref sig .tc .vmem S3584x256 .i8) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S256x256 .bf16) (harg8 : arg8.IsWhole) (arg9 : Memref sig .tc .vmem S512x256 .bf16) (harg9 : arg9.IsWhole) (arg10 : Memref sig .tc .vmem S4096x256 .f32) (harg10 : arg10.IsWhole) (arg11 : Memref sig .tc .vmem S4096x256 .f32) (harg11 : arg11.IsWhole) (arg12 : Memref sig .tc .vmem S4096x128 .f32) (harg12 : arg12.IsWhole) (arg13 : Memref sig .tc .vmem S4096x256 .f32) (harg13 : arg13.IsWhole) (arg14 : Memref sig .tc .vmem S4096x256 .f32) (harg14 : arg14.IsWhole) (arg15 : Memref sig .tc .vmem S4096x128 .f32) (harg15 : arg15.IsWhole) (k0_h3 : k0_cond3 i = 1#1) (X_arg2 : BufTy.Contents (Elt F) arg2.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg13 : BufTy.Contents (Elt F) arg13.view.ty) (X_arg14 : BufTy.Contents (Elt F) arg14.view.ty) (G_arg10 : BufTy.Contents (Elt F) arg10.view.ty) (G_arg11 : BufTy.Contents (Elt F) arg11.view.ty) (G_arg12 : BufTy.Contents (Elt F) arg12.view.ty) (G_arg15 : BufTy.Contents (Elt F) arg15.view.ty) (x2 : Vec F S4096x128 .f32) (x5 : Vec F S1x256 .f32) (x6 : Vec F S1x256 .f32) (x7 : Vec F S1x256 .f32) (x8 : Vec F S256x256 .bf16) (x9 : Vec F S512x256 .bf16) (x13 : Vec F S4096x256 .f32) (x14 : Vec F S4096x256 .f32) (y10 : Vec F S4096x256 .f32) (y11 : Vec F S4096x256 .f32) (y12 : Vec F S4096x128 .f32) (y15 : Vec F S4096x128 .f32) (h2 : arg2.view.read (Elt F) X_arg2 = x2) (h5 : arg5.view.read (Elt F) X_arg5 = x5) (h6 : arg6.view.read (Elt F) X_arg6 = x6) (h7 : arg7.view.read (Elt F) X_arg7 = x7) (h8 : arg8.view.read (Elt F) X_arg8 = x8) (h9 : arg9.view.read (Elt F) X_arg9 = x9) (h13 : arg13.view.read (Elt F) X_arg13 = x13) (h14 : arg14.view.read (Elt F) X_arg14 = x14) (g10 : arg10.view.read (Elt F) G_arg10 = y10) (g11 : arg11.view.read (Elt F) G_arg11 = y11) (g12 : arg12.view.read (Elt F) G_arg12 = y12) (g15 : arg15.view.read (Elt F) G_arg15 = y15) :
    arg10.view.read (Elt F) (arg10.view.writes (Elt F) G_arg10 (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 X_arg2 X_arg5 X_arg6 X_arg7 X_arg8 X_arg9 X_arg13 X_arg14 G_arg10 G_arg11 G_arg12 G_arg15 k0_t2_loop.trips).1) = glue (usC x2 x13 x5 x14 x6) ∧
    arg11.view.read (Elt F) (arg11.view.writes (Elt F) G_arg11 (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 X_arg2 X_arg5 X_arg6 X_arg7 X_arg8 X_arg9 X_arg13 X_arg14 G_arg10 G_arg11 G_arg12 G_arg15 k0_t2_loop.trips).2.1) = glue (rC x2 x13 x5 x14 x6 x7 x8 x9) ∧
    arg12.view.read (Elt F) (arg12.view.writes (Elt F) G_arg12 (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 X_arg2 X_arg5 X_arg6 X_arg7 X_arg8 X_arg9 X_arg13 X_arg14 G_arg10 G_arg11 G_arg12 G_arg15 k0_t2_loop.trips).2.2.1) = glue (sC (mC x2 x13 x5 x14 x6 x7 x8 x9 y15)) ∧
    arg15.view.read (Elt F) (arg15.view.writes (Elt F) G_arg15 (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 X_arg2 X_arg5 X_arg6 X_arg7 X_arg8 X_arg9 X_arg13 X_arg14 G_arg10 G_arg11 G_arg12 G_arg15 k0_t2_loop.trips).2.2.2) = glue (mC x2 x13 x5 x14 x6 x7 x8 x9 y15) := by
  have hl := loop_t2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 X_arg2 X_arg5 X_arg6 X_arg7 X_arg8 X_arg9 X_arg13 X_arg14 G_arg10 G_arg11 G_arg12 G_arg15 x2 x5 x6 x7 x8 x9 x13 x14 y10 y11 y12 y15 h2 h5 h6 h7 h8 h9 h13 h14 g10 g11 g12 g15 k0_t2_loop.trips le_rfl
  have e : ∀ {N : ℕ} (g : Fin 4 → (⟨2, ![1024, N]⟩ : Shape).Idx → Elt F .f32) x, mix g x k0_t2_loop.trips = glue g := by
    intro N g x
    rw [show k0_t2_loop.trips = 4 from by decide +kernel]; exact mix_four g x
  obtain ⟨i10, i11, i12, i15⟩ := hl
  exact ⟨i10.trans (e _ _), i11.trans (e _ _), i12.trans (e _ _), i15.trans (e _ _)⟩

end Cert.SharedUp.Hand
end
-- ==== Proof.UpBits.BodyA.lean ====
/- One run of the body, from what its buffers hold to what they hold afterwards (case A of three). -/
module

public import proofs.«01_k».proof.Proof.UpBits.Loop

@[expose] public section
set_option maxRecDepth 16384
set_option maxHeartbeats 1000000
noncomputable section
namespace Cert.SharedUp.Hand
open Cert.SharedUp.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]
local notation "𝕄" => MT nD τ sig Unit (Elt F) ℕ (UR sig nD τ) ℕ

open Cert.Rows

/-- One run of the body at the first point: the products start from zero. -/
theorem body_A (c : Dev nD) (i : grid0.Coords) (arg1 : Memref sig .tc .vmem S4096x3584 .i8) (harg1 : arg1.IsWhole) (arg2 : Memref sig .tc .vmem S4096x128 .f32) (harg2 : arg2.IsWhole) (arg3 : Memref sig .tc .vmem S3584x256 .i8) (harg3 : arg3.IsWhole) (arg4 : Memref sig .tc .vmem S3584x256 .i8) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S256x256 .bf16) (harg8 : arg8.IsWhole) (arg9 : Memref sig .tc .vmem S512x256 .bf16) (harg9 : arg9.IsWhole) (arg10 : Memref sig .tc .vmem S4096x256 .f32) (harg10 : arg10.IsWhole) (arg11 : Memref sig .tc .vmem S4096x256 .f32) (harg11 : arg11.IsWhole) (arg12 : Memref sig .tc .vmem S4096x128 .f32) (harg12 : arg12.IsWhole) (arg13 : Memref sig .tc .vmem S4096x256 .f32) (harg13 : arg13.IsWhole) (arg14 : Memref sig .tc .vmem S4096x256 .f32) (harg14 : arg14.IsWhole) (arg15 : Memref sig .tc .vmem S4096x128 .f32) (harg15 : arg15.IsWhole) (hc0 : cond0_0 i) (hc1 : cond0_1 i) (hc2 : ¬cond0_2 i)
    (x0 : Vec F S4096x3584 .i8) (x1 : Vec F S4096x128 .f32) (x2 : Vec F S3584x256 .i8) (x3 : Vec F S3584x256 .i8) (x4 : Vec F S1x256 .f32) (x5 : Vec F S1x256 .f32) (x6 : Vec F S1x256 .f32) (x7 : Vec F S256x256 .bf16) (x8 : Vec F S512x256 .bf16) (xi11 : Vec F S4096x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ owns (c : Thread nD τ) arg12 fullShare xi11 ∗ (∃ d, owns (c : Thread nD τ) arg13 fullShare d) ∗ (∃ d, owns (c : Thread nD τ) arg14 fullShare d) ∗ (∃ d, owns (c : Thread nD τ) arg15 fullShare d)
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (glue (usC x1 k0_pay1 x4 k0_pay2 x5)) ∗ owns (c : Thread nD τ) arg11 fullShare (glue (rC x1 k0_pay1 x4 k0_pay2 x5 x6 x7 x8)) ∗ owns (c : Thread nD τ) arg12 fullShare xi11 ∗ owns (c : Thread nD τ) arg13 fullShare (glue (gC x0 x2)) ∗ owns (c : Thread nD τ) arg14 fullShare (glue (uC x0 x3)) ∗ owns (c : Thread nD τ) arg15 fullShare (glue (mC x1 k0_pay1 x4 k0_pay2 x5 x6 x7 x8 k0_pay3))) -∗ K ⟨⟩))
    ⊢ wp frame (wpE (defs₀ (F := F)) Variants.none c none) E (cc0_shared_up i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_shared_up_eq_skeleton]; unfold cc0_shared_up_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%f11, %hf11, H11⟩, ⟨%ds0, %fs0, -, HS0⟩, ⟨%ds1, %fs1, -, HS1⟩, ⟨%ds2, %fs2, -, HS2⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg12.eq_unread hf11
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; swap; · iexact H9
    ipureintro
    refine (done_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 _ _ _ _ _ _ _ _ _ _ _ _ _ _ _ _ _ _ _ _ _ _ _ _ _ (k0_pay1 (F := F)) (k0_pay2 (F := F)) (k0_pay3 (F := F)) (harg1.read_unread _) (harg2.read_unread _) (harg3.read_unread _) (harg4.read_unread _) (harg5.read_unread _) (harg6.read_unread _) (harg7.read_unread _) (harg8.read_unread _) (harg9.read_unread _) rfl rfl ?_ ?_ ?_).1 <;> exact read_write_all _ _ _ zz _
  isplitl [H10]
  · iexists _; isplitr; swap; · iexact H10
    ipureintro
    refine (done_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 _ _ _ _ _ _ _ _ _ _ _ _ _ _ _ _ _ _ _ _ _ _ _ _ _ (k0_pay1 (F := F)) (k0_pay2 (F := F)) (k0_pay3 (F := F)) (harg1.read_unread _) (harg2.read_unread _) (harg3.read_unread _) (harg4.read_unread _) (harg5.read_unread _) (harg6.read_unread _) (harg7.read_unread _) (harg8.read_unread _) (harg9.read_unread _) rfl rfl ?_ ?_ ?_).2.1 <;> exact read_write_all _ _ _ zz _
  isplitl [H11]
  · iexists _; isplitr; · ipureintro; exact harg12.read_unread _
    iexact H11
  isplitl [HS0]
  · iexists _; isplitr; swap; · iexact HS0
    ipureintro
    rw [View.writes_append]; refine (done_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 _ _ _ _ _ _ _ _ _ _ _ _ _ _ _ _ _ _ _ _ _ _ _ _ _ (k0_pay1 (F := F)) (k0_pay2 (F := F)) (k0_pay3 (F := F)) (harg1.read_unread _) (harg2.read_unread _) (harg3.read_unread _) (harg4.read_unread _) (harg5.read_unread _) (harg6.read_unread _) (harg7.read_unread _) (harg8.read_unread _) (harg9.read_unread _) rfl rfl ?_ ?_ ?_).2.2.1 <;> exact read_write_all _ _ _ zz _
  isplitl [HS1]
  · iexists _; isplitr; swap; · iexact HS1
    ipureintro
    rw [View.writes_append]; refine (done_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 _ _ _ _ _ _ _ _ _ _ _ _ _ _ _ _ _ _ _ _ _ _ _ _ _ (k0_pay1 (F := F)) (k0_pay2 (F := F)) (k0_pay3 (F := F)) (harg1.read_unread _) (harg2.read_unread _) (harg3.read_unread _) (harg4.read_unread _) (harg5.read_unread _) (harg6.read_unread _) (harg7.read_unread _) (harg8.read_unread _) (harg9.read_unread _) rfl rfl ?_ ?_ ?_).2.2.2.1 <;> exact read_write_all _ _ _ zz _
  iexists _; isplitr; swap; · iexact HS2
  ipureintro
  rw [View.writes_append]; refine (done_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 _ _ _ _ _ _ _ _ _ _ _ _ _ _ _ _ _ _ _ _ _ _ _ _ _ (k0_pay1 (F := F)) (k0_pay2 (F := F)) (k0_pay3 (F := F)) (harg1.read_unread _) (harg2.read_unread _) (harg3.read_unread _) (harg4.read_unread _) (harg5.read_unread _) (harg6.read_unread _) (harg7.read_unread _) (harg8.read_unread _) (harg9.read_unread _) rfl rfl ?_ ?_ ?_).2.2.2.2 <;> exact read_write_all _ _ _ zz _

end Cert.SharedUp.Hand
end
-- ==== Proof.UpBits.BodyB.lean ====
/- One run of the body, from what its buffers hold to what they hold afterwards (case B of three). -/
module

public import proofs.«01_k».proof.Proof.UpBits.Loop

@[expose] public section
set_option maxRecDepth 16384
set_option maxHeartbeats 1000000
noncomputable section
namespace Cert.SharedUp.Hand
open Cert.SharedUp.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]
local notation "𝕄" => MT nD τ sig Unit (Elt F) ℕ (UR sig nD τ) ℕ

open Cert.Rows

/-- One run of the body at a later point of the products. -/
theorem body_B (c : Dev nD) (i : grid0.Coords) (arg1 : Memref sig .tc .vmem S4096x3584 .i8) (harg1 : arg1.IsWhole) (arg2 : Memref sig .tc .vmem S4096x128 .f32) (harg2 : arg2.IsWhole) (arg3 : Memref sig .tc .vmem S3584x256 .i8) (harg3 : arg3.IsWhole) (arg4 : Memref sig .tc .vmem S3584x256 .i8) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S256x256 .bf16) (harg8 : arg8.IsWhole) (arg9 : Memref sig .tc .vmem S512x256 .bf16) (harg9 : arg9.IsWhole) (arg10 : Memref sig .tc .vmem S4096x256 .f32) (harg10 : arg10.IsWhole) (arg11 : Memref sig .tc .vmem S4096x256 .f32) (harg11 : arg11.IsWhole) (arg12 : Memref sig .tc .vmem S4096x128 .f32) (harg12 : arg12.IsWhole) (arg13 : Memref sig .tc .vmem S4096x256 .f32) (harg13 : arg13.IsWhole) (arg14 : Memref sig .tc .vmem S4096x256 .f32) (harg14 : arg14.IsWhole) (arg15 : Memref sig .tc .vmem S4096x128 .f32) (harg15 : arg15.IsWhole) (hc0 : ¬cond0_0 i) (hc1 : cond0_1 i) (hc2 : ¬cond0_2 i)
    (x0 : Vec F S4096x3584 .i8) (x1 : Vec F S4096x128 .f32) (x2 : Vec F S3584x256 .i8) (x3 : Vec F S3584x256 .i8) (x4 : Vec F S1x256 .f32) (x5 : Vec F S1x256 .f32) (x6 : Vec F S1x256 .f32) (x7 : Vec F S256x256 .bf16) (x8 : Vec F S512x256 .bf16) (xs0 xs1 : Vec F S4096x256 .f32) (xs2 : Vec F S4096x128 .f32) (xi11 : Vec F S4096x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ owns (c : Thread nD τ) arg12 fullShare xi11 ∗ owns (c : Thread nD τ) arg13 fullShare xs0 ∗ owns (c : Thread nD τ) arg14 fullShare xs1 ∗ owns (c : Thread nD τ) arg15 fullShare xs2
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (glue (usC x1 xs0 x4 xs1 x5)) ∗ owns (c : Thread nD τ) arg11 fullShare (glue (rC x1 xs0 x4 xs1 x5 x6 x7 x8)) ∗ owns (c : Thread nD τ) arg12 fullShare xi11 ∗ owns (c : Thread nD τ) arg13 fullShare (glue (gC x0 x2)) ∗ owns (c : Thread nD τ) arg14 fullShare (glue (uC x0 x3)) ∗ owns (c : Thread nD τ) arg15 fullShare (glue (mC x1 xs0 x4 xs1 x5 x6 x7 x8 xs2))) -∗ K ⟨⟩))
    ⊢ wp frame (wpE (defs₀ (F := F)) Variants.none c none) E (cc0_shared_up i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_shared_up_eq_skeleton]; unfold cc0_shared_up_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%f11, %hf11, H11⟩, ⟨%fs0, %hfs0, HS0⟩, ⟨%fs1, %hfs1, HS1⟩, ⟨%fs2, %hfs2, HS2⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg12.eq_unread hf11; obtain rfl := harg13.eq_unread hfs0; obtain rfl := harg14.eq_unread hfs1; obtain rfl := harg15.eq_unread hfs2
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; swap; · iexact H9
    ipureintro
    exact (done_t1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 _ _ _ _ _ _ _ _ _ _ _ _ _ _ _ _ _ _ _ _ _ _ _ _ _ _ _ _ (harg1.read_unread _) (harg2.read_unread _) (harg3.read_unread _) (harg4.read_unread _) (harg5.read_unread _) (harg6.read_unread _) (harg7.read_unread _) (harg8.read_unread _) (harg9.read_unread _) rfl rfl (harg13.read_unread _) (harg14.read_unread _) (harg15.read_unread _)).1
  isplitl [H10]
  · iexists _; isplitr; swap; · iexact H10
    ipureintro
    exact (done_t1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 _ _ _ _ _ _ _ _ _ _ _ _ _ _ _ _ _ _ _ _ _ _ _ _ _ _ _ _ (harg1.read_unread _) (harg2.read_unread _) (harg3.read_unread _) (harg4.read_unread _) (harg5.read_unread _) (harg6.read_unread _) (harg7.read_unread _) (harg8.read_unread _) (harg9.read_unread _) rfl rfl (harg13.read_unread _) (harg14.read_unread _) (harg15.read_unread _)).2.1
  isplitl [H11]
  · iexists _; isplitr; · ipureintro; exact harg12.read_unread _
    iexact H11
  isplitl [HS0]
  · iexists _; isplitr; swap; · iexact HS0
    ipureintro
    exact (done_t1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 _ _ _ _ _ _ _ _ _ _ _ _ _ _ _ _ _ _ _ _ _ _ _ _ _ _ _ _ (harg1.read_unread _) (harg2.read_unread _) (harg3.read_unread _) (harg4.read_unread _) (harg5.read_unread _) (harg6.read_unread _) (harg7.read_unread _) (harg8.read_unread _) (harg9.read_unread _) rfl rfl (harg13.read_unread _) (harg14.read_unread _) (harg15.read_unread _)).2.2.1
  isplitl [HS1]
  · iexists _; isplitr; swap; · iexact HS1
    ipureintro
    exact (done_t1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 _ _ _ _ _ _ _ _ _ _ _ _ _ _ _ _ _ _ _ _ _ _ _ _ _ _ _ _ (harg1.read_unread _) (harg2.read_unread _) (harg3.read_unread _) (harg4.read_unread _) (harg5.read_unread _) (harg6.read_unread _) (harg7.read_unread _) (harg8.read_unread _) (harg9.read_unread _) rfl rfl (harg13.read_unread _) (harg14.read_unread _) (harg15.read_unread _)).2.2.2.1
  iexists _; isplitr; swap; · iexact HS2
  ipureintro
  exact (done_t1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 _ _ _ _ _ _ _ _ _ _ _ _ _ _ _ _ _ _ _ _ _ _ _ _ _ _ _ _ (harg1.read_unread _) (harg2.read_unread _) (harg3.read_unread _) (harg4.read_unread _) (harg5.read_unread _) (harg6.read_unread _) (harg7.read_unread _) (harg8.read_unread _) (harg9.read_unread _) rfl rfl (harg13.read_unread _) (harg14.read_unread _) (harg15.read_unread _)).2.2.2.2

end Cert.SharedUp.Hand
end
-- ==== Proof.UpBits.BodyC.lean ====
/- One run of the body, from what its buffers hold to what they hold afterwards (case C of three). -/
module

public import proofs.«01_k».proof.Proof.UpBits.Loop

@[expose] public section
set_option maxRecDepth 16384
set_option maxHeartbeats 1000000
noncomputable section
namespace Cert.SharedUp.Hand
open Cert.SharedUp.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]
local notation "𝕄" => MT nD τ sig Unit (Elt F) ℕ (UR sig nD τ) ℕ

open Cert.Rows

/-- One run of the body at the point after the last product: the scale is written. -/
theorem body_C (c : Dev nD) (i : grid0.Coords) (arg1 : Memref sig .tc .vmem S4096x3584 .i8) (harg1 : arg1.IsWhole) (arg2 : Memref sig .tc .vmem S4096x128 .f32) (harg2 : arg2.IsWhole) (arg3 : Memref sig .tc .vmem S3584x256 .i8) (harg3 : arg3.IsWhole) (arg4 : Memref sig .tc .vmem S3584x256 .i8) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S256x256 .bf16) (harg8 : arg8.IsWhole) (arg9 : Memref sig .tc .vmem S512x256 .bf16) (harg9 : arg9.IsWhole) (arg10 : Memref sig .tc .vmem S4096x256 .f32) (harg10 : arg10.IsWhole) (arg11 : Memref sig .tc .vmem S4096x256 .f32) (harg11 : arg11.IsWhole) (arg12 : Memref sig .tc .vmem S4096x128 .f32) (harg12 : arg12.IsWhole) (arg13 : Memref sig .tc .vmem S4096x256 .f32) (harg13 : arg13.IsWhole) (arg14 : Memref sig .tc .vmem S4096x256 .f32) (harg14 : arg14.IsWhole) (arg15 : Memref sig .tc .vmem S4096x128 .f32) (harg15 : arg15.IsWhole) (hc0 : ¬cond0_0 i) (hc1 : ¬cond0_1 i) (hc2 : cond0_2 i)
    (x0 : Vec F S4096x3584 .i8) (x1 : Vec F S4096x128 .f32) (x2 : Vec F S3584x256 .i8) (x3 : Vec F S3584x256 .i8) (x4 : Vec F S1x256 .f32) (x5 : Vec F S1x256 .f32) (x6 : Vec F S1x256 .f32) (x7 : Vec F S256x256 .bf16) (x8 : Vec F S512x256 .bf16) (xs0 xs1 : Vec F S4096x256 .f32) (xs2 : Vec F S4096x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs0 ∗ owns (c : Thread nD τ) arg14 fullShare xs1 ∗ owns (c : Thread nD τ) arg15 fullShare xs2
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (glue (usC x1 xs0 x4 xs1 x5)) ∗ owns (c : Thread nD τ) arg11 fullShare (glue (rC x1 xs0 x4 xs1 x5 x6 x7 x8)) ∗ owns (c : Thread nD τ) arg12 fullShare (glue (sC (mC x1 xs0 x4 xs1 x5 x6 x7 x8 xs2))) ∗ owns (c : Thread nD τ) arg13 fullShare xs0 ∗ owns (c : Thread nD τ) arg14 fullShare xs1 ∗ owns (c : Thread nD τ) arg15 fullShare (glue (mC x1 xs0 x4 xs1 x5 x6 x7 x8 xs2))) -∗ K ⟨⟩))
    ⊢ wp frame (wpE (defs₀ (F := F)) Variants.none c none) E (cc0_shared_up i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_shared_up_eq_skeleton]; unfold cc0_shared_up_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%fs0, %hfs0, HS0⟩, ⟨%fs1, %hfs1, HS1⟩, ⟨%fs2, %hfs2, HS2⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg13.eq_unread hfs0; obtain rfl := harg14.eq_unread hfs1; obtain rfl := harg15.eq_unread hfs2
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; swap; · iexact H9
    ipureintro
    exact (done_t2 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 hc2 _ _ _ _ _ _ _ _ _ _ _ _ _ _ _ _ _ _ _ _ _ _ _ _ (harg2.read_unread _) (harg5.read_unread _) (harg6.read_unread _) (harg7.read_unread _) (harg8.read_unread _) (harg9.read_unread _) (harg13.read_unread _) (harg14.read_unread _) rfl rfl rfl (harg15.read_unread _)).1
  isplitl [H10]
  · iexists _; isplitr; swap; · iexact H10
    ipureintro
    exact (done_t2 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 hc2 _ _ _ _ _ _ _ _ _ _ _ _ _ _ _ _ _ _ _ _ _ _ _ _ (harg2.read_unread _) (harg5.read_unread _) (harg6.read_unread _) (harg7.read_unread _) (harg8.read_unread _) (harg9.read_unread _) (harg13.read_unread _) (harg14.read_unread _) rfl rfl rfl (harg15.read_unread _)).2.1
  isplitl [H11]
  · iexists _; isplitr; swap; · iexact H11
    ipureintro
    exact (done_t2 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 hc2 _ _ _ _ _ _ _ _ _ _ _ _ _ _ _ _ _ _ _ _ _ _ _ _ (harg2.read_unread _) (harg5.read_unread _) (harg6.read_unread _) (harg7.read_unread _) (harg8.read_unread _) (harg9.read_unread _) (harg13.read_unread _) (harg14.read_unread _) rfl rfl rfl (harg15.read_unread _)).2.2.1
  isplitl [HS0]
  · iexists _; isplitr; · ipureintro; exact harg13.read_unread _
    iexact HS0
  isplitl [HS1]
  · iexists _; isplitr; · ipureintro; exact harg14.read_unread _
    iexact HS1
  iexists _; isplitr; swap; · iexact HS2
  ipureintro
  exact (done_t2 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 hc2 _ _ _ _ _ _ _ _ _ _ _ _ _ _ _ _ _ _ _ _ _ _ _ _ (harg2.read_unread _) (harg5.read_unread _) (harg6.read_unread _) (harg7.read_unread _) (harg8.read_unread _) (harg9.read_unread _) (harg13.read_unread _) (harg14.read_unread _) rfl rfl rfl (harg15.read_unread _)).2.2.2

end Cert.SharedUp.Hand
end
-- ==== Proof.UpBits.Frame.lean ====
/- The frame of the call: what its buffers hold point by point, the body at every point, and the run. -/
module

public import proofs.«01_k».proof.Proof.UpBits.BodyA
public import proofs.«01_k».proof.Proof.UpBits.BodyB
public import proofs.«01_k».proof.Proof.UpBits.BodyC
public import Idealize.ShloMosaic.Lib.Claim

@[expose] public section

set_option maxRecDepth 16384

noncomputable section

namespace Cert.SharedUp.Hand
open Cert.SharedUp.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Rows

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Everything a point leaves: the three outputs and the three buffers carried between points. -/
abbrev Left (F : FTy → Type) : Type :=
  Vec F S4096x256 .f32 × Vec F S4096x256 .f32 × Vec F S4096x128 .f32 ×
    Vec F S4096x256 .f32 × Vec F S4096x256 .f32 × Vec F S4096x128 .f32

/-- What a point of the products leaves, from the products `g`, `u` and the magnitudes `x` of the point before. -/
def leftB (c : Dev nD) (t : Fin cfg0.N) (g u : Vec F S4096x256 .f32) (x : Vec F S4096x128 .f32) : Left F :=
  (glue (usC (iblk m c 1 t) g (iblk m c 4 t) u (iblk m c 5 t)),
   glue (rC (iblk m c 1 t) g (iblk m c 4 t) u (iblk m c 5 t) (iblk m c 6 t) (iblk m c 7 t) (iblk m c 8 t)),
   x,
   glue (gC (iblk m c 0 t) (iblk m c 2 t)),
   glue (uC (iblk m c 0 t) (iblk m c 3 t)),
   glue (mC (iblk m c 1 t) g (iblk m c 4 t) u (iblk m c 5 t) (iblk m c 6 t) (iblk m c 7 t) (iblk m c 8 t) x))

/-- What the last point leaves. -/
def leftC (c : Dev nD) (t : Fin cfg0.N) (g u : Vec F S4096x256 .f32) (x : Vec F S4096x128 .f32) : Left F :=
  (glue (usC (iblk m c 1 t) g (iblk m c 4 t) u (iblk m c 5 t)),
   glue (rC (iblk m c 1 t) g (iblk m c 4 t) u (iblk m c 5 t) (iblk m c 6 t) (iblk m c 7 t) (iblk m c 8 t)),
   glue (sC (mC (iblk m c 1 t) g (iblk m c 4 t) u (iblk m c 5 t) (iblk m c 6 t) (iblk m c 7 t) (iblk m c 8 t) x)),
   g,
   u,
   glue (mC (iblk m c 1 t) g (iblk m c 4 t) u (iblk m c 5 t) (iblk m c 6 t) (iblk m c 7 t) (iblk m c 8 t) x))

/-- What point `n` leaves. -/
def outsAt0 (c : Dev nD) : (n : ℕ) → n < cfg0.N → Left F
  | 0, hn => leftB m c ⟨0, hn⟩ k0_pay1 k0_pay2 k0_pay3
  | n + 1, hn =>
    if (n + 1) < 80 then
      leftB m c ⟨n + 1, hn⟩ (outsAt0 c n (Nat.lt_of_succ_lt hn)).2.2.2.1 (outsAt0 c n (Nat.lt_of_succ_lt hn)).2.2.2.2.1
        (outsAt0 c n (Nat.lt_of_succ_lt hn)).2.2.2.2.2
    else
      leftC m c ⟨n + 1, hn⟩ (outsAt0 c n (Nat.lt_of_succ_lt hn)).2.2.2.1 (outsAt0 c n (Nat.lt_of_succ_lt hn)).2.2.2.2.1
        (outsAt0 c n (Nat.lt_of_succ_lt hn)).2.2.2.2.2

theorem outsAt0_A (c : Dev nD) (t : Fin cfg0.N) (h0 : t.val % 81 = 0) :
    outsAt0 m c t.val t.isLt = leftB m c t k0_pay1 k0_pay2 k0_pay3 := by
  have hN : t.val < 81 := lt_of_lt_of_eq t.isLt (show cfg0.N = 81 from N_0)
  obtain ⟨n, hn⟩ := t
  cases n with
  | zero => exact rfl
  | succ n => exfalso; dsimp only at h0 hN; omega

theorem outsAt0_B (c : Dev nD) (t : Fin cfg0.N) (h0 : ¬t.val % 81 = 0) (h1 : t.val < 80) :
    outsAt0 m c t.val t.isLt
      = leftB m c t (outsAt0 m c (t.val - 1) (Nat.lt_of_le_of_lt (Nat.sub_le _ _) t.isLt)).2.2.2.1
          (outsAt0 m c (t.val - 1) (Nat.lt_of_le_of_lt (Nat.sub_le _ _) t.isLt)).2.2.2.2.1
          (outsAt0 m c (t.val - 1) (Nat.lt_of_le_of_lt (Nat.sub_le _ _) t.isLt)).2.2.2.2.2 := by
  obtain ⟨n, hn⟩ := t
  cases n with
  | zero => exact absurd (Nat.zero_mod _) h0
  | succ n => exact (if_pos h1).trans rfl

theorem outsAt0_C (c : Dev nD) (t : Fin cfg0.N) (h0 : ¬t.val % 81 = 0) (h1 : ¬t.val < 80) :
    outsAt0 m c t.val t.isLt
      = leftC m c t (outsAt0 m c (t.val - 1) (Nat.lt_of_le_of_lt (Nat.sub_le _ _) t.isLt)).2.2.2.1
          (outsAt0 m c (t.val - 1) (Nat.lt_of_le_of_lt (Nat.sub_le _ _) t.isLt)).2.2.2.2.1
          (outsAt0 m c (t.val - 1) (Nat.lt_of_le_of_lt (Nat.sub_le _ _) t.isLt)).2.2.2.2.2 := by
  obtain ⟨n, hn⟩ := t
  cases n with
  | zero => exact absurd (Nat.zero_mod _) h0
  | succ n => exact (if_neg h1).trans rfl

/-- What holds between points: before the first, the carried buffers hold anything; afterwards, what the point before
    left in them. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.1) ∗ owns (c : Thread nD τ) scM0_1 fullShare ((outsAt0 m c n hn).2.2.2.2.1) ∗ owns (c : Thread nD τ) scM0_2 fullShare ((outsAt0 m c n hn).2.2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.2.1) ∗ owns (c : Thread nD τ) scM0_1 fullShare ((outsAt0 m c n hn).2.2.2.2.1) ∗ owns (c : Thread nD τ) scM0_2 fullShare ((outsAt0 m c n hn).2.2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.1) ∗ owns (c : Thread nD τ) scM0_1 fullShare ((outsAt0 m c (n - 1) (by omega)).2.2.2.2.1) ∗ owns (c : Thread nD τ) scM0_2 fullShare ((outsAt0 m c (n - 1) (by omega)).2.2.2.2.2)) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (outsAt0 m c t.val t.isLt).1
    | ⟨10, _⟩ => (outsAt0 m c t.val t.isLt).2.1
    | ⟨11, _⟩ => (outsAt0 m c t.val t.isLt).2.2.1
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = (outsAt0 m c t.val t.isLt).1 := by dsimp only [dats]
theorem after0_10 (c : Dev nD) (t : Fin cfg0.N) : (dats m 0 c).after 10 t = (outsAt0 m c t.val t.isLt).2.1 := by dsimp only [dats]
theorem after0_11 (c : Dev nD) (t : Fin cfg0.N) : (dats m 0 c).after 11 t = (outsAt0 m c t.val t.isLt).2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 14400000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl]
  rw [show (dats m 0 c).Φ t.succ = PhiS m c (t.val + 1) t.isLt from rfl, PhiS_succ]
  have hN : t.val < 81 := lt_of_lt_of_eq t.isLt (show cfg0.N = 81 from N_0)
  by_cases h0 : t.val % 81 = 0
  · by_cases h1 : t.val < 80
    · by_cases h2 : t.val % 81 = 80
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9_A t ((hcond0_0 t).mpr h0) ((hcond0_1 t).mpr h1) (fun h => h2 ((hcond0_2 t).mp h))], after0_9]
        rw [show (dats m 0 c).leavesExact 10 t = owns (c : Thread nD τ) (ms0_10 t) fullShare ((dats m 0 c).after 10 t) from by
      unfold Dat.leavesExact; rw [liveAt0_10_A t ((hcond0_0 t).mpr h0) ((hcond0_1 t).mpr h1) (fun h => h2 ((hcond0_2 t).mp h))], after0_10]
        rw [Dat.leavesExact_idle (dats m 0 c) 11 t (idleAt0_11_A t ((hcond0_0 t).mpr h0) ((hcond0_1 t).mpr h1) (fun h => h2 ((hcond0_2 t).mp h))) (noFlush0_11_A t ((hcond0_0 t).mpr h0) ((hcond0_1 t).mpr h1) (fun h => h2 ((hcond0_2 t).mp h)))]
        by_cases hz : t.val = 0
        · rw [PhiS_castSucc m c t, PhiS_zero m c _ _ hz, PhiA0_eq]
          rw [outsAt0_A m c t h0]
          unfold leftB; (try dsimp only)
          iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
          iapply (body_A c (grid0.coords t) _ _ _ _ _ _ _ _ _ _ _ _ _ _ _ _ _ _ _ _ _ _ _ _ _ _ _ _ _ _ ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexists _; iexact H9
          isplitl [H10]; · iexists _; iexact H10
          isplitl [H11]; · iexact H11
          isplitl [HS0]; · iexact HS0
          isplitl [HS1]; · iexact HS1
          isplitl [HS2]; · iexact HS2
          iintro ⟨H0, H1, H2, H3, H4, H5, H6, H7, H8, H9, H10, H11, HS0, HS1, HS2⟩
          isplitl [HS0 HS1 HS2 Hg]
          · isplitl [HS0 HS1 HS2]
            · isplitl [HS0]
              · iexact HS0
              isplitl [HS1]
              · iexact HS1
              iexact HS2
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]
          · iexact H9
          isplitl [H10]
          · iexact H10
          iexists _; iexact H11
        · exfalso; have hN : t.val < 81 := lt_of_lt_of_eq t.isLt (show cfg0.N = 81 from N_0); omega
    · exfalso; omega
  · by_cases h1 : t.val < 80
    · by_cases h2 : t.val % 81 = 80
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9_B t (fun h => h0 ((hcond0_0 t).mp h)) ((hcond0_1 t).mpr h1) (fun h => h2 ((hcond0_2 t).mp h))], after0_9]
        rw [show (dats m 0 c).leavesExact 10 t = owns (c : Thread nD τ) (ms0_10 t) fullShare ((dats m 0 c).after 10 t) from by
      unfold Dat.leavesExact; rw [liveAt0_10_B t (fun h => h0 ((hcond0_0 t).mp h)) ((hcond0_1 t).mpr h1) (fun h => h2 ((hcond0_2 t).mp h))], after0_10]
        rw [Dat.leavesExact_idle (dats m 0 c) 11 t (idleAt0_11_B t (fun h => h0 ((hcond0_0 t).mp h)) ((hcond0_1 t).mpr h1) (fun h => h2 ((hcond0_2 t).mp h))) (noFlush0_11_B t (fun h => h0 ((hcond0_0 t).mp h)) ((hcond0_1 t).mpr h1) (fun h => h2 ((hcond0_2 t).mp h)))]
        by_cases hz : t.val = 0
        · exfalso; have hN : t.val < 81 := lt_of_lt_of_eq t.isLt (show cfg0.N = 81 from N_0); omega
        · rw [PhiS_castSucc m c t, PhiS_pos m c _ _ hz]
          rw [outsAt0_B m c t h0 h1]
          unfold leftB; (try dsimp only)
          iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
          iapply (body_B c (grid0.coords t) _ _ _ _ _ _ _ _ _ _ _ _ _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) _ _ _ _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexists _; iexact H9
          isplitl [H10]; · iexists _; iexact H10
          isplitl [H11]; · iexact H11
          isplitl [HS0]; · iexact HS0
          isplitl [HS1]; · iexact HS1
          isplitl [HS2]; · iexact HS2
          iintro ⟨H0, H1, H2, H3, H4, H5, H6, H7, H8, H9, H10, H11, HS0, HS1, HS2⟩
          isplitl [HS0 HS1 HS2 Hg]
          · isplitl [HS0 HS1 HS2]
            · isplitl [HS0]
              · iexact HS0
              isplitl [HS1]
              · iexact HS1
              iexact HS2
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]
          · iexact H9
          isplitl [H10]
          · iexact H10
          iexists _; iexact H11
    · by_cases h2 : t.val % 81 = 80
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9_C t (fun h => h0 ((hcond0_0 t).mp h)) (fun h => h1 ((hcond0_1 t).mp h)) ((hcond0_2 t).mpr h2)], after0_9]
        rw [show (dats m 0 c).leavesExact 10 t = owns (c : Thread nD τ) (ms0_10 t) fullShare ((dats m 0 c).after 10 t) from by
      unfold Dat.leavesExact; rw [liveAt0_10_C t (fun h => h0 ((hcond0_0 t).mp h)) (fun h => h1 ((hcond0_1 t).mp h)) ((hcond0_2 t).mpr h2)], after0_10]
        rw [show (dats m 0 c).leavesExact 11 t = owns (c : Thread nD τ) (ms0_11 t) fullShare ((dats m 0 c).after 11 t) from by
      unfold Dat.leavesExact; rw [liveAt0_11_C t (fun h => h0 ((hcond0_0 t).mp h)) (fun h => h1 ((hcond0_1 t).mp h)) ((hcond0_2 t).mpr h2)], after0_11]
        by_cases hz : t.val = 0
        · exfalso; have hN : t.val < 81 := lt_of_lt_of_eq t.isLt (show cfg0.N = 81 from N_0); omega
        · rw [PhiS_castSucc m c t, PhiS_pos m c _ _ hz]
          rw [outsAt0_C m c t h0 h1]
          unfold leftC; (try dsimp only)
          iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
          iapply (body_C c (grid0.coords t) _ _ _ _ _ _ _ _ _ _ _ _ _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) _ _ _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexists _; iexact H9
          isplitl [H10]; · iexists _; iexact H10
          isplitl [H11]; · iexists _; iexact H11
          isplitl [HS0]; · iexact HS0
          isplitl [HS1]; · iexact HS1
          isplitl [HS2]; · iexact HS2
          iintro ⟨H0, H1, H2, H3, H4, H5, H6, H7, H8, H9, H10, H11, HS0, HS1, HS2⟩
          isplitl [HS0 HS1 HS2 Hg]
          · isplitl [HS0 HS1 HS2]
            · isplitl [HS0]
              · iexact HS0
              isplitl [HS1]
              · iexact HS1
              iexact HS2
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]
          · iexact H9
          isplitl [H10]
          · iexact H10
          iexact H11
      · exfalso; omega

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 81 := N_0; omega)

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- Every run ends, with the argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.SharedUp.Hand

end
-- ==== Proof.Up.Chunk.lean ====
/- What one band of 1024 rows of the call computes: the gated product, its rotation, the running largest magnitude,
   and the next pair of products. -/
module

public import proofs.«01_k».proof.Proof.Up.Rows
public import proofs.«01_k».proof.Proof.Gen.SharedUpIdeal.Frame.Runs

@[expose] public section
set_option maxRecDepth 16384
set_option maxHeartbeats 1000000
noncomputable section
namespace Cert.SharedUpIdeal.Hand
open Cert.SharedUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]
local notation "𝕄" => MT nD τ sig Unit (Elt F) ℕ (UR sig nD τ) ℕ

open Cert.Rows

/-- The gated product of a band. -/
def usC (s : Vec F S4096x128 .f32) (g : Vec F S4096x256 .f32) (sg : Vec F S1x256 .f32) (u : Vec F S4096x256 .f32)
    (su : Vec F S1x256 .f32) : Fin 4 → Vec F S1024x256 .f32 :=
  fun k => k0_pay7 (band s k) (band g k) sg (band u k) su

/-- The rotated band. -/
def rC (s : Vec F S4096x128 .f32) (g : Vec F S4096x256 .f32) (sg : Vec F S1x256 .f32) (u : Vec F S4096x256 .f32)
    (su sm : Vec F S1x256 .f32) (ha : Vec F S256x256 .bf16) (hbc : Vec F S512x256 .bf16) :
    Fin 4 → Vec F S1024x256 .f32 :=
  fun k => k0_pay14 (k0_pay9 (band s k) (band g k) sg (band u k) su sm)
    (k0_pay11 (band s k) (band g k) sg (band u k) su sm) (k0_pay12 (band s k) (band g k) sg (band u k) su sm hbc)
    (k0_pay13 (band s k) (band g k) sg (band u k) su sm) ha ha

/-- The running largest magnitude of a band's rows. -/
def mC (s : Vec F S4096x128 .f32) (g : Vec F S4096x256 .f32) (sg : Vec F S1x256 .f32) (u : Vec F S4096x256 .f32)
    (su sm : Vec F S1x256 .f32) (ha : Vec F S256x256 .bf16) (hbc : Vec F S512x256 .bf16) (mx : Vec F S4096x128 .f32) :
    Fin 4 → Vec F S1024x128 .f32 :=
  fun k => k0_pay15 (k0_pay9 (band s k) (band g k) sg (band u k) su sm)
    (k0_pay11 (band s k) (band g k) sg (band u k) su sm) (k0_pay12 (band s k) (band g k) sg (band u k) su sm hbc)
    (k0_pay13 (band s k) (band g k) sg (band u k) su sm) ha ha (band mx k)

/-- The gate product of a band. -/
def gC (a : Vec F S4096x3584 .i8) (w : Vec F S3584x256 .i8) : Fin 4 → Vec F S1024x256 .f32 :=
  fun k => k0_pay4 (k0_pay17 (band a k) w)

/-- The up product of a band. -/
def uC (a : Vec F S4096x3584 .i8) (w : Vec F S3584x256 .i8) : Fin 4 → Vec F S1024x256 .f32 :=
  fun k => k0_pay5 (k0_pay16 (band a k)) w

/-- The scale of a band from the largest magnitudes `m`. -/
def sC (m : Fin 4 → Vec F S1024x128 .f32) : Fin 4 → Vec F S1024x128 .f32 :=
  fun k => k0_pay6 (k0_pay28 (m k)) (k0_pay29 (m k))

end Cert.SharedUpIdeal.Hand
end
-- ==== Proof.Up.Loop.lean ====
/- The two counted loops of the call: after `n` trips the first `n` bands of every written buffer hold the chunk
   functions of `Chunk.lean`, the rest what they held before. -/
module

public import proofs.«01_k».proof.Proof.Up.Chunk

@[expose] public section
set_option maxRecDepth 16384
set_option maxHeartbeats 1000000
noncomputable section
namespace Cert.SharedUpIdeal.Hand
open Cert.SharedUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]
local notation "𝕄" => MT nD τ sig Unit (Elt F) ℕ (UR sig nD τ) ℕ

open Cert.Rows

theorem off1 : ∀ k : Fin k0_t1_loop.trips, k0_off1 k = ![1024 * k.val, 0] := by decide +kernel
theorem off2 : ∀ k : Fin k0_t1_loop.trips, k0_off2 k = ![1024 * k.val, 0] := by decide +kernel
theorem off3 : ∀ k : Fin k0_t1_loop.trips, k0_off3 k = ![1024 * k.val, 0] := by decide +kernel
theorem off4 : ∀ k : Fin k0_t2_loop.trips, k0_off4 k = ![1024 * k.val, 0] := by decide +kernel
theorem off5 : ∀ k : Fin k0_t2_loop.trips, k0_off5 k = ![1024 * k.val, 0] := by decide +kernel

theorem trip_t1 (𝒱 : Variants) (c : Dev nD) (bd : Option 𝒱.V) (i : grid0.Coords) (arg1 : Memref sig .tc .vmem S4096x3584 .i8) (harg1 : arg1.IsWhole) (arg2 : Memref sig .tc .vmem S4096x128 .f32) (harg2 : arg2.IsWhole) (arg3 : Memref sig .tc .vmem S3584x256 .i8) (harg3 : arg3.IsWhole) (arg4 : Memref sig .tc .vmem S3584x256 .i8) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S256x256 .bf16) (harg8 : arg8.IsWhole) (arg9 : Memref sig .tc .vmem S512x256 .bf16) (harg9 : arg9.IsWhole) (arg10 : Memref sig .tc .vmem S4096x256 .f32) (harg10 : arg10.IsWhole) (arg11 : Memref sig .tc .vmem S4096x256 .f32) (harg11 : arg11.IsWhole) (arg12 : Memref sig .tc .vmem S4096x128 .f32) (harg12 : arg12.IsWhole) (arg13 : Memref sig .tc .vmem S4096x256 .f32) (harg13 : arg13.IsWhole) (arg14 : Memref sig .tc .vmem S4096x256 .f32) (harg14 : arg14.IsWhole) (arg15 : Memref sig .tc .vmem S4096x128 .f32) (harg15 : arg15.IsWhole) (k0_h2 : k0_cond2 i = 1#1) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (k : Fin k0_t1_loop.trips) (f_arg10 : BufTy.Contents (Elt F) arg10.view.ty) (f_arg11 : BufTy.Contents (Elt F) arg11.view.ty) (f_arg13 : BufTy.Contents (Elt F) arg13.view.ty) (f_arg14 : BufTy.Contents (Elt F) arg14.view.ty) (f_arg15 : BufTy.Contents (Elt F) arg15.view.ty) (x1 : Vec F S4096x3584 .i8) (x2 : Vec F S4096x128 .f32) (x3 : Vec F S3584x256 .i8) (x4 : Vec F S3584x256 .i8) (x5 : Vec F S1x256 .f32) (x6 : Vec F S1x256 .f32) (x7 : Vec F S1x256 .f32) (x8 : Vec F S256x256 .bf16) (x9 : Vec F S512x256 .bf16) (y10 : Vec F S4096x256 .f32) (y11 : Vec F S4096x256 .f32) (y13 : Vec F S4096x256 .f32) (y14 : Vec F S4096x256 .f32) (y15 : Vec F S4096x128 .f32) (h1 : arg1.view.read (Elt F) X_arg1 = x1) (h2 : arg2.view.read (Elt F) X_arg2 = x2) (h3 : arg3.view.read (Elt F) X_arg3 = x3) (h4 : arg4.view.read (Elt F) X_arg4 = x4) (h5 : arg5.view.read (Elt F) X_arg5 = x5) (h6 : arg6.view.read (Elt F) X_arg6 = x6) (h7 : arg7.view.read (Elt F) X_arg7 = x7) (h8 : arg8.view.read (Elt F) X_arg8 = x8) (h9 : arg9.view.read (Elt F) X_arg9 = x9) (e10 : arg10.view.read (Elt F) f_arg10 = mix (usC x2 y13 x5 y14 x6) y10 k.val) (e11 : arg11.view.read (Elt F) f_arg11 = mix (rC x2 y13 x5 y14 x6 x7 x8 x9) y11 k.val) (e13 : arg13.view.read (Elt F) f_arg13 = mix (gC x1 x3) y13 k.val) (e14 : arg14.view.read (Elt F) f_arg14 = mix (uC x1 x4) y14 k.val) (e15 : arg15.view.read (Elt F) f_arg15 = mix (mC x2 y13 x5 y14 x6 x7 x8 x9 y15) y15 k.val) :
    arg10.view.read (Elt F) (arg10.view.writes (Elt F) f_arg10 (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h2 X_arg1 X_arg2 X_arg3 X_arg4 X_arg5 X_arg6 X_arg7 X_arg8 X_arg9 k f_arg10 f_arg11 f_arg13 f_arg14 f_arg15).1) = mix (usC x2 y13 x5 y14 x6) y10 (k.val + 1) ∧
    arg11.view.read (Elt F) (arg11.view.writes (Elt F) f_arg11 (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h2 X_arg1 X_arg2 X_arg3 X_arg4 X_arg5 X_arg6 X_arg7 X_arg8 X_arg9 k f_arg10 f_arg11 f_arg13 f_arg14 f_arg15).2.1) = mix (rC x2 y13 x5 y14 x6 x7 x8 x9) y11 (k.val + 1) ∧
    arg13.view.read (Elt F) (arg13.view.writes (Elt F) f_arg13 (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h2 X_arg1 X_arg2 X_arg3 X_arg4 X_arg5 X_arg6 X_arg7 X_arg8 X_arg9 k f_arg10 f_arg11 f_arg13 f_arg14 f_arg15).2.2.1) = mix (gC x1 x3) y13 (k.val + 1) ∧
    arg14.view.read (Elt F) (arg14.view.writes (Elt F) f_arg14 (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h2 X_arg1 X_arg2 X_arg3 X_arg4 X_arg5 X_arg6 X_arg7 X_arg8 X_arg9 k f_arg10 f_arg11 f_arg13 f_arg14 f_arg15).2.2.2.1) = mix (uC x1 x4) y14 (k.val + 1) ∧
    arg15.view.read (Elt F) (arg15.view.writes (Elt F) f_arg15 (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h2 X_arg1 X_arg2 X_arg3 X_arg4 X_arg5 X_arg6 X_arg7 X_arg8 X_arg9 k f_arg10 f_arg11 f_arg13 f_arg14 f_arg15).2.2.2.2) = mix (mC x2 y13 x5 y14 x6 x7 x8 x9 y15) y15 (k.val + 1) := by
  have hk : k.val < 4 := Nat.lt_of_lt_of_le k.isLt k0_t1_abs.2.1
  have o1 : k0_off1 k = ![1024 * k.val, 0] := off1 k
  have o2 : k0_off2 k = ![1024 * k.val, 0] := off2 k
  have o3 : k0_off3 k = ![1024 * k.val, 0] := off3 k
  have z : (![0, 0] : Fin 2 → ℕ) = fun _ => 0 := by funext a; match a with | ⟨0, _⟩ => rfl | ⟨1, _⟩ => rfl
  unfold tripL_k0_t1 trip_k0_t1
  dsimp only
  have r2 := readAt_band _ _ _ h2 ⟨k.val, hk⟩ o1 (k0_off1_inb i k k0_h2)
  have r13 := readAt_mix _ _ _ _ ⟨k.val, hk⟩ e13 o2 (k0_off2_inb i k k0_h2)
  have r14 := readAt_mix _ _ _ _ ⟨k.val, hk⟩ e14 o2 (k0_off2_inb i k k0_h2)
  have r5 := readAt_all _ _ _ h5 z inb_S1x256_S1x256_0_0
  have r6 := readAt_all _ _ _ h6 z inb_S1x256_S1x256_0_0
  have r7 := readAt_all _ _ _ h7 z inb_S1x256_S1x256_0_0
  have r8 := readAt_all _ _ _ h8 z inb_S256x256_S256x256_0_0
  have r9 := readAt_all _ _ _ h9 z inb_S512x256_S512x256_0_0
  have r15 := readAt_mix _ _ _ _ ⟨k.val, hk⟩ e15 o1 (k0_off1_inb i k k0_h2)
  have r1 := readAt_band _ _ _ h1 ⟨k.val, hk⟩ o3 (k0_off3_inb i k k0_h2)
  have r3 := readAt_all _ _ _ h3 z inb_S3584x256_S3584x256_0_0
  have r4 := readAt_all _ _ _ h4 z inb_S3584x256_S3584x256_0_0
  refine ⟨store_band _ _ _ _ ⟨k.val, hk⟩ o2 _ _ ?_ e10, store_band _ _ _ _ ⟨k.val, hk⟩ o2 _ _ ?_ e11, store_band _ _ _ _ ⟨k.val, hk⟩ o2 _ _ ?_ e13, store_band _ _ _ _ ⟨k.val, hk⟩ o2 _ _ ?_ e14, store_band _ _ _ _ ⟨k.val, hk⟩ o1 _ _ ?_ e15⟩
  · unfold usC; exact congr (congr (congr (congr (congrArg k0_pay7 r2) r13) r5) r14) r6
  · unfold rC
    rw [← r2, ← r13, ← r14, ← r5, ← r6, ← r7, ← r8, ← r9]; rfl
  · unfold gC; rw [← r1, ← r3]; rfl
  · unfold uC; rw [← r1, ← r4]; rfl
  · unfold mC; rw [← r2, ← r13, ← r14, ← r5, ← r6, ← r7, ← r8, ← r9, ← r15]; rfl

theorem trip_t2 (𝒱 : Variants) (c : Dev nD) (bd : Option 𝒱.V) (i : grid0.Coords) (arg1 : Memref sig .tc .vmem S4096x3584 .i8) (harg1 : arg1.IsWhole) (arg2 : Memref sig .tc .vmem S4096x128 .f32) (harg2 : arg2.IsWhole) (arg3 : Memref sig .tc .vmem S3584x256 .i8) (harg3 : arg3.IsWhole) (arg4 : Memref sig .tc .vmem S3584x256 .i8) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S256x256 .bf16) (harg8 : arg8.IsWhole) (arg9 : Memref sig .tc .vmem S512x256 .bf16) (harg9 : arg9.IsWhole) (arg10 : Memref sig .tc .vmem S4096x256 .f32) (harg10 : arg10.IsWhole) (arg11 : Memref sig .tc .vmem S4096x256 .f32) (harg11 : arg11.IsWhole) (arg12 : Memref sig .tc .vmem S4096x128 .f32) (harg12 : arg12.IsWhole) (arg13 : Memref sig .tc .vmem S4096x256 .f32) (harg13 : arg13.IsWhole) (arg14 : Memref sig .tc .vmem S4096x256 .f32) (harg14 : arg14.IsWhole) (arg15 : Memref sig .tc .vmem S4096x128 .f32) (harg15 : arg15.IsWhole) (k0_h3 : k0_cond3 i = 1#1) (X_arg2 : BufTy.Contents (Elt F) arg2.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg13 : BufTy.Contents (Elt F) arg13.view.ty) (X_arg14 : BufTy.Contents (Elt F) arg14.view.ty) (k : Fin k0_t2_loop.trips) (f_arg10 : BufTy.Contents (Elt F) arg10.view.ty) (f_arg11 : BufTy.Contents (Elt F) arg11.view.ty) (f_arg12 : BufTy.Contents (Elt F) arg12.view.ty) (f_arg15 : BufTy.Contents (Elt F) arg15.view.ty) (x2 : Vec F S4096x128 .f32) (x5 : Vec F S1x256 .f32) (x6 : Vec F S1x256 .f32) (x7 : Vec F S1x256 .f32) (x8 : Vec F S256x256 .bf16) (x9 : Vec F S512x256 .bf16) (x13 : Vec F S4096x256 .f32) (x14 : Vec F S4096x256 .f32) (y10 : Vec F S4096x256 .f32) (y11 : Vec F S4096x256 .f32) (y12 : Vec F S4096x128 .f32) (y15 : Vec F S4096x128 .f32) (h2 : arg2.view.read (Elt F) X_arg2 = x2) (h5 : arg5.view.read (Elt F) X_arg5 = x5) (h6 : arg6.view.read (Elt F) X_arg6 = x6) (h7 : arg7.view.read (Elt F) X_arg7 = x7) (h8 : arg8.view.read (Elt F) X_arg8 = x8) (h9 : arg9.view.read (Elt F) X_arg9 = x9) (h13 : arg13.view.read (Elt F) X_arg13 = x13) (h14 : arg14.view.read (Elt F) X_arg14 = x14) (e10 : arg10.view.read (Elt F) f_arg10 = mix (usC x2 x13 x5 x14 x6) y10 k.val) (e11 : arg11.view.read (Elt F) f_arg11 = mix (rC x2 x13 x5 x14 x6 x7 x8 x9) y11 k.val) (e12 : arg12.view.read (Elt F) f_arg12 = mix (sC (mC x2 x13 x5 x14 x6 x7 x8 x9 y15)) y12 k.val) (e15 : arg15.view.read (Elt F) f_arg15 = mix (mC x2 x13 x5 x14 x6 x7 x8 x9 y15) y15 k.val) :
    arg10.view.read (Elt F) (arg10.view.writes (Elt F) f_arg10 (tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 X_arg2 X_arg5 X_arg6 X_arg7 X_arg8 X_arg9 X_arg13 X_arg14 k f_arg10 f_arg11 f_arg12 f_arg15).1) = mix (usC x2 x13 x5 x14 x6) y10 (k.val + 1) ∧
    arg11.view.read (Elt F) (arg11.view.writes (Elt F) f_arg11 (tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 X_arg2 X_arg5 X_arg6 X_arg7 X_arg8 X_arg9 X_arg13 X_arg14 k f_arg10 f_arg11 f_arg12 f_arg15).2.1) = mix (rC x2 x13 x5 x14 x6 x7 x8 x9) y11 (k.val + 1) ∧
    arg12.view.read (Elt F) (arg12.view.writes (Elt F) f_arg12 (tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 X_arg2 X_arg5 X_arg6 X_arg7 X_arg8 X_arg9 X_arg13 X_arg14 k f_arg10 f_arg11 f_arg12 f_arg15).2.2.1) = mix (sC (mC x2 x13 x5 x14 x6 x7 x8 x9 y15)) y12 (k.val + 1) ∧
    arg15.view.read (Elt F) (arg15.view.writes (Elt F) f_arg15 (tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 X_arg2 X_arg5 X_arg6 X_arg7 X_arg8 X_arg9 X_arg13 X_arg14 k f_arg10 f_arg11 f_arg12 f_arg15).2.2.2) = mix (mC x2 x13 x5 x14 x6 x7 x8 x9 y15) y15 (k.val + 1) := by
  have hk : k.val < 4 := Nat.lt_of_lt_of_le k.isLt k0_t2_abs.2.1
  have o4 : k0_off4 k = ![1024 * k.val, 0] := off4 k
  have o5 : k0_off5 k = ![1024 * k.val, 0] := off5 k
  have z : (![0, 0] : Fin 2 → ℕ) = fun _ => 0 := by funext a; match a with | ⟨0, _⟩ => rfl | ⟨1, _⟩ => rfl
  unfold tripL_k0_t2 trip_k0_t2
  dsimp only
  have r2 := readAt_band _ _ _ h2 ⟨k.val, hk⟩ o4 (k0_off4_inb i k k0_h3)
  have r13 := readAt_band _ _ _ h13 ⟨k.val, hk⟩ o5 (k0_off5_inb i k k0_h3)
  have r14 := readAt_band _ _ _ h14 ⟨k.val, hk⟩ o5 (k0_off5_inb i k k0_h3)
  have r5 := readAt_all _ _ _ h5 z inb_S1x256_S1x256_0_0
  have r6 := readAt_all _ _ _ h6 z inb_S1x256_S1x256_0_0
  have r7 := readAt_all _ _ _ h7 z inb_S1x256_S1x256_0_0
  have r8 := readAt_all _ _ _ h8 z inb_S256x256_S256x256_0_0
  have r9 := readAt_all _ _ _ h9 z inb_S512x256_S512x256_0_0
  have r15 := readAt_mix _ _ _ _ ⟨k.val, hk⟩ e15 o4 (k0_off4_inb i k k0_h3)
  refine ⟨store_band _ _ _ _ ⟨k.val, hk⟩ o5 _ _ ?_ e10, store_band _ _ _ _ ⟨k.val, hk⟩ o5 _ _ ?_ e11, store_band _ _ _ _ ⟨k.val, hk⟩ o4 _ _ ?_ e12, store_band _ _ _ _ ⟨k.val, hk⟩ o4 _ _ ?_ e15⟩
  · unfold usC; rw [← r2, ← r13, ← r14, ← r5, ← r6]; rfl
  · unfold rC; rw [← r2, ← r13, ← r14, ← r5, ← r6, ← r7, ← r8, ← r9]; rfl
  · unfold sC
    unfold trip_k0_t2.sl.r_4 trip_k0_t2.sl.r_5 trip_k0_t2.sl.v91 trip_k0_t2.sl.HW_arg15_1
    rw [View.readCov_cons_toLoadRect]
    unfold mC; rw [← r2, ← r13, ← r14, ← r5, ← r6, ← r7, ← r8, ← r9, ← r15]; rfl
  · unfold mC; rw [← r2, ← r13, ← r14, ← r5, ← r6, ← r7, ← r8, ← r9, ← r15]; rfl

theorem loop_t1 (𝒱 : Variants) (c : Dev nD) (bd : Option 𝒱.V) (i : grid0.Coords) (arg1 : Memref sig .tc .vmem S4096x3584 .i8) (harg1 : arg1.IsWhole) (arg2 : Memref sig .tc .vmem S4096x128 .f32) (harg2 : arg2.IsWhole) (arg3 : Memref sig .tc .vmem S3584x256 .i8) (harg3 : arg3.IsWhole) (arg4 : Memref sig .tc .vmem S3584x256 .i8) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S256x256 .bf16) (harg8 : arg8.IsWhole) (arg9 : Memref sig .tc .vmem S512x256 .bf16) (harg9 : arg9.IsWhole) (arg10 : Memref sig .tc .vmem S4096x256 .f32) (harg10 : arg10.IsWhole) (arg11 : Memref sig .tc .vmem S4096x256 .f32) (harg11 : arg11.IsWhole) (arg12 : Memref sig .tc .vmem S4096x128 .f32) (harg12 : arg12.IsWhole) (arg13 : Memref sig .tc .vmem S4096x256 .f32) (harg13 : arg13.IsWhole) (arg14 : Memref sig .tc .vmem S4096x256 .f32) (harg14 : arg14.IsWhole) (arg15 : Memref sig .tc .vmem S4096x128 .f32) (harg15 : arg15.IsWhole) (k0_h2 : k0_cond2 i = 1#1) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (G_arg10 : BufTy.Contents (Elt F) arg10.view.ty) (G_arg11 : BufTy.Contents (Elt F) arg11.view.ty) (G_arg13 : BufTy.Contents (Elt F) arg13.view.ty) (G_arg14 : BufTy.Contents (Elt F) arg14.view.ty) (G_arg15 : BufTy.Contents (Elt F) arg15.view.ty) (x1 : Vec F S4096x3584 .i8) (x2 : Vec F S4096x128 .f32) (x3 : Vec F S3584x256 .i8) (x4 : Vec F S3584x256 .i8) (x5 : Vec F S1x256 .f32) (x6 : Vec F S1x256 .f32) (x7 : Vec F S1x256 .f32) (x8 : Vec F S256x256 .bf16) (x9 : Vec F S512x256 .bf16) (y10 : Vec F S4096x256 .f32) (y11 : Vec F S4096x256 .f32) (y13 : Vec F S4096x256 .f32) (y14 : Vec F S4096x256 .f32) (y15 : Vec F S4096x128 .f32) (h1 : arg1.view.read (Elt F) X_arg1 = x1) (h2 : arg2.view.read (Elt F) X_arg2 = x2) (h3 : arg3.view.read (Elt F) X_arg3 = x3) (h4 : arg4.view.read (Elt F) X_arg4 = x4) (h5 : arg5.view.read (Elt F) X_arg5 = x5) (h6 : arg6.view.read (Elt F) X_arg6 = x6) (h7 : arg7.view.read (Elt F) X_arg7 = x7) (h8 : arg8.view.read (Elt F) X_arg8 = x8) (h9 : arg9.view.read (Elt F) X_arg9 = x9) (g10 : arg10.view.read (Elt F) G_arg10 = y10) (g11 : arg11.view.read (Elt F) G_arg11 = y11) (g13 : arg13.view.read (Elt F) G_arg13 = y13) (g14 : arg14.view.read (Elt F) G_arg14 = y14) (g15 : arg15.view.read (Elt F) G_arg15 = y15) (n : ℕ) (hn : n ≤ k0_t1_loop.trips) :
    arg10.view.read (Elt F) (arg10.view.writes (Elt F) G_arg10 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h2 X_arg1 X_arg2 X_arg3 X_arg4 X_arg5 X_arg6 X_arg7 X_arg8 X_arg9 G_arg10 G_arg11 G_arg13 G_arg14 G_arg15 n).1) = mix (usC x2 y13 x5 y14 x6) y10 n ∧
    arg11.view.read (Elt F) (arg11.view.writes (Elt F) G_arg11 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h2 X_arg1 X_arg2 X_arg3 X_arg4 X_arg5 X_arg6 X_arg7 X_arg8 X_arg9 G_arg10 G_arg11 G_arg13 G_arg14 G_arg15 n).2.1) = mix (rC x2 y13 x5 y14 x6 x7 x8 x9) y11 n ∧
    arg13.view.read (Elt F) (arg13.view.writes (Elt F) G_arg13 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h2 X_arg1 X_arg2 X_arg3 X_arg4 X_arg5 X_arg6 X_arg7 X_arg8 X_arg9 G_arg10 G_arg11 G_arg13 G_arg14 G_arg15 n).2.2.1) = mix (gC x1 x3) y13 n ∧
    arg14.view.read (Elt F) (arg14.view.writes (Elt F) G_arg14 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h2 X_arg1 X_arg2 X_arg3 X_arg4 X_arg5 X_arg6 X_arg7 X_arg8 X_arg9 G_arg10 G_arg11 G_arg13 G_arg14 G_arg15 n).2.2.2.1) = mix (uC x1 x4) y14 n ∧
    arg15.view.read (Elt F) (arg15.view.writes (Elt F) G_arg15 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h2 X_arg1 X_arg2 X_arg3 X_arg4 X_arg5 X_arg6 X_arg7 X_arg8 X_arg9 G_arg10 G_arg11 G_arg13 G_arg14 G_arg15 n).2.2.2.2) = mix (mC x2 y13 x5 y14 x6 x7 x8 x9 y15) y15 n := by
  induction n with
  | zero =>
    simp only [pb_k0_t1, View.writes_nil, mix_zero]
    exact ⟨g10, g11, g13, g14, g15⟩
  | succ n ih =>
    obtain ⟨i10, i11, i13, i14, i15⟩ := ih (Nat.le_of_succ_le hn)
    have hs := pb_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h2 X_arg1 X_arg2 X_arg3 X_arg4 X_arg5 X_arg6 X_arg7 X_arg8 X_arg9 G_arg10 G_arg11 G_arg13 G_arg14 G_arg15 ⟨n, hn⟩
    rw [show (n + 1) = (⟨n, hn⟩ : Fin k0_t1_loop.trips).val + 1 from rfl, hs]
    simp only [View.writes_append]
    exact trip_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h2 X_arg1 X_arg2 X_arg3 X_arg4 X_arg5 X_arg6 X_arg7 X_arg8 X_arg9 ⟨n, hn⟩ _ _ _ _ _ x1 x2 x3 x4 x5 x6 x7 x8 x9 y10 y11 y13 y14 y15 h1 h2 h3 h4 h5 h6 h7 h8 h9 i10 i11 i13 i14 i15

theorem loop_t2 (𝒱 : Variants) (c : Dev nD) (bd : Option 𝒱.V) (i : grid0.Coords) (arg1 : Memref sig .tc .vmem S4096x3584 .i8) (harg1 : arg1.IsWhole) (arg2 : Memref sig .tc .vmem S4096x128 .f32) (harg2 : arg2.IsWhole) (arg3 : Memref sig .tc .vmem S3584x256 .i8) (harg3 : arg3.IsWhole) (arg4 : Memref sig .tc .vmem S3584x256 .i8) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S256x256 .bf16) (harg8 : arg8.IsWhole) (arg9 : Memref sig .tc .vmem S512x256 .bf16) (harg9 : arg9.IsWhole) (arg10 : Memref sig .tc .vmem S4096x256 .f32) (harg10 : arg10.IsWhole) (arg11 : Memref sig .tc .vmem S4096x256 .f32) (harg11 : arg11.IsWhole) (arg12 : Memref sig .tc .vmem S4096x128 .f32) (harg12 : arg12.IsWhole) (arg13 : Memref sig .tc .vmem S4096x256 .f32) (harg13 : arg13.IsWhole) (arg14 : Memref sig .tc .vmem S4096x256 .f32) (harg14 : arg14.IsWhole) (arg15 : Memref sig .tc .vmem S4096x128 .f32) (harg15 : arg15.IsWhole) (k0_h3 : k0_cond3 i = 1#1) (X_arg2 : BufTy.Contents (Elt F) arg2.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg13 : BufTy.Contents (Elt F) arg13.view.ty) (X_arg14 : BufTy.Contents (Elt F) arg14.view.ty) (G_arg10 : BufTy.Contents (Elt F) arg10.view.ty) (G_arg11 : BufTy.Contents (Elt F) arg11.view.ty) (G_arg12 : BufTy.Contents (Elt F) arg12.view.ty) (G_arg15 : BufTy.Contents (Elt F) arg15.view.ty) (x2 : Vec F S4096x128 .f32) (x5 : Vec F S1x256 .f32) (x6 : Vec F S1x256 .f32) (x7 : Vec F S1x256 .f32) (x8 : Vec F S256x256 .bf16) (x9 : Vec F S512x256 .bf16) (x13 : Vec F S4096x256 .f32) (x14 : Vec F S4096x256 .f32) (y10 : Vec F S4096x256 .f32) (y11 : Vec F S4096x256 .f32) (y12 : Vec F S4096x128 .f32) (y15 : Vec F S4096x128 .f32) (h2 : arg2.view.read (Elt F) X_arg2 = x2) (h5 : arg5.view.read (Elt F) X_arg5 = x5) (h6 : arg6.view.read (Elt F) X_arg6 = x6) (h7 : arg7.view.read (Elt F) X_arg7 = x7) (h8 : arg8.view.read (Elt F) X_arg8 = x8) (h9 : arg9.view.read (Elt F) X_arg9 = x9) (h13 : arg13.view.read (Elt F) X_arg13 = x13) (h14 : arg14.view.read (Elt F) X_arg14 = x14) (g10 : arg10.view.read (Elt F) G_arg10 = y10) (g11 : arg11.view.read (Elt F) G_arg11 = y11) (g12 : arg12.view.read (Elt F) G_arg12 = y12) (g15 : arg15.view.read (Elt F) G_arg15 = y15) (n : ℕ) (hn : n ≤ k0_t2_loop.trips) :
    arg10.view.read (Elt F) (arg10.view.writes (Elt F) G_arg10 (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 X_arg2 X_arg5 X_arg6 X_arg7 X_arg8 X_arg9 X_arg13 X_arg14 G_arg10 G_arg11 G_arg12 G_arg15 n).1) = mix (usC x2 x13 x5 x14 x6) y10 n ∧
    arg11.view.read (Elt F) (arg11.view.writes (Elt F) G_arg11 (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 X_arg2 X_arg5 X_arg6 X_arg7 X_arg8 X_arg9 X_arg13 X_arg14 G_arg10 G_arg11 G_arg12 G_arg15 n).2.1) = mix (rC x2 x13 x5 x14 x6 x7 x8 x9) y11 n ∧
    arg12.view.read (Elt F) (arg12.view.writes (Elt F) G_arg12 (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 X_arg2 X_arg5 X_arg6 X_arg7 X_arg8 X_arg9 X_arg13 X_arg14 G_arg10 G_arg11 G_arg12 G_arg15 n).2.2.1) = mix (sC (mC x2 x13 x5 x14 x6 x7 x8 x9 y15)) y12 n ∧
    arg15.view.read (Elt F) (arg15.view.writes (Elt F) G_arg15 (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 X_arg2 X_arg5 X_arg6 X_arg7 X_arg8 X_arg9 X_arg13 X_arg14 G_arg10 G_arg11 G_arg12 G_arg15 n).2.2.2) = mix (mC x2 x13 x5 x14 x6 x7 x8 x9 y15) y15 n := by
  induction n with
  | zero =>
    simp only [pb_k0_t2, View.writes_nil, mix_zero]
    exact ⟨g10, g11, g12, g15⟩
  | succ n ih =>
    obtain ⟨i10, i11, i12, i15⟩ := ih (Nat.le_of_succ_le hn)
    have hs := pb_k0_t2_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 X_arg2 X_arg5 X_arg6 X_arg7 X_arg8 X_arg9 X_arg13 X_arg14 G_arg10 G_arg11 G_arg12 G_arg15 ⟨n, hn⟩
    rw [show (n + 1) = (⟨n, hn⟩ : Fin k0_t2_loop.trips).val + 1 from rfl, hs]
    simp only [View.writes_append]
    exact trip_t2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 X_arg2 X_arg5 X_arg6 X_arg7 X_arg8 X_arg9 X_arg13 X_arg14 ⟨n, hn⟩ _ _ _ _ x2 x5 x6 x7 x8 x9 x13 x14 y10 y11 y12 y15 h2 h5 h6 h7 h8 h9 h13 h14 i10 i11 i12 i15

theorem done_t1 (𝒱 : Variants) (c : Dev nD) (bd : Option 𝒱.V) (i : grid0.Coords) (arg1 : Memref sig .tc .vmem S4096x3584 .i8) (harg1 : arg1.IsWhole) (arg2 : Memref sig .tc .vmem S4096x128 .f32) (harg2 : arg2.IsWhole) (arg3 : Memref sig .tc .vmem S3584x256 .i8) (harg3 : arg3.IsWhole) (arg4 : Memref sig .tc .vmem S3584x256 .i8) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S256x256 .bf16) (harg8 : arg8.IsWhole) (arg9 : Memref sig .tc .vmem S512x256 .bf16) (harg9 : arg9.IsWhole) (arg10 : Memref sig .tc .vmem S4096x256 .f32) (harg10 : arg10.IsWhole) (arg11 : Memref sig .tc .vmem S4096x256 .f32) (harg11 : arg11.IsWhole) (arg12 : Memref sig .tc .vmem S4096x128 .f32) (harg12 : arg12.IsWhole) (arg13 : Memref sig .tc .vmem S4096x256 .f32) (harg13 : arg13.IsWhole) (arg14 : Memref sig .tc .vmem S4096x256 .f32) (harg14 : arg14.IsWhole) (arg15 : Memref sig .tc .vmem S4096x128 .f32) (harg15 : arg15.IsWhole) (k0_h2 : k0_cond2 i = 1#1) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (G_arg10 : BufTy.Contents (Elt F) arg10.view.ty) (G_arg11 : BufTy.Contents (Elt F) arg11.view.ty) (G_arg13 : BufTy.Contents (Elt F) arg13.view.ty) (G_arg14 : BufTy.Contents (Elt F) arg14.view.ty) (G_arg15 : BufTy.Contents (Elt F) arg15.view.ty) (x1 : Vec F S4096x3584 .i8) (x2 : Vec F S4096x128 .f32) (x3 : Vec F S3584x256 .i8) (x4 : Vec F S3584x256 .i8) (x5 : Vec F S1x256 .f32) (x6 : Vec F S1x256 .f32) (x7 : Vec F S1x256 .f32) (x8 : Vec F S256x256 .bf16) (x9 : Vec F S512x256 .bf16) (y10 : Vec F S4096x256 .f32) (y11 : Vec F S4096x256 .f32) (y13 : Vec F S4096x256 .f32) (y14 : Vec F S4096x256 .f32) (y15 : Vec F S4096x128 .f32) (h1 : arg1.view.read (Elt F) X_arg1 = x1) (h2 : arg2.view.read (Elt F) X_arg2 = x2) (h3 : arg3.view.read (Elt F) X_arg3 = x3) (h4 : arg4.view.read (Elt F) X_arg4 = x4) (h5 : arg5.view.read (Elt F) X_arg5 = x5) (h6 : arg6.view.read (Elt F) X_arg6 = x6) (h7 : arg7.view.read (Elt F) X_arg7 = x7) (h8 : arg8.view.read (Elt F) X_arg8 = x8) (h9 : arg9.view.read (Elt F) X_arg9 = x9) (g10 : arg10.view.read (Elt F) G_arg10 = y10) (g11 : arg11.view.read (Elt F) G_arg11 = y11) (g13 : arg13.view.read (Elt F) G_arg13 = y13) (g14 : arg14.view.read (Elt F) G_arg14 = y14) (g15 : arg15.view.read (Elt F) G_arg15 = y15) :
    arg10.view.read (Elt F) (arg10.view.writes (Elt F) G_arg10 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h2 X_arg1 X_arg2 X_arg3 X_arg4 X_arg5 X_arg6 X_arg7 X_arg8 X_arg9 G_arg10 G_arg11 G_arg13 G_arg14 G_arg15 k0_t1_loop.trips).1) = glue (usC x2 y13 x5 y14 x6) ∧
    arg11.view.read (Elt F) (arg11.view.writes (Elt F) G_arg11 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h2 X_arg1 X_arg2 X_arg3 X_arg4 X_arg5 X_arg6 X_arg7 X_arg8 X_arg9 G_arg10 G_arg11 G_arg13 G_arg14 G_arg15 k0_t1_loop.trips).2.1) = glue (rC x2 y13 x5 y14 x6 x7 x8 x9) ∧
    arg13.view.read (Elt F) (arg13.view.writes (Elt F) G_arg13 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h2 X_arg1 X_arg2 X_arg3 X_arg4 X_arg5 X_arg6 X_arg7 X_arg8 X_arg9 G_arg10 G_arg11 G_arg13 G_arg14 G_arg15 k0_t1_loop.trips).2.2.1) = glue (gC x1 x3) ∧
    arg14.view.read (Elt F) (arg14.view.writes (Elt F) G_arg14 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h2 X_arg1 X_arg2 X_arg3 X_arg4 X_arg5 X_arg6 X_arg7 X_arg8 X_arg9 G_arg10 G_arg11 G_arg13 G_arg14 G_arg15 k0_t1_loop.trips).2.2.2.1) = glue (uC x1 x4) ∧
    arg15.view.read (Elt F) (arg15.view.writes (Elt F) G_arg15 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h2 X_arg1 X_arg2 X_arg3 X_arg4 X_arg5 X_arg6 X_arg7 X_arg8 X_arg9 G_arg10 G_arg11 G_arg13 G_arg14 G_arg15 k0_t1_loop.trips).2.2.2.2) = glue (mC x2 y13 x5 y14 x6 x7 x8 x9 y15) := by
  have hl := loop_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h2 X_arg1 X_arg2 X_arg3 X_arg4 X_arg5 X_arg6 X_arg7 X_arg8 X_arg9 G_arg10 G_arg11 G_arg13 G_arg14 G_arg15 x1 x2 x3 x4 x5 x6 x7 x8 x9 y10 y11 y13 y14 y15 h1 h2 h3 h4 h5 h6 h7 h8 h9 g10 g11 g13 g14 g15 k0_t1_loop.trips le_rfl
  have e : ∀ {N : ℕ} (g : Fin 4 → (⟨2, ![1024, N]⟩ : Shape).Idx → Elt F .f32) x, mix g x k0_t1_loop.trips = glue g := by
    intro N g x
    rw [show k0_t1_loop.trips = 4 from by decide +kernel]; exact mix_four g x
  obtain ⟨i10, i11, i13, i14, i15⟩ := hl
  exact ⟨i10.trans (e _ _), i11.trans (e _ _), i13.trans (e _ _), i14.trans (e _ _), i15.trans (e _ _)⟩

theorem done_t2 (𝒱 : Variants) (c : Dev nD) (bd : Option 𝒱.V) (i : grid0.Coords) (arg1 : Memref sig .tc .vmem S4096x3584 .i8) (harg1 : arg1.IsWhole) (arg2 : Memref sig .tc .vmem S4096x128 .f32) (harg2 : arg2.IsWhole) (arg3 : Memref sig .tc .vmem S3584x256 .i8) (harg3 : arg3.IsWhole) (arg4 : Memref sig .tc .vmem S3584x256 .i8) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S256x256 .bf16) (harg8 : arg8.IsWhole) (arg9 : Memref sig .tc .vmem S512x256 .bf16) (harg9 : arg9.IsWhole) (arg10 : Memref sig .tc .vmem S4096x256 .f32) (harg10 : arg10.IsWhole) (arg11 : Memref sig .tc .vmem S4096x256 .f32) (harg11 : arg11.IsWhole) (arg12 : Memref sig .tc .vmem S4096x128 .f32) (harg12 : arg12.IsWhole) (arg13 : Memref sig .tc .vmem S4096x256 .f32) (harg13 : arg13.IsWhole) (arg14 : Memref sig .tc .vmem S4096x256 .f32) (harg14 : arg14.IsWhole) (arg15 : Memref sig .tc .vmem S4096x128 .f32) (harg15 : arg15.IsWhole) (k0_h3 : k0_cond3 i = 1#1) (X_arg2 : BufTy.Contents (Elt F) arg2.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg13 : BufTy.Contents (Elt F) arg13.view.ty) (X_arg14 : BufTy.Contents (Elt F) arg14.view.ty) (G_arg10 : BufTy.Contents (Elt F) arg10.view.ty) (G_arg11 : BufTy.Contents (Elt F) arg11.view.ty) (G_arg12 : BufTy.Contents (Elt F) arg12.view.ty) (G_arg15 : BufTy.Contents (Elt F) arg15.view.ty) (x2 : Vec F S4096x128 .f32) (x5 : Vec F S1x256 .f32) (x6 : Vec F S1x256 .f32) (x7 : Vec F S1x256 .f32) (x8 : Vec F S256x256 .bf16) (x9 : Vec F S512x256 .bf16) (x13 : Vec F S4096x256 .f32) (x14 : Vec F S4096x256 .f32) (y10 : Vec F S4096x256 .f32) (y11 : Vec F S4096x256 .f32) (y12 : Vec F S4096x128 .f32) (y15 : Vec F S4096x128 .f32) (h2 : arg2.view.read (Elt F) X_arg2 = x2) (h5 : arg5.view.read (Elt F) X_arg5 = x5) (h6 : arg6.view.read (Elt F) X_arg6 = x6) (h7 : arg7.view.read (Elt F) X_arg7 = x7) (h8 : arg8.view.read (Elt F) X_arg8 = x8) (h9 : arg9.view.read (Elt F) X_arg9 = x9) (h13 : arg13.view.read (Elt F) X_arg13 = x13) (h14 : arg14.view.read (Elt F) X_arg14 = x14) (g10 : arg10.view.read (Elt F) G_arg10 = y10) (g11 : arg11.view.read (Elt F) G_arg11 = y11) (g12 : arg12.view.read (Elt F) G_arg12 = y12) (g15 : arg15.view.read (Elt F) G_arg15 = y15) :
    arg10.view.read (Elt F) (arg10.view.writes (Elt F) G_arg10 (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 X_arg2 X_arg5 X_arg6 X_arg7 X_arg8 X_arg9 X_arg13 X_arg14 G_arg10 G_arg11 G_arg12 G_arg15 k0_t2_loop.trips).1) = glue (usC x2 x13 x5 x14 x6) ∧
    arg11.view.read (Elt F) (arg11.view.writes (Elt F) G_arg11 (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 X_arg2 X_arg5 X_arg6 X_arg7 X_arg8 X_arg9 X_arg13 X_arg14 G_arg10 G_arg11 G_arg12 G_arg15 k0_t2_loop.trips).2.1) = glue (rC x2 x13 x5 x14 x6 x7 x8 x9) ∧
    arg12.view.read (Elt F) (arg12.view.writes (Elt F) G_arg12 (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 X_arg2 X_arg5 X_arg6 X_arg7 X_arg8 X_arg9 X_arg13 X_arg14 G_arg10 G_arg11 G_arg12 G_arg15 k0_t2_loop.trips).2.2.1) = glue (sC (mC x2 x13 x5 x14 x6 x7 x8 x9 y15)) ∧
    arg15.view.read (Elt F) (arg15.view.writes (Elt F) G_arg15 (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 X_arg2 X_arg5 X_arg6 X_arg7 X_arg8 X_arg9 X_arg13 X_arg14 G_arg10 G_arg11 G_arg12 G_arg15 k0_t2_loop.trips).2.2.2) = glue (mC x2 x13 x5 x14 x6 x7 x8 x9 y15) := by
  have hl := loop_t2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 X_arg2 X_arg5 X_arg6 X_arg7 X_arg8 X_arg9 X_arg13 X_arg14 G_arg10 G_arg11 G_arg12 G_arg15 x2 x5 x6 x7 x8 x9 x13 x14 y10 y11 y12 y15 h2 h5 h6 h7 h8 h9 h13 h14 g10 g11 g12 g15 k0_t2_loop.trips le_rfl
  have e : ∀ {N : ℕ} (g : Fin 4 → (⟨2, ![1024, N]⟩ : Shape).Idx → Elt F .f32) x, mix g x k0_t2_loop.trips = glue g := by
    intro N g x
    rw [show k0_t2_loop.trips = 4 from by decide +kernel]; exact mix_four g x
  obtain ⟨i10, i11, i12, i15⟩ := hl
  exact ⟨i10.trans (e _ _), i11.trans (e _ _), i12.trans (e _ _), i15.trans (e _ _)⟩

end Cert.SharedUpIdeal.Hand
end
-- ==== Proof.Up.BodyA.lean ====
/- One run of the body, from what its buffers hold to what they hold afterwards (case A of three). -/
module

public import proofs.«01_k».proof.Proof.Up.Loop

@[expose] public section
set_option maxRecDepth 16384
set_option maxHeartbeats 1000000
noncomputable section
namespace Cert.SharedUpIdeal.Hand
open Cert.SharedUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]
local notation "𝕄" => MT nD τ sig Unit (Elt F) ℕ (UR sig nD τ) ℕ

open Cert.Rows

/-- One run of the body at the first point: the products start from zero. -/
theorem body_A (c : Dev nD) (i : grid0.Coords) (arg1 : Memref sig .tc .vmem S4096x3584 .i8) (harg1 : arg1.IsWhole) (arg2 : Memref sig .tc .vmem S4096x128 .f32) (harg2 : arg2.IsWhole) (arg3 : Memref sig .tc .vmem S3584x256 .i8) (harg3 : arg3.IsWhole) (arg4 : Memref sig .tc .vmem S3584x256 .i8) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S256x256 .bf16) (harg8 : arg8.IsWhole) (arg9 : Memref sig .tc .vmem S512x256 .bf16) (harg9 : arg9.IsWhole) (arg10 : Memref sig .tc .vmem S4096x256 .f32) (harg10 : arg10.IsWhole) (arg11 : Memref sig .tc .vmem S4096x256 .f32) (harg11 : arg11.IsWhole) (arg12 : Memref sig .tc .vmem S4096x128 .f32) (harg12 : arg12.IsWhole) (arg13 : Memref sig .tc .vmem S4096x256 .f32) (harg13 : arg13.IsWhole) (arg14 : Memref sig .tc .vmem S4096x256 .f32) (harg14 : arg14.IsWhole) (arg15 : Memref sig .tc .vmem S4096x128 .f32) (harg15 : arg15.IsWhole) (hc0 : cond0_0 i) (hc1 : cond0_1 i) (hc2 : ¬cond0_2 i)
    (x0 : Vec F S4096x3584 .i8) (x1 : Vec F S4096x128 .f32) (x2 : Vec F S3584x256 .i8) (x3 : Vec F S3584x256 .i8) (x4 : Vec F S1x256 .f32) (x5 : Vec F S1x256 .f32) (x6 : Vec F S1x256 .f32) (x7 : Vec F S256x256 .bf16) (x8 : Vec F S512x256 .bf16) (xi11 : Vec F S4096x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ owns (c : Thread nD τ) arg12 fullShare xi11 ∗ (∃ d, owns (c : Thread nD τ) arg13 fullShare d) ∗ (∃ d, owns (c : Thread nD τ) arg14 fullShare d) ∗ (∃ d, owns (c : Thread nD τ) arg15 fullShare d)
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (glue (usC x1 k0_pay1 x4 k0_pay2 x5)) ∗ owns (c : Thread nD τ) arg11 fullShare (glue (rC x1 k0_pay1 x4 k0_pay2 x5 x6 x7 x8)) ∗ owns (c : Thread nD τ) arg12 fullShare xi11 ∗ owns (c : Thread nD τ) arg13 fullShare (glue (gC x0 x2)) ∗ owns (c : Thread nD τ) arg14 fullShare (glue (uC x0 x3)) ∗ owns (c : Thread nD τ) arg15 fullShare (glue (mC x1 k0_pay1 x4 k0_pay2 x5 x6 x7 x8 k0_pay3))) -∗ K ⟨⟩))
    ⊢ wp frame (wpE (defs₀ (F := F)) Variants.none c none) E (cc0_shared_up i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_shared_up_eq_skeleton]; unfold cc0_shared_up_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%f11, %hf11, H11⟩, ⟨%ds0, %fs0, -, HS0⟩, ⟨%ds1, %fs1, -, HS1⟩, ⟨%ds2, %fs2, -, HS2⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg12.eq_unread hf11
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; swap; · iexact H9
    ipureintro
    refine (done_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 _ _ _ _ _ _ _ _ _ _ _ _ _ _ _ _ _ _ _ _ _ _ _ _ _ (k0_pay1 (F := F)) (k0_pay2 (F := F)) (k0_pay3 (F := F)) (harg1.read_unread _) (harg2.read_unread _) (harg3.read_unread _) (harg4.read_unread _) (harg5.read_unread _) (harg6.read_unread _) (harg7.read_unread _) (harg8.read_unread _) (harg9.read_unread _) rfl rfl ?_ ?_ ?_).1 <;> exact read_write_all _ _ _ zz _
  isplitl [H10]
  · iexists _; isplitr; swap; · iexact H10
    ipureintro
    refine (done_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 _ _ _ _ _ _ _ _ _ _ _ _ _ _ _ _ _ _ _ _ _ _ _ _ _ (k0_pay1 (F := F)) (k0_pay2 (F := F)) (k0_pay3 (F := F)) (harg1.read_unread _) (harg2.read_unread _) (harg3.read_unread _) (harg4.read_unread _) (harg5.read_unread _) (harg6.read_unread _) (harg7.read_unread _) (harg8.read_unread _) (harg9.read_unread _) rfl rfl ?_ ?_ ?_).2.1 <;> exact read_write_all _ _ _ zz _
  isplitl [H11]
  · iexists _; isplitr; · ipureintro; exact harg12.read_unread _
    iexact H11
  isplitl [HS0]
  · iexists _; isplitr; swap; · iexact HS0
    ipureintro
    rw [View.writes_append]; refine (done_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 _ _ _ _ _ _ _ _ _ _ _ _ _ _ _ _ _ _ _ _ _ _ _ _ _ (k0_pay1 (F := F)) (k0_pay2 (F := F)) (k0_pay3 (F := F)) (harg1.read_unread _) (harg2.read_unread _) (harg3.read_unread _) (harg4.read_unread _) (harg5.read_unread _) (harg6.read_unread _) (harg7.read_unread _) (harg8.read_unread _) (harg9.read_unread _) rfl rfl ?_ ?_ ?_).2.2.1 <;> exact read_write_all _ _ _ zz _
  isplitl [HS1]
  · iexists _; isplitr; swap; · iexact HS1
    ipureintro
    rw [View.writes_append]; refine (done_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 _ _ _ _ _ _ _ _ _ _ _ _ _ _ _ _ _ _ _ _ _ _ _ _ _ (k0_pay1 (F := F)) (k0_pay2 (F := F)) (k0_pay3 (F := F)) (harg1.read_unread _) (harg2.read_unread _) (harg3.read_unread _) (harg4.read_unread _) (harg5.read_unread _) (harg6.read_unread _) (harg7.read_unread _) (harg8.read_unread _) (harg9.read_unread _) rfl rfl ?_ ?_ ?_).2.2.2.1 <;> exact read_write_all _ _ _ zz _
  iexists _; isplitr; swap; · iexact HS2
  ipureintro
  rw [View.writes_append]; refine (done_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 _ _ _ _ _ _ _ _ _ _ _ _ _ _ _ _ _ _ _ _ _ _ _ _ _ (k0_pay1 (F := F)) (k0_pay2 (F := F)) (k0_pay3 (F := F)) (harg1.read_unread _) (harg2.read_unread _) (harg3.read_unread _) (harg4.read_unread _) (harg5.read_unread _) (harg6.read_unread _) (harg7.read_unread _) (harg8.read_unread _) (harg9.read_unread _) rfl rfl ?_ ?_ ?_).2.2.2.2 <;> exact read_write_all _ _ _ zz _

end Cert.SharedUpIdeal.Hand
end
-- ==== Proof.Up.BodyB.lean ====
/- One run of the body, from what its buffers hold to what they hold afterwards (case B of three). -/
module

public import proofs.«01_k».proof.Proof.Up.Loop

@[expose] public section
set_option maxRecDepth 16384
set_option maxHeartbeats 1000000
noncomputable section
namespace Cert.SharedUpIdeal.Hand
open Cert.SharedUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]
local notation "𝕄" => MT nD τ sig Unit (Elt F) ℕ (UR sig nD τ) ℕ

open Cert.Rows

/-- One run of the body at a later point of the products. -/
theorem body_B (c : Dev nD) (i : grid0.Coords) (arg1 : Memref sig .tc .vmem S4096x3584 .i8) (harg1 : arg1.IsWhole) (arg2 : Memref sig .tc .vmem S4096x128 .f32) (harg2 : arg2.IsWhole) (arg3 : Memref sig .tc .vmem S3584x256 .i8) (harg3 : arg3.IsWhole) (arg4 : Memref sig .tc .vmem S3584x256 .i8) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S256x256 .bf16) (harg8 : arg8.IsWhole) (arg9 : Memref sig .tc .vmem S512x256 .bf16) (harg9 : arg9.IsWhole) (arg10 : Memref sig .tc .vmem S4096x256 .f32) (harg10 : arg10.IsWhole) (arg11 : Memref sig .tc .vmem S4096x256 .f32) (harg11 : arg11.IsWhole) (arg12 : Memref sig .tc .vmem S4096x128 .f32) (harg12 : arg12.IsWhole) (arg13 : Memref sig .tc .vmem S4096x256 .f32) (harg13 : arg13.IsWhole) (arg14 : Memref sig .tc .vmem S4096x256 .f32) (harg14 : arg14.IsWhole) (arg15 : Memref sig .tc .vmem S4096x128 .f32) (harg15 : arg15.IsWhole) (hc0 : ¬cond0_0 i) (hc1 : cond0_1 i) (hc2 : ¬cond0_2 i)
    (x0 : Vec F S4096x3584 .i8) (x1 : Vec F S4096x128 .f32) (x2 : Vec F S3584x256 .i8) (x3 : Vec F S3584x256 .i8) (x4 : Vec F S1x256 .f32) (x5 : Vec F S1x256 .f32) (x6 : Vec F S1x256 .f32) (x7 : Vec F S256x256 .bf16) (x8 : Vec F S512x256 .bf16) (xs0 xs1 : Vec F S4096x256 .f32) (xs2 : Vec F S4096x128 .f32) (xi11 : Vec F S4096x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ owns (c : Thread nD τ) arg12 fullShare xi11 ∗ owns (c : Thread nD τ) arg13 fullShare xs0 ∗ owns (c : Thread nD τ) arg14 fullShare xs1 ∗ owns (c : Thread nD τ) arg15 fullShare xs2
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (glue (usC x1 xs0 x4 xs1 x5)) ∗ owns (c : Thread nD τ) arg11 fullShare (glue (rC x1 xs0 x4 xs1 x5 x6 x7 x8)) ∗ owns (c : Thread nD τ) arg12 fullShare xi11 ∗ owns (c : Thread nD τ) arg13 fullShare (glue (gC x0 x2)) ∗ owns (c : Thread nD τ) arg14 fullShare (glue (uC x0 x3)) ∗ owns (c : Thread nD τ) arg15 fullShare (glue (mC x1 xs0 x4 xs1 x5 x6 x7 x8 xs2))) -∗ K ⟨⟩))
    ⊢ wp frame (wpE (defs₀ (F := F)) Variants.none c none) E (cc0_shared_up i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_shared_up_eq_skeleton]; unfold cc0_shared_up_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%f11, %hf11, H11⟩, ⟨%fs0, %hfs0, HS0⟩, ⟨%fs1, %hfs1, HS1⟩, ⟨%fs2, %hfs2, HS2⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg12.eq_unread hf11; obtain rfl := harg13.eq_unread hfs0; obtain rfl := harg14.eq_unread hfs1; obtain rfl := harg15.eq_unread hfs2
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; swap; · iexact H9
    ipureintro
    exact (done_t1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 _ _ _ _ _ _ _ _ _ _ _ _ _ _ _ _ _ _ _ _ _ _ _ _ _ _ _ _ (harg1.read_unread _) (harg2.read_unread _) (harg3.read_unread _) (harg4.read_unread _) (harg5.read_unread _) (harg6.read_unread _) (harg7.read_unread _) (harg8.read_unread _) (harg9.read_unread _) rfl rfl (harg13.read_unread _) (harg14.read_unread _) (harg15.read_unread _)).1
  isplitl [H10]
  · iexists _; isplitr; swap; · iexact H10
    ipureintro
    exact (done_t1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 _ _ _ _ _ _ _ _ _ _ _ _ _ _ _ _ _ _ _ _ _ _ _ _ _ _ _ _ (harg1.read_unread _) (harg2.read_unread _) (harg3.read_unread _) (harg4.read_unread _) (harg5.read_unread _) (harg6.read_unread _) (harg7.read_unread _) (harg8.read_unread _) (harg9.read_unread _) rfl rfl (harg13.read_unread _) (harg14.read_unread _) (harg15.read_unread _)).2.1
  isplitl [H11]
  · iexists _; isplitr; · ipureintro; exact harg12.read_unread _
    iexact H11
  isplitl [HS0]
  · iexists _; isplitr; swap; · iexact HS0
    ipureintro
    exact (done_t1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 _ _ _ _ _ _ _ _ _ _ _ _ _ _ _ _ _ _ _ _ _ _ _ _ _ _ _ _ (harg1.read_unread _) (harg2.read_unread _) (harg3.read_unread _) (harg4.read_unread _) (harg5.read_unread _) (harg6.read_unread _) (harg7.read_unread _) (harg8.read_unread _) (harg9.read_unread _) rfl rfl (harg13.read_unread _) (harg14.read_unread _) (harg15.read_unread _)).2.2.1
  isplitl [HS1]
  · iexists _; isplitr; swap; · iexact HS1
    ipureintro
    exact (done_t1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 _ _ _ _ _ _ _ _ _ _ _ _ _ _ _ _ _ _ _ _ _ _ _ _ _ _ _ _ (harg1.read_unread _) (harg2.read_unread _) (harg3.read_unread _) (harg4.read_unread _) (harg5.read_unread _) (harg6.read_unread _) (harg7.read_unread _) (harg8.read_unread _) (harg9.read_unread _) rfl rfl (harg13.read_unread _) (harg14.read_unread _) (harg15.read_unread _)).2.2.2.1
  iexists _; isplitr; swap; · iexact HS2
  ipureintro
  exact (done_t1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 _ _ _ _ _ _ _ _ _ _ _ _ _ _ _ _ _ _ _ _ _ _ _ _ _ _ _ _ (harg1.read_unread _) (harg2.read_unread _) (harg3.read_unread _) (harg4.read_unread _) (harg5.read_unread _) (harg6.read_unread _) (harg7.read_unread _) (harg8.read_unread _) (harg9.read_unread _) rfl rfl (harg13.read_unread _) (harg14.read_unread _) (harg15.read_unread _)).2.2.2.2

end Cert.SharedUpIdeal.Hand
end
-- ==== Proof.Up.BodyC.lean ====
/- One run of the body, from what its buffers hold to what they hold afterwards (case C of three). -/
module

public import proofs.«01_k».proof.Proof.Up.Loop

@[expose] public section
set_option maxRecDepth 16384
set_option maxHeartbeats 1000000
noncomputable section
namespace Cert.SharedUpIdeal.Hand
open Cert.SharedUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]
local notation "𝕄" => MT nD τ sig Unit (Elt F) ℕ (UR sig nD τ) ℕ

open Cert.Rows

/-- One run of the body at the point after the last product: the scale is written. -/
theorem body_C (c : Dev nD) (i : grid0.Coords) (arg1 : Memref sig .tc .vmem S4096x3584 .i8) (harg1 : arg1.IsWhole) (arg2 : Memref sig .tc .vmem S4096x128 .f32) (harg2 : arg2.IsWhole) (arg3 : Memref sig .tc .vmem S3584x256 .i8) (harg3 : arg3.IsWhole) (arg4 : Memref sig .tc .vmem S3584x256 .i8) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S256x256 .bf16) (harg8 : arg8.IsWhole) (arg9 : Memref sig .tc .vmem S512x256 .bf16) (harg9 : arg9.IsWhole) (arg10 : Memref sig .tc .vmem S4096x256 .f32) (harg10 : arg10.IsWhole) (arg11 : Memref sig .tc .vmem S4096x256 .f32) (harg11 : arg11.IsWhole) (arg12 : Memref sig .tc .vmem S4096x128 .f32) (harg12 : arg12.IsWhole) (arg13 : Memref sig .tc .vmem S4096x256 .f32) (harg13 : arg13.IsWhole) (arg14 : Memref sig .tc .vmem S4096x256 .f32) (harg14 : arg14.IsWhole) (arg15 : Memref sig .tc .vmem S4096x128 .f32) (harg15 : arg15.IsWhole) (hc0 : ¬cond0_0 i) (hc1 : ¬cond0_1 i) (hc2 : cond0_2 i)
    (x0 : Vec F S4096x3584 .i8) (x1 : Vec F S4096x128 .f32) (x2 : Vec F S3584x256 .i8) (x3 : Vec F S3584x256 .i8) (x4 : Vec F S1x256 .f32) (x5 : Vec F S1x256 .f32) (x6 : Vec F S1x256 .f32) (x7 : Vec F S256x256 .bf16) (x8 : Vec F S512x256 .bf16) (xs0 xs1 : Vec F S4096x256 .f32) (xs2 : Vec F S4096x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs0 ∗ owns (c : Thread nD τ) arg14 fullShare xs1 ∗ owns (c : Thread nD τ) arg15 fullShare xs2
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (glue (usC x1 xs0 x4 xs1 x5)) ∗ owns (c : Thread nD τ) arg11 fullShare (glue (rC x1 xs0 x4 xs1 x5 x6 x7 x8)) ∗ owns (c : Thread nD τ) arg12 fullShare (glue (sC (mC x1 xs0 x4 xs1 x5 x6 x7 x8 xs2))) ∗ owns (c : Thread nD τ) arg13 fullShare xs0 ∗ owns (c : Thread nD τ) arg14 fullShare xs1 ∗ owns (c : Thread nD τ) arg15 fullShare (glue (mC x1 xs0 x4 xs1 x5 x6 x7 x8 xs2))) -∗ K ⟨⟩))
    ⊢ wp frame (wpE (defs₀ (F := F)) Variants.none c none) E (cc0_shared_up i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_shared_up_eq_skeleton]; unfold cc0_shared_up_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%fs0, %hfs0, HS0⟩, ⟨%fs1, %hfs1, HS1⟩, ⟨%fs2, %hfs2, HS2⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg13.eq_unread hfs0; obtain rfl := harg14.eq_unread hfs1; obtain rfl := harg15.eq_unread hfs2
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; swap; · iexact H9
    ipureintro
    exact (done_t2 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 hc2 _ _ _ _ _ _ _ _ _ _ _ _ _ _ _ _ _ _ _ _ _ _ _ _ (harg2.read_unread _) (harg5.read_unread _) (harg6.read_unread _) (harg7.read_unread _) (harg8.read_unread _) (harg9.read_unread _) (harg13.read_unread _) (harg14.read_unread _) rfl rfl rfl (harg15.read_unread _)).1
  isplitl [H10]
  · iexists _; isplitr; swap; · iexact H10
    ipureintro
    exact (done_t2 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 hc2 _ _ _ _ _ _ _ _ _ _ _ _ _ _ _ _ _ _ _ _ _ _ _ _ (harg2.read_unread _) (harg5.read_unread _) (harg6.read_unread _) (harg7.read_unread _) (harg8.read_unread _) (harg9.read_unread _) (harg13.read_unread _) (harg14.read_unread _) rfl rfl rfl (harg15.read_unread _)).2.1
  isplitl [H11]
  · iexists _; isplitr; swap; · iexact H11
    ipureintro
    exact (done_t2 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 hc2 _ _ _ _ _ _ _ _ _ _ _ _ _ _ _ _ _ _ _ _ _ _ _ _ (harg2.read_unread _) (harg5.read_unread _) (harg6.read_unread _) (harg7.read_unread _) (harg8.read_unread _) (harg9.read_unread _) (harg13.read_unread _) (harg14.read_unread _) rfl rfl rfl (harg15.read_unread _)).2.2.1
  isplitl [HS0]
  · iexists _; isplitr; · ipureintro; exact harg13.read_unread _
    iexact HS0
  isplitl [HS1]
  · iexists _; isplitr; · ipureintro; exact harg14.read_unread _
    iexact HS1
  iexists _; isplitr; swap; · iexact HS2
  ipureintro
  exact (done_t2 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 hc2 _ _ _ _ _ _ _ _ _ _ _ _ _ _ _ _ _ _ _ _ _ _ _ _ (harg2.read_unread _) (harg5.read_unread _) (harg6.read_unread _) (harg7.read_unread _) (harg8.read_unread _) (harg9.read_unread _) (harg13.read_unread _) (harg14.read_unread _) rfl rfl rfl (harg15.read_unread _)).2.2.2

end Cert.SharedUpIdeal.Hand
end
-- ==== Proof.Up.Frame.lean ====
/- The frame of the call: what its buffers hold point by point, the body at every point, and the run. -/
module

public import proofs.«01_k».proof.Proof.Up.BodyA
public import proofs.«01_k».proof.Proof.Up.BodyB
public import proofs.«01_k».proof.Proof.Up.BodyC
public import Idealize.ShloMosaic.Lib.Claim

@[expose] public section

set_option maxRecDepth 16384

noncomputable section

namespace Cert.SharedUpIdeal.Hand
open Cert.SharedUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Rows

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Everything a point leaves: the three outputs and the three buffers carried between points. -/
abbrev Left (F : FTy → Type) : Type :=
  Vec F S4096x256 .f32 × Vec F S4096x256 .f32 × Vec F S4096x128 .f32 ×
    Vec F S4096x256 .f32 × Vec F S4096x256 .f32 × Vec F S4096x128 .f32

/-- What a point of the products leaves, from the products `g`, `u` and the magnitudes `x` of the point before. -/
def leftB (c : Dev nD) (t : Fin cfg0.N) (g u : Vec F S4096x256 .f32) (x : Vec F S4096x128 .f32) : Left F :=
  (glue (usC (iblk m c 1 t) g (iblk m c 4 t) u (iblk m c 5 t)),
   glue (rC (iblk m c 1 t) g (iblk m c 4 t) u (iblk m c 5 t) (iblk m c 6 t) (iblk m c 7 t) (iblk m c 8 t)),
   x,
   glue (gC (iblk m c 0 t) (iblk m c 2 t)),
   glue (uC (iblk m c 0 t) (iblk m c 3 t)),
   glue (mC (iblk m c 1 t) g (iblk m c 4 t) u (iblk m c 5 t) (iblk m c 6 t) (iblk m c 7 t) (iblk m c 8 t) x))

/-- What the last point leaves. -/
def leftC (c : Dev nD) (t : Fin cfg0.N) (g u : Vec F S4096x256 .f32) (x : Vec F S4096x128 .f32) : Left F :=
  (glue (usC (iblk m c 1 t) g (iblk m c 4 t) u (iblk m c 5 t)),
   glue (rC (iblk m c 1 t) g (iblk m c 4 t) u (iblk m c 5 t) (iblk m c 6 t) (iblk m c 7 t) (iblk m c 8 t)),
   glue (sC (mC (iblk m c 1 t) g (iblk m c 4 t) u (iblk m c 5 t) (iblk m c 6 t) (iblk m c 7 t) (iblk m c 8 t) x)),
   g,
   u,
   glue (mC (iblk m c 1 t) g (iblk m c 4 t) u (iblk m c 5 t) (iblk m c 6 t) (iblk m c 7 t) (iblk m c 8 t) x))

/-- What point `n` leaves. -/
def outsAt0 (c : Dev nD) : (n : ℕ) → n < cfg0.N → Left F
  | 0, hn => leftB m c ⟨0, hn⟩ k0_pay1 k0_pay2 k0_pay3
  | n + 1, hn =>
    if (n + 1) < 80 then
      leftB m c ⟨n + 1, hn⟩ (outsAt0 c n (Nat.lt_of_succ_lt hn)).2.2.2.1 (outsAt0 c n (Nat.lt_of_succ_lt hn)).2.2.2.2.1
        (outsAt0 c n (Nat.lt_of_succ_lt hn)).2.2.2.2.2
    else
      leftC m c ⟨n + 1, hn⟩ (outsAt0 c n (Nat.lt_of_succ_lt hn)).2.2.2.1 (outsAt0 c n (Nat.lt_of_succ_lt hn)).2.2.2.2.1
        (outsAt0 c n (Nat.lt_of_succ_lt hn)).2.2.2.2.2

theorem outsAt0_A (c : Dev nD) (t : Fin cfg0.N) (h0 : t.val % 81 = 0) :
    outsAt0 m c t.val t.isLt = leftB m c t k0_pay1 k0_pay2 k0_pay3 := by
  have hN : t.val < 81 := lt_of_lt_of_eq t.isLt (show cfg0.N = 81 from N_0)
  obtain ⟨n, hn⟩ := t
  cases n with
  | zero => exact rfl
  | succ n => exfalso; dsimp only at h0 hN; omega

theorem outsAt0_B (c : Dev nD) (t : Fin cfg0.N) (h0 : ¬t.val % 81 = 0) (h1 : t.val < 80) :
    outsAt0 m c t.val t.isLt
      = leftB m c t (outsAt0 m c (t.val - 1) (Nat.lt_of_le_of_lt (Nat.sub_le _ _) t.isLt)).2.2.2.1
          (outsAt0 m c (t.val - 1) (Nat.lt_of_le_of_lt (Nat.sub_le _ _) t.isLt)).2.2.2.2.1
          (outsAt0 m c (t.val - 1) (Nat.lt_of_le_of_lt (Nat.sub_le _ _) t.isLt)).2.2.2.2.2 := by
  obtain ⟨n, hn⟩ := t
  cases n with
  | zero => exact absurd (Nat.zero_mod _) h0
  | succ n => exact (if_pos h1).trans rfl

theorem outsAt0_C (c : Dev nD) (t : Fin cfg0.N) (h0 : ¬t.val % 81 = 0) (h1 : ¬t.val < 80) :
    outsAt0 m c t.val t.isLt
      = leftC m c t (outsAt0 m c (t.val - 1) (Nat.lt_of_le_of_lt (Nat.sub_le _ _) t.isLt)).2.2.2.1
          (outsAt0 m c (t.val - 1) (Nat.lt_of_le_of_lt (Nat.sub_le _ _) t.isLt)).2.2.2.2.1
          (outsAt0 m c (t.val - 1) (Nat.lt_of_le_of_lt (Nat.sub_le _ _) t.isLt)).2.2.2.2.2 := by
  obtain ⟨n, hn⟩ := t
  cases n with
  | zero => exact absurd (Nat.zero_mod _) h0
  | succ n => exact (if_neg h1).trans rfl

/-- What holds between points: before the first, the carried buffers hold anything; afterwards, what the point before
    left in them. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.1) ∗ owns (c : Thread nD τ) scM0_1 fullShare ((outsAt0 m c n hn).2.2.2.2.1) ∗ owns (c : Thread nD τ) scM0_2 fullShare ((outsAt0 m c n hn).2.2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.2.1) ∗ owns (c : Thread nD τ) scM0_1 fullShare ((outsAt0 m c n hn).2.2.2.2.1) ∗ owns (c : Thread nD τ) scM0_2 fullShare ((outsAt0 m c n hn).2.2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.1) ∗ owns (c : Thread nD τ) scM0_1 fullShare ((outsAt0 m c (n - 1) (by omega)).2.2.2.2.1) ∗ owns (c : Thread nD τ) scM0_2 fullShare ((outsAt0 m c (n - 1) (by omega)).2.2.2.2.2)) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (outsAt0 m c t.val t.isLt).1
    | ⟨10, _⟩ => (outsAt0 m c t.val t.isLt).2.1
    | ⟨11, _⟩ => (outsAt0 m c t.val t.isLt).2.2.1
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = (outsAt0 m c t.val t.isLt).1 := by dsimp only [dats]
theorem after0_10 (c : Dev nD) (t : Fin cfg0.N) : (dats m 0 c).after 10 t = (outsAt0 m c t.val t.isLt).2.1 := by dsimp only [dats]
theorem after0_11 (c : Dev nD) (t : Fin cfg0.N) : (dats m 0 c).after 11 t = (outsAt0 m c t.val t.isLt).2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 14400000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl]
  rw [show (dats m 0 c).Φ t.succ = PhiS m c (t.val + 1) t.isLt from rfl, PhiS_succ]
  have hN : t.val < 81 := lt_of_lt_of_eq t.isLt (show cfg0.N = 81 from N_0)
  by_cases h0 : t.val % 81 = 0
  · by_cases h1 : t.val < 80
    · by_cases h2 : t.val % 81 = 80
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9_A t ((hcond0_0 t).mpr h0) ((hcond0_1 t).mpr h1) (fun h => h2 ((hcond0_2 t).mp h))], after0_9]
        rw [show (dats m 0 c).leavesExact 10 t = owns (c : Thread nD τ) (ms0_10 t) fullShare ((dats m 0 c).after 10 t) from by
      unfold Dat.leavesExact; rw [liveAt0_10_A t ((hcond0_0 t).mpr h0) ((hcond0_1 t).mpr h1) (fun h => h2 ((hcond0_2 t).mp h))], after0_10]
        rw [Dat.leavesExact_idle (dats m 0 c) 11 t (idleAt0_11_A t ((hcond0_0 t).mpr h0) ((hcond0_1 t).mpr h1) (fun h => h2 ((hcond0_2 t).mp h))) (noFlush0_11_A t ((hcond0_0 t).mpr h0) ((hcond0_1 t).mpr h1) (fun h => h2 ((hcond0_2 t).mp h)))]
        by_cases hz : t.val = 0
        · rw [PhiS_castSucc m c t, PhiS_zero m c _ _ hz, PhiA0_eq]
          rw [outsAt0_A m c t h0]
          unfold leftB; (try dsimp only)
          iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
          iapply (body_A c (grid0.coords t) _ _ _ _ _ _ _ _ _ _ _ _ _ _ _ _ _ _ _ _ _ _ _ _ _ _ _ _ _ _ ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexists _; iexact H9
          isplitl [H10]; · iexists _; iexact H10
          isplitl [H11]; · iexact H11
          isplitl [HS0]; · iexact HS0
          isplitl [HS1]; · iexact HS1
          isplitl [HS2]; · iexact HS2
          iintro ⟨H0, H1, H2, H3, H4, H5, H6, H7, H8, H9, H10, H11, HS0, HS1, HS2⟩
          isplitl [HS0 HS1 HS2 Hg]
          · isplitl [HS0 HS1 HS2]
            · isplitl [HS0]
              · iexact HS0
              isplitl [HS1]
              · iexact HS1
              iexact HS2
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]
          · iexact H9
          isplitl [H10]
          · iexact H10
          iexists _; iexact H11
        · exfalso; have hN : t.val < 81 := lt_of_lt_of_eq t.isLt (show cfg0.N = 81 from N_0); omega
    · exfalso; omega
  · by_cases h1 : t.val < 80
    · by_cases h2 : t.val % 81 = 80
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9_B t (fun h => h0 ((hcond0_0 t).mp h)) ((hcond0_1 t).mpr h1) (fun h => h2 ((hcond0_2 t).mp h))], after0_9]
        rw [show (dats m 0 c).leavesExact 10 t = owns (c : Thread nD τ) (ms0_10 t) fullShare ((dats m 0 c).after 10 t) from by
      unfold Dat.leavesExact; rw [liveAt0_10_B t (fun h => h0 ((hcond0_0 t).mp h)) ((hcond0_1 t).mpr h1) (fun h => h2 ((hcond0_2 t).mp h))], after0_10]
        rw [Dat.leavesExact_idle (dats m 0 c) 11 t (idleAt0_11_B t (fun h => h0 ((hcond0_0 t).mp h)) ((hcond0_1 t).mpr h1) (fun h => h2 ((hcond0_2 t).mp h))) (noFlush0_11_B t (fun h => h0 ((hcond0_0 t).mp h)) ((hcond0_1 t).mpr h1) (fun h => h2 ((hcond0_2 t).mp h)))]
        by_cases hz : t.val = 0
        · exfalso; have hN : t.val < 81 := lt_of_lt_of_eq t.isLt (show cfg0.N = 81 from N_0); omega
        · rw [PhiS_castSucc m c t, PhiS_pos m c _ _ hz]
          rw [outsAt0_B m c t h0 h1]
          unfold leftB; (try dsimp only)
          iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
          iapply (body_B c (grid0.coords t) _ _ _ _ _ _ _ _ _ _ _ _ _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) _ _ _ _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexists _; iexact H9
          isplitl [H10]; · iexists _; iexact H10
          isplitl [H11]; · iexact H11
          isplitl [HS0]; · iexact HS0
          isplitl [HS1]; · iexact HS1
          isplitl [HS2]; · iexact HS2
          iintro ⟨H0, H1, H2, H3, H4, H5, H6, H7, H8, H9, H10, H11, HS0, HS1, HS2⟩
          isplitl [HS0 HS1 HS2 Hg]
          · isplitl [HS0 HS1 HS2]
            · isplitl [HS0]
              · iexact HS0
              isplitl [HS1]
              · iexact HS1
              iexact HS2
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]
          · iexact H9
          isplitl [H10]
          · iexact H10
          iexists _; iexact H11
    · by_cases h2 : t.val % 81 = 80
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9_C t (fun h => h0 ((hcond0_0 t).mp h)) (fun h => h1 ((hcond0_1 t).mp h)) ((hcond0_2 t).mpr h2)], after0_9]
        rw [show (dats m 0 c).leavesExact 10 t = owns (c : Thread nD τ) (ms0_10 t) fullShare ((dats m 0 c).after 10 t) from by
      unfold Dat.leavesExact; rw [liveAt0_10_C t (fun h => h0 ((hcond0_0 t).mp h)) (fun h => h1 ((hcond0_1 t).mp h)) ((hcond0_2 t).mpr h2)], after0_10]
        rw [show (dats m 0 c).leavesExact 11 t = owns (c : Thread nD τ) (ms0_11 t) fullShare ((dats m 0 c).after 11 t) from by
      unfold Dat.leavesExact; rw [liveAt0_11_C t (fun h => h0 ((hcond0_0 t).mp h)) (fun h => h1 ((hcond0_1 t).mp h)) ((hcond0_2 t).mpr h2)], after0_11]
        by_cases hz : t.val = 0
        · exfalso; have hN : t.val < 81 := lt_of_lt_of_eq t.isLt (show cfg0.N = 81 from N_0); omega
        · rw [PhiS_castSucc m c t, PhiS_pos m c _ _ hz]
          rw [outsAt0_C m c t h0 h1]
          unfold leftC; (try dsimp only)
          iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
          iapply (body_C c (grid0.coords t) _ _ _ _ _ _ _ _ _ _ _ _ _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) _ _ _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexists _; iexact H9
          isplitl [H10]; · iexists _; iexact H10
          isplitl [H11]; · iexists _; iexact H11
          isplitl [HS0]; · iexact HS0
          isplitl [HS1]; · iexact HS1
          isplitl [HS2]; · iexact HS2
          iintro ⟨H0, H1, H2, H3, H4, H5, H6, H7, H8, H9, H10, H11, HS0, HS1, HS2⟩
          isplitl [HS0 HS1 HS2 Hg]
          · isplitl [HS0 HS1 HS2]
            · isplitl [HS0]
              · iexact HS0
              isplitl [HS1]
              · iexact HS1
              iexact HS2
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]
          · iexact H9
          isplitl [H10]
          · iexact H10
          iexact H11
      · exfalso; omega

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 81 := N_0; omega)

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- Every run ends, with the argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.SharedUpIdeal.Hand

end
-- ==== Proof.Up.Math.lean ====
/- The mathematics of the shared up-projection over the extended reals: the gated product, the rotation by a
   block-diagonal matrix, and the largest magnitude of a row. -/
module

public import Idealize.ShloMosaic.Lib.Pointwise

@[expose] public section

noncomputable section

open Idealize.ShloMosaic

namespace Cert.UpMath

/-- The gated product: `g` times its sigmoid times `u`. -/
def act (g u : EReal) : EReal := g * Ideal.logistic g * u

/-- The magnitude. -/
def ab (x : EReal) : EReal := max x (-x)

theorem ab_nonneg (x : EReal) : 0 ≤ ab x := by
  unfold ab
  rcases le_total 0 x with h | h
  · exact h.trans (le_max_left _ _)
  · refine le_trans ?_ (le_max_right _ _)
    exact EReal.neg_nonneg.mpr h

theorem ab_zero : ab 0 = 0 := by simp [ab]

/-- An extended real that is a real number. -/
def Fin' (x : EReal) : Prop := ∃ r : ℝ, x = (r : EReal)

theorem Fin'.mul {x y : EReal} (hx : Fin' x) (hy : Fin' y) : Fin' (x * y) := by
  obtain ⟨a, rfl⟩ := hx
  obtain ⟨b, rfl⟩ := hy
  exact ⟨a * b, (EReal.coe_mul a b).symm⟩

theorem Fin'.sum {n : ℕ} {f : Fin n → EReal} (h : ∀ i, Fin' (f i)) : Fin' (∑ i, f i) := by
  refine Finset.sum_induction _ Fin' (fun x y hx hy => ?_) ⟨0, EReal.coe_zero.symm⟩ fun i _ => h i
  obtain ⟨a, rfl⟩ := hx
  obtain ⟨b, rfl⟩ := hy
  exact ⟨a + b, (EReal.coe_add a b).symm⟩

theorem Fin'.logistic {x : EReal} (hx : Fin' x) : Fin' (Ideal.logistic x) := by
  obtain ⟨a, rfl⟩ := hx
  exact ⟨_, Ideal.logistic_coe a⟩

theorem Fin'.act {g u : EReal} (hg : Fin' g) (hu : Fin' u) : Fin' (act g u) := (hg.mul hg.logistic).mul hu

theorem Fin'.sub_self {x : EReal} (hx : Fin' x) : x - x = 0 := by
  obtain ⟨a, rfl⟩ := hx
  rw [← EReal.coe_sub, _root_.sub_self, EReal.coe_zero]

theorem act_zero (a b : EReal) : UpMath.act (0 * a * b) (0 * a * b) = 0 := by
  unfold UpMath.act; simp

/-- The block-diagonal matrix of copies of `h`. -/
def diag (h : Fin 64 → Fin 64 → EReal) (i j : ℕ) : EReal :=
  if i / 64 = j / 64 then h ⟨i % 64, Nat.mod_lt _ (by decide)⟩ ⟨j % 64, Nat.mod_lt _ (by decide)⟩ else 0

/-- A row of 128 entries times the block-diagonal matrix: only the block of the column counts. -/
theorem sum_diag (h : Fin 64 → Fin 64 → EReal) (f : Fin 128 → EReal) (k : ℕ) (hk : k < 128) :
    ∑ x : Fin 128, f x * diag h x.val k
      = ∑ i : Fin 64, f ⟨64 * (k / 64) + i.val, by have := i.isLt; omega⟩ * h i ⟨k % 64, Nat.mod_lt _ (by decide)⟩ := by
  have e : ∑ x : Fin 128, f x * diag h x.val k
      = (∑ i : Fin 64, f ⟨i.val, by have := i.isLt; omega⟩ * diag h i.val k)
        + ∑ i : Fin 64, f ⟨64 + i.val, by have := i.isLt; omega⟩ * diag h (64 + i.val) k :=
    Fin.sum_univ_add (a := 64) (b := 64) (fun x => f x * diag h x.val k)
  rw [e]
  by_cases h0 : k < 64
  · have hd : k / 64 = 0 := Nat.div_eq_of_lt h0
    have z : ∑ i : Fin 64, f ⟨64 + i.val, by have := i.isLt; omega⟩ * diag h (64 + i.val) k = 0 :=
      Finset.sum_eq_zero fun i _ => by
        have : (64 + i.val) / 64 ≠ k / 64 := by have := i.isLt; omega
        rw [diag, if_neg this, mul_zero]
    rw [z, add_zero]
    refine Finset.sum_congr rfl fun i _ => ?_
    have hi := i.isLt
    have h1 : i.val / 64 = k / 64 := by omega
    rw [diag, if_pos h1]
    congr 2
    · exact Fin.ext (by show i.val = 64 * (k / 64) + i.val; omega)
    · exact Fin.ext (by show i.val % 64 = i.val; omega)
  · have hd : k / 64 = 1 := by omega
    have z : ∑ i : Fin 64, f ⟨i.val, by have := i.isLt; omega⟩ * diag h i.val k = 0 :=
      Finset.sum_eq_zero fun i _ => by
        have : i.val / 64 ≠ k / 64 := by have := i.isLt; omega
        rw [diag, if_neg this, mul_zero]
    rw [z, zero_add]
    refine Finset.sum_congr rfl fun i _ => ?_
    have hi := i.isLt
    have h1 : (64 + i.val) / 64 = k / 64 := by omega
    rw [diag, if_pos h1]
    congr 2
    · exact Fin.ext (by show 64 + i.val = 64 * (k / 64) + i.val; omega)
    · exact Fin.ext (by show (64 + i.val) % 64 = i.val; omega)

/-- The running largest magnitude in lane `l` after `n` blocks of 256 columns, from zero. -/
def run (f : ℕ → EReal) (l : ℕ) : ℕ → EReal
  | 0 => 0
  | n + 1 => max (run f l n) (max (ab (f (256 * n + l))) (ab (f (256 * n + 128 + l))))

theorem run_le (f : ℕ → EReal) (l n : ℕ) (c : EReal) :
    run f l n ≤ c ↔ 0 ≤ c ∧ ∀ t < n, ab (f (256 * t + l)) ≤ c ∧ ab (f (256 * t + 128 + l)) ≤ c := by
  induction n with
  | zero => simp [run]
  | succ n ih =>
    rw [run, max_le_iff, max_le_iff, ih]
    constructor
    · rintro ⟨⟨h0, h⟩, h1⟩
      refine ⟨h0, fun t ht => ?_⟩
      rcases Nat.lt_succ_iff_lt_or_eq.mp ht with h2 | rfl
      · exact h t h2
      · exact h1
    · rintro ⟨h0, h⟩
      exact ⟨⟨h0, fun t ht => h t (by omega)⟩, h n (by omega)⟩

/-- The largest of 128 running magnitudes is the largest magnitude of the whole row. -/
theorem fold_run (f : ℕ → EReal) (b : EReal) (hb : b = ⊥) :
    Finset.univ.fold max b (fun l : Fin 128 => run f l.val 80)
      = Finset.univ.fold max b (fun k : Fin 20480 => ab (f k.val)) := by
  subst hb
  refine eq_of_forall_ge_iff fun c => ?_
  rw [Finset.fold_max_le, Finset.fold_max_le]
  constructor
  · rintro ⟨_, h⟩
    refine ⟨bot_le, fun k _ => ?_⟩
    have hk := k.isLt
    have h1 := ((run_le f (k.val % 128) 80 c).mp (h ⟨k.val % 128, Nat.mod_lt _ (by decide)⟩ (Finset.mem_univ _))).2
      (k.val / 256) (by omega)
    by_cases h2 : k.val % 256 < 128
    · have e : 256 * (k.val / 256) + k.val % 128 = k.val := by omega
      rw [← e]; exact h1.1
    · have e : 256 * (k.val / 256) + 128 + k.val % 128 = k.val := by omega
      rw [← e]; exact h1.2
  · rintro ⟨_, h⟩
    refine ⟨bot_le, fun l _ => (run_le f l.val 80 c).mpr ⟨?_, fun t ht => ?_⟩⟩
    · exact (ab_nonneg _).trans (h ⟨0, by decide⟩ (Finset.mem_univ _))
    · have hl := l.isLt
      exact ⟨h ⟨256 * t + l.val, by omega⟩ (Finset.mem_univ _), h ⟨256 * t + 128 + l.val, by omega⟩ (Finset.mem_univ _)⟩

/-- The word of the least `f32` denotes the bottom. -/
theorem bits_bot : Ideal.ofBits .f32 0xFF800000#32 = ⊥ := by
  simp [Ideal.ofBits, Ideal.ieee]

end Cert.UpMath

end
-- ==== Proof.Up.Host.lean ====
/- The two matrix operands that the host prepares from the 64 by 64 rotation: at finite entries only the first part
   of the three-way split is not zero, and the operands hold its block-diagonal copies. -/
module

public import proofs.«01_k».proof.Proof.Up.Math
public import proofs.«01_k».proof.Proof.Gen.SharedUpIdeal.Frame.Runs

@[expose] public section

set_option maxRecDepth 16384
set_option maxHeartbeats 1000000

noncomputable section

open Idealize.ShloMosaic Idealize.ShloMosaic.TcCoe Idealize.SL.Sem

namespace Cert.SharedUpIdeal.Host

open Cert.SharedUpIdeal Cert.SharedUpIdeal.Gen Cert.UpMath

/-- The two by two identity. -/
def eye2 : FVec Ideal S2x2 .f32 :=
  uitofp .f32 (cmpi .eq (addi (iotaInDim S2x2 32 0) (broadcastInDim S2x2 ![] bcast_S_S2x2 (constantI S_ 32 0#32))) (iotaInDim S2x2 32 1))

/-- The four by four identity. -/
def eye4 : FVec Ideal S4x4 .f32 :=
  uitofp .f32 (cmpi .eq (addi (iotaInDim S4x4 32 0) (broadcastInDim S4x4 ![] bcast_S_S4x4 (constantI S_ 32 0#32))) (iotaInDim S4x4 32 1))

/-- Two diagonal copies of a matrix. -/
def kron2 (e : FVec Ideal S2x2 .f32) (h : FVec Ideal S64x64 .f32) : FVec Ideal S128x128 .f32 :=
  shapeCast S128x128 (mulf
    (broadcastInDim S2x64x2x64 ![0, 1, 2, 3] bcast_S2x1x2x1_S2x64x2x64_0_1_2_3 (broadcastInDim S2x1x2x1 ![0, 2] bcast_S2x2_S2x1x2x1_0_2 e))
    (broadcastInDim S2x64x2x64 ![0, 1, 2, 3] bcast_S1x64x1x64_S2x64x2x64_0_1_2_3 (broadcastInDim S1x64x1x64 ![1, 3] bcast_S64x64_S1x64x1x64_1_3 h)))
    shapeCasts_S2x64x2x64_S128x128

/-- Four diagonal copies of a matrix. -/
def kron4 (e : FVec Ideal S4x4 .f32) (h : FVec Ideal S64x64 .f32) : FVec Ideal S256x256 .f32 :=
  shapeCast S256x256 (mulf
    (broadcastInDim S4x64x4x64 ![0, 1, 2, 3] bcast_S4x1x4x1_S4x64x4x64_0_1_2_3 (broadcastInDim S4x1x4x1 ![0, 2] bcast_S4x4_S4x1x4x1_0_2 e))
    (broadcastInDim S4x64x4x64 ![0, 1, 2, 3] bcast_S1x64x1x64_S4x64x4x64_0_1_2_3 (broadcastInDim S1x64x1x64 ![1, 3] bcast_S64x64_S1x64x1x64_1_3 h)))
    shapeCasts_S4x64x4x64_S256x256

theorem eye2_apply (a b : Fin 2) : eye2 (ix2 a b) = if a = b then 1 else 0 := by
  pointwise [eye2]
  have key : IntOp.cmpi CmpIPredicate.eq (IntOp.addi (BitVec.ofNat 32 a.val) 0#32) (BitVec.ofNat 32 b.val) = if a = b then 1#1 else 0#1 := by
    revert a b; decide
  rw [key]
  split
  · show (((1#1 : BitVec 1).toNat : ℝ) : EReal) = 1
    norm_num
  · show (((0#1 : BitVec 1).toNat : ℝ) : EReal) = 0
    norm_num

theorem eye4_apply (a b : Fin 4) : eye4 (ix2 a b) = if a = b then 1 else 0 := by
  pointwise [eye4]
  have key : IntOp.cmpi CmpIPredicate.eq (IntOp.addi (BitVec.ofNat 32 a.val) 0#32) (BitVec.ofNat 32 b.val) = if a = b then 1#1 else 0#1 := by
    revert a b; decide
  rw [key]
  split
  · show (((1#1 : BitVec 1).toNat : ℝ) : EReal) = 1
    norm_num
  · show (((0#1 : BitVec 1).toNat : ℝ) : EReal) = 0
    norm_num

theorem kron2_apply (e : FVec Ideal S2x2 .f32) (h : FVec Ideal S64x64 .f32) (i j : Fin 128) :
    kron2 e h (ix2 i j) = e (ix2 ⟨i.val / 64, by omega⟩ ⟨j.val / 64, by omega⟩) * h (ix2 ⟨i.val % 64, Nat.mod_lt _ (by decide)⟩ ⟨j.val % 64, Nat.mod_lt _ (by decide)⟩) := by
  pointwise [kron2]

theorem kron4_apply (e : FVec Ideal S4x4 .f32) (h : FVec Ideal S64x64 .f32) (i j : Fin 256) :
    kron4 e h (ix2 i j) = e (ix2 ⟨i.val / 64, by omega⟩ ⟨j.val / 64, by omega⟩) * h (ix2 ⟨i.val % 64, Nat.mod_lt _ (by decide)⟩ ⟨j.val % 64, Nat.mod_lt _ (by decide)⟩) := by
  pointwise [kron4]

variable (m : (ℓ : Loc nD τ sig) → Buf (Elt Ideal) ℓ)

theorem V46 (c : Dev nD) : V m c main_v46 = shapeCast S1x40960 (m ((c : Thread nD τ).loc main_arg3)) shapeCasts_S40960_S1x40960 := by
  unfold V
  simp only [StableHlo.after, hostOps0, hostOps0_1, hostOps0_2, hostOps0_3, hostOps0_4, hostOps0_5, hostOps0_6, hostOps0_7, hostOps0_8, List.flatten_cons, List.flatten_nil, List.append_nil, List.cons_append, List.nil_append]
  rfl

theorem V26 (c : Dev nD) : V m c main_v26 =
   (let h : FVec Ideal S64x64 .f32 := m ((c : Thread nD τ).loc main_arg5)
    let k := concatenate S128x256 1 [⟨S128x128, kron2 eye2 h⟩, ⟨S128x128, kron2 eye2 (subf h h)⟩] concatenates_S128x128_S128x128_S128x256_d1
    concatenate S256x256 0 [⟨S128x256, k⟩, ⟨S128x256, k⟩] concatenates_S128x256_S128x256_S256x256_d0) := by
  unfold V
  simp only [StableHlo.after, hostOps0, hostOps0_1, hostOps0_2, hostOps0_3, hostOps0_4, hostOps0_5, hostOps0_6, hostOps0_7, hostOps0_8, List.flatten_cons, List.flatten_nil, List.append_nil, List.cons_append, List.nil_append]
  rfl

theorem V47 (c : Dev nD) : V m c main_v47 = shapeCast S1x20480 (m ((c : Thread nD τ).loc main_arg4)) shapeCasts_S20480_S1x20480 := by
  unfold V
  simp only [StableHlo.after, hostOps0, hostOps0_1, hostOps0_2, hostOps0_3, hostOps0_4, hostOps0_5, hostOps0_6, hostOps0_7, hostOps0_8, List.flatten_cons, List.flatten_nil, List.append_nil, List.cons_append, List.nil_append]
  rfl

theorem V45 (c : Dev nD) : V m c main_v45 =
   (let h : FVec Ideal S64x64 .f32 := m ((c : Thread nD τ).loc main_arg5)
    concatenate S512x256 0 [⟨S256x256, kron4 eye4 h⟩, ⟨S256x256, kron4 eye4 (subf (subf h h) (subf h h))⟩] concatenates_S256x256_S256x256_S512x256_d0) := by
  unfold V
  simp only [StableHlo.after, hostOps0, hostOps0_1, hostOps0_2, hostOps0_3, hostOps0_4, hostOps0_5, hostOps0_6, hostOps0_7, hostOps0_8, List.flatten_cons, List.flatten_nil, List.append_nil, List.cons_append, List.nil_append]
  rfl

end Cert.SharedUpIdeal.Host

end
-- ==== Proof.Up.Blocks.lean ====
/- The blocks of the shared up-projection's points, read off the argument arrays. -/
module

public import proofs.«01_k».proof.Proof.Up.Host
public import proofs.«01_k».proof.Proof.Up.Frame

@[expose] public section

set_option maxRecDepth 16384
set_option maxHeartbeats 1000000

noncomputable section

open Idealize.ShloMosaic Idealize.ShloMosaic.TcCoe Idealize.SL.Sem

namespace Cert.SharedUpIdeal.Blocks

open Cert.SharedUpIdeal Cert.SharedUpIdeal.Gen

variable (m : (ℓ : Loc nD τ sig) → Buf (Elt Ideal) ℓ)

/-- The activation codes, as launched. -/
abbrev a0 (c : Dev nD) : Vec Ideal S4096x3584 .i8 := m ((c : Thread nD τ).loc main_arg0)
/-- Their row scales. -/
abbrev a1 (c : Dev nD) : Vec Ideal S4096x128 .f32 := m ((c : Thread nD τ).loc main_arg1)
/-- The weight codes: the gate's columns, then the up columns. -/
abbrev a2 (c : Dev nD) : Vec Ideal S3584x40960 .i8 := m ((c : Thread nD τ).loc main_arg2)
/-- The weight scales. -/
abbrev a3 (c : Dev nD) : Vec Ideal S40960 .f32 := m ((c : Thread nD τ).loc main_arg3)
/-- The smoothing factors. -/
abbrev a4 (c : Dev nD) : Vec Ideal S20480 .f32 := m ((c : Thread nD τ).loc main_arg4)
/-- The rotation. -/
abbrev a5 (c : Dev nD) : Vec Ideal S64x64 .f32 := m ((c : Thread nD τ).loc main_arg5)

theorem idx0 : ∀ t : Fin cfg0.N, win0_0.index t 0 = 0 ∧ win0_0.index t 1 = 0 :=
  (by decide +kernel : ∀ t : Fin grid0.N, win0_0.index t 0 = 0 ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = 0 ∧ win0_2.index t 1 = min t.val 79 :=
  (by decide +kernel : ∀ t : Fin grid0.N, win0_2.index t 0 = 0 ∧ win0_2.index t 1 = min t.val 79)
theorem idx3 : ∀ t : Fin cfg0.N, win0_3.index t 0 = 0 ∧ win0_3.index t 1 = min t.val 79 + 80 :=
  (by decide +kernel : ∀ t : Fin grid0.N, win0_3.index t 0 = 0 ∧ win0_3.index t 1 = min t.val 79 + 80)
theorem idx4 : ∀ t : Fin cfg0.N, win0_4.index t 0 = 0 ∧ win0_4.index t 1 = t.val - 1 :=
  (by decide +kernel : ∀ t : Fin grid0.N, win0_4.index t 0 = 0 ∧ win0_4.index t 1 = t.val - 1)
theorem idx5 : ∀ t : Fin cfg0.N, win0_5.index t 0 = 0 ∧ win0_5.index t 1 = t.val - 1 + 80 :=
  (by decide +kernel : ∀ t : Fin grid0.N, win0_5.index t 0 = 0 ∧ win0_5.index t 1 = t.val - 1 + 80)
theorem idx6 : ∀ t : Fin cfg0.N, win0_6.index t 0 = 0 ∧ win0_6.index t 1 = t.val - 1 :=
  (by decide +kernel : ∀ t : Fin grid0.N, win0_6.index t 0 = 0 ∧ win0_6.index t 1 = t.val - 1)
theorem idx7 : ∀ t : Fin cfg0.N, win0_7.index t 0 = 0 ∧ win0_7.index t 1 = 0 :=
  (by decide +kernel : ∀ t : Fin grid0.N, win0_7.index t 0 = 0 ∧ win0_7.index t 1 = 0)
theorem idx8 : ∀ t : Fin cfg0.N, win0_8.index t 0 = 0 ∧ win0_8.index t 1 = 0 :=
  (by decide +kernel : ∀ t : Fin grid0.N, win0_8.index t 0 = 0 ∧ win0_8.index t 1 = 0)
theorem idx9 : ∀ t : Fin cfg0.N, win0_9.index t 0 = 0 ∧ win0_9.index t 1 = t.val - 1 :=
  (by decide +kernel : ∀ t : Fin grid0.N, win0_9.index t 0 = 0 ∧ win0_9.index t 1 = t.val - 1)
theorem idx10 : ∀ t : Fin cfg0.N, win0_10.index t 0 = 0 ∧ win0_10.index t 1 = t.val - 1 :=
  (by decide +kernel : ∀ t : Fin grid0.N, win0_10.index t 0 = 0 ∧ win0_10.index t 1 = t.val - 1)
theorem idx11 : ∀ t : Fin cfg0.N, win0_11.index t 0 = 0 ∧ win0_11.index t 1 = 0 :=
  (by decide +kernel : ∀ t : Fin grid0.N, win0_11.index t 0 = 0 ∧ win0_11.index t 1 = 0)
theorem flush9 : ∀ t : Fin cfg0.N, (cfg0.win 9).flush t = true ↔ t.val ≠ 0 :=
  (by decide +kernel : ∀ t : Fin grid0.N, win0_9.flush t = true ↔ t.val ≠ 0)
theorem flush10 : ∀ t : Fin cfg0.N, (cfg0.win 10).flush t = true ↔ t.val ≠ 0 :=
  (by decide +kernel : ∀ t : Fin grid0.N, win0_10.flush t = true ↔ t.val ≠ 0)

/-- The activation codes' block is the whole array. -/
theorem blk0 (c : Dev nD) (t : Fin cfg0.N) (R : Fin 4096) (x : Fin 3584) :
    (iblk m c 0 t : Vec Ideal S4096x3584 .i8) (ix2 R x) = a0 m c (ix2 R x) := by
  have hi := idx0 t
  unfold iblk
  rw [View.read_apply]
  show V m c main_arg0 _ = _
  rw [V_main_arg0]
  congr 1
  funext a
  apply Fin.ext
  match a with
  | ⟨0, _⟩ => show win0_0.index t 0 * 4096 + 1 * R.val = R.val; rw [hi.1]; omega
  | ⟨1, _⟩ => show win0_0.index t 1 * 3584 + 1 * x.val = x.val; rw [hi.2]; omega

/-- So is the row scales'. -/
theorem blk1 (c : Dev nD) (t : Fin cfg0.N) (R : Fin 4096) :
    (iblk m c 1 t : Vec Ideal S4096x128 .f32) (ix2 R 0) = a1 m c (ix2 R 0) := by
  have hi := idx1 t
  unfold iblk
  rw [View.read_apply]
  show V m c main_arg1 _ = _
  rw [V_main_arg1]
  congr 1
  funext a
  apply Fin.ext
  match a with
  | ⟨0, _⟩ => show win0_1.index t 0 * 4096 + 1 * R.val = R.val; rw [hi.1]; omega
  | ⟨1, _⟩ => show win0_1.index t 1 * 128 + 1 * 0 = 0; rw [hi.2]

/-- Point `t`'s gate weights. -/
theorem blk2 (c : Dev nD) (t : Fin cfg0.N) (ht : t.val < 80) (x : Fin 3584) (k : Fin 256) :
    (iblk m c 2 t : Vec Ideal S3584x256 .i8) (ix2 x k) = a2 m c (ix2 x ⟨256 * t.val + k.val, by omega⟩) := by
  have hi := idx2 t
  unfold iblk
  rw [View.read_apply]
  show V m c main_arg2 _ = _
  rw [V_main_arg2]
  congr 1
  funext a
  apply Fin.ext
  match a with
  | ⟨0, _⟩ => show win0_2.index t 0 * 3584 + 1 * x.val = x.val; rw [hi.1]; omega
  | ⟨1, _⟩ => show win0_2.index t 1 * 256 + 1 * k.val = 256 * t.val + k.val; rw [hi.2]; omega

/-- Point `t`'s up weights. -/
theorem blk3 (c : Dev nD) (t : Fin cfg0.N) (ht : t.val < 80) (x : Fin 3584) (k : Fin 256) :
    (iblk m c 3 t : Vec Ideal S3584x256 .i8) (ix2 x k) = a2 m c (ix2 x ⟨20480 + 256 * t.val + k.val, by omega⟩) := by
  have hi := idx3 t
  unfold iblk
  rw [View.read_apply]
  show V m c main_arg2 _ = _
  rw [V_main_arg2]
  congr 1
  funext a
  apply Fin.ext
  match a with
  | ⟨0, _⟩ => show win0_3.index t 0 * 3584 + 1 * x.val = x.val; rw [hi.1]; omega
  | ⟨1, _⟩ => show win0_3.index t 1 * 256 + 1 * k.val = 20480 + 256 * t.val + k.val; rw [hi.2]; omega

theorem row_of (x : Vec Ideal S40960 .f32) (k : Fin 40960) : shapeCast S1x40960 x shapeCasts_S40960_S1x40960 (ix2 0 k) = x (ix1 k) := by
  pointwise []

theorem row_of' (x : Vec Ideal S20480 .f32) (k : Fin 20480) : shapeCast S1x20480 x shapeCasts_S20480_S1x20480 (ix2 0 k) = x (ix1 k) := by
  pointwise []

/-- The gate weights' scales of the chunk before point `t`. -/
theorem blk4 (c : Dev nD) (t : Fin cfg0.N) (n : ℕ) (hn : t.val = n + 1) (k : Fin 256) :
    (iblk m c 4 t : Vec Ideal S1x256 .f32) (ix2 0 k) = a3 m c (ix1 ⟨256 * n + k.val, by have h : t.val < 81 := lt_of_lt_of_eq t.isLt N_0; omega⟩) := by
  have hi := idx4 t
  have h : t.val < 81 := lt_of_lt_of_eq t.isLt N_0
  unfold iblk
  rw [View.read_apply]
  show V m c main_v46 _ = _
  rw [Host.V46]
  refine Eq.trans ?_ (row_of _ ⟨256 * n + k.val, by omega⟩)
  congr 1
  funext a
  apply Fin.ext
  match a with
  | ⟨0, _⟩ => show win0_4.index t 0 * 1 + 1 * 0 = 0; rw [hi.1]
  | ⟨1, _⟩ => show win0_4.index t 1 * 256 + 1 * k.val = 256 * n + k.val; rw [hi.2]; omega

/-- The up weights' scales of the chunk before point `t`. -/
theorem blk5 (c : Dev nD) (t : Fin cfg0.N) (n : ℕ) (hn : t.val = n + 1) (k : Fin 256) :
    (iblk m c 5 t : Vec Ideal S1x256 .f32) (ix2 0 k) = a3 m c (ix1 ⟨20480 + (256 * n + k.val), by have h : t.val < 81 := lt_of_lt_of_eq t.isLt N_0; omega⟩) := by
  have hi := idx5 t
  have h : t.val < 81 := lt_of_lt_of_eq t.isLt N_0
  unfold iblk
  rw [View.read_apply]
  show V m c main_v46 _ = _
  rw [Host.V46]
  refine Eq.trans ?_ (row_of _ ⟨20480 + (256 * n + k.val), by omega⟩)
  congr 1
  funext a
  apply Fin.ext
  match a with
  | ⟨0, _⟩ => show win0_5.index t 0 * 1 + 1 * 0 = 0; rw [hi.1]
  | ⟨1, _⟩ => show win0_5.index t 1 * 256 + 1 * k.val = 20480 + (256 * n + k.val); rw [hi.2]; omega

/-- The smoothing factors of the chunk before point `t`. -/
theorem blk6 (c : Dev nD) (t : Fin cfg0.N) (n : ℕ) (hn : t.val = n + 1) (k : Fin 256) :
    (iblk m c 6 t : Vec Ideal S1x256 .f32) (ix2 0 k) = a4 m c (ix1 ⟨256 * n + k.val, by have h : t.val < 81 := lt_of_lt_of_eq t.isLt N_0; omega⟩) := by
  have hi := idx6 t
  have h : t.val < 81 := lt_of_lt_of_eq t.isLt N_0
  unfold iblk
  rw [View.read_apply]
  show V m c main_v47 _ = _
  rw [Host.V47]
  refine Eq.trans ?_ (row_of' _ ⟨256 * n + k.val, by omega⟩)
  congr 1
  funext a
  apply Fin.ext
  match a with
  | ⟨0, _⟩ => show win0_6.index t 0 * 1 + 1 * 0 = 0; rw [hi.1]
  | ⟨1, _⟩ => show win0_6.index t 1 * 256 + 1 * k.val = 256 * n + k.val; rw [hi.2]; omega

/-- The two matrix operands' blocks are the whole operands. -/
theorem blk7 (c : Dev nD) (t : Fin cfg0.N) : (iblk m c 7 t : Vec Ideal S256x256 .bf16) = V m c main_v26 := by
  have hi := idx7 t
  funext j
  unfold iblk
  rw [View.read_apply]
  show V m c main_v26 _ = V m c main_v26 j
  congr 1
  funext a
  apply Fin.ext
  match a with
  | ⟨0, _⟩ => show win0_7.index t 0 * 256 + 1 * (j 0).val = (j 0).val; rw [hi.1]; omega
  | ⟨1, _⟩ => show win0_7.index t 1 * 256 + 1 * (j 1).val = (j 1).val; rw [hi.2]; omega

theorem blk8 (c : Dev nD) (t : Fin cfg0.N) : (iblk m c 8 t : Vec Ideal S512x256 .bf16) = V m c main_v45 := by
  have hi := idx8 t
  funext j
  unfold iblk
  rw [View.read_apply]
  show V m c main_v45 _ = V m c main_v45 j
  congr 1
  funext a
  apply Fin.ext
  match a with
  | ⟨0, _⟩ => show win0_8.index t 0 * 512 + 1 * (j 0).val = (j 0).val; rw [hi.1]; omega
  | ⟨1, _⟩ => show win0_8.index t 1 * 256 + 1 * (j 1).val = (j 1).val; rw [hi.2]; omega

end Cert.SharedUpIdeal.Blocks

end
-- ==== Proof.Up.Pay.lean ====
/- What the stored values of the up call are, entry by entry, over the extended reals. -/
module

public import proofs.«01_k».proof.Proof.Up.Math
public import proofs.«01_k».proof.Proof.Up.Chunk

@[expose] public section

set_option maxRecDepth 16384
set_option maxHeartbeats 1000000

noncomputable section

open Idealize.ShloMosaic Idealize.ShloMosaic.TcCoe Idealize.SL.Sem

namespace Cert.SharedUpIdeal.Pay

open Cert.SharedUpIdeal Cert.SharedUpIdeal.Gen Cert.UpMath

variable (s : Vec Ideal S1024x128 .f32) (g u : Vec Ideal S1024x256 .f32) (sg su sm : Vec Ideal S1x256 .f32)
variable (ha : Vec Ideal S256x256 .bf16) (hbc : Vec Ideal S512x256 .bf16)

theorem pay7_apply (r : Fin 1024) (k : Fin 256) : k0_pay7 s g sg u su (ix2 r k)
    = act (g (ix2 r k) * s (ix2 r 0) * sg (ix2 0 k)) (u (ix2 r k) * s (ix2 r 0) * su (ix2 0 k)) := by
  pointwise [k0_pay7]
  try rfl

theorem pay8_apply (r : Fin 1024) (k : Fin 256) : k0_pay8 s g sg u su sm (ix2 r k)
    = k0_pay7 s g sg u su (ix2 r k) * sm (ix2 0 k) := by
  unfold k0_pay8
  generalize k0_pay7 s g sg u su = q
  pointwise []

theorem pay9_apply (r : Fin 1024) (k : Fin 256) : k0_pay9 s g sg u su sm (ix2 r k) = k0_pay8 s g sg u su sm (ix2 r k) := by
  unfold k0_pay9
  generalize k0_pay8 s g sg u su sm = q
  pointwise []

theorem pay10_apply (r : Fin 1024) (k : Fin 256) : k0_pay10 s g sg u su sm (ix2 r k)
    = k0_pay8 s g sg u su sm (ix2 r k) - k0_pay8 s g sg u su sm (ix2 r k) := by
  unfold k0_pay10 k0_pay9
  generalize k0_pay8 s g sg u su sm = q
  pointwise []

theorem pay11_apply (r : Fin 1024) (k : Fin 256) : k0_pay11 s g sg u su sm (ix2 r k) = k0_pay10 s g sg u su sm (ix2 r k) := by
  unfold k0_pay11
  generalize k0_pay10 s g sg u su sm = q
  pointwise []

theorem pay12_apply (r : Fin 1024) (k : Fin 256) : k0_pay12 s g sg u su sm hbc (ix2 r k)
    = ∑ x : Fin 256, (k0_pay10 s g sg u su sm (ix2 r x) - k0_pay11 s g sg u su sm (ix2 r x)) * hbc (ix2 ⟨x.val, by omega⟩ k)
      + ∑ x : Fin 256, k0_pay9 s g sg u su sm (ix2 r x) * hbc (ix2 ⟨256 + x.val, by omega⟩ k) := by
  unfold k0_pay12
  generalize k0_pay10 s g sg u su sm = q
  generalize k0_pay9 s g sg u su sm = q1
  generalize k0_pay11 s g sg u su sm = q2
  pointwise []

theorem pay13_lo (r : Fin 1024) (k : Fin 128) : k0_pay13 s g sg u su sm (ix2 r ⟨k.val, by omega⟩)
    = k0_pay9 s g sg u su sm (ix2 r ⟨k.val, by omega⟩) := by
  unfold k0_pay13
  generalize k0_pay9 s g sg u su sm = q1
  generalize k0_pay11 s g sg u su sm = q2
  pointwise []

theorem pay13_hi (r : Fin 1024) (k : Fin 128) : k0_pay13 s g sg u su sm (ix2 r ⟨128 + k.val, by omega⟩)
    = k0_pay11 s g sg u su sm (ix2 r ⟨k.val, by omega⟩) := by
  unfold k0_pay13
  generalize k0_pay9 s g sg u su sm = q1
  generalize k0_pay11 s g sg u su sm = q2
  pointwise []

section
variable (v40 v43 : Vec Ideal S1024x256 .bf16) (v50 : Vec Ideal S1024x256 .f32) (v53 : Vec Ideal S1024x256 .bf16)

theorem pay14_lo (r : Fin 1024) (k : Fin 128) : k0_pay14 v40 v43 v50 v53 ha ha (ix2 r ⟨k.val, by omega⟩)
    = v50 (ix2 r ⟨k.val, by omega⟩) + (∑ x : Fin 256, v53 (ix2 r x) * ha (ix2 x ⟨128 + k.val, by omega⟩)
        + ∑ x : Fin 256, v53 (ix2 r x) * ha (ix2 x ⟨k.val, by omega⟩)) := by
  pointwise [k0_pay14]

theorem pay14_hi (r : Fin 1024) (k : Fin 256) (hk : ¬ k.val < 128) : k0_pay14 v40 v43 v50 v53 ha ha (ix2 r k)
    = v50 (ix2 r ⟨128 + (k.val - 128), by omega⟩)
      + (∑ x : Fin 128, v40 (ix2 r ⟨128 + x.val, by omega⟩) * ha (ix2 ⟨x.val, by omega⟩ ⟨128 + (k.val - 128), by omega⟩)
          + ∑ x : Fin 128, v43 (ix2 r ⟨128 + x.val, by omega⟩) * ha (ix2 ⟨128 + x.val, by omega⟩ ⟨128 + (k.val - 128), by omega⟩)
        + (∑ x : Fin 128, v40 (ix2 r ⟨128 + x.val, by omega⟩) * ha (ix2 ⟨x.val, by omega⟩ ⟨k.val - 128, by omega⟩)
          + ∑ x : Fin 128, v43 (ix2 r ⟨128 + x.val, by omega⟩) * ha (ix2 ⟨128 + x.val, by omega⟩ ⟨k.val - 128, by omega⟩))) := by
  pointwise [k0_pay14]
  rw [dif_neg hk]

theorem pay15_apply (mx : Vec Ideal S1024x128 .f32) (r : Fin 1024) (k : Fin 128) : k0_pay15 v40 v43 v50 v53 ha ha mx (ix2 r k)
    = max (mx (ix2 r k)) (max (ab (k0_pay14 v40 v43 v50 v53 ha ha (ix2 r ⟨k.val, by omega⟩)))
        (ab (k0_pay14 v40 v43 v50 v53 ha ha (ix2 r ⟨128 + k.val, by omega⟩)))) := by
  unfold k0_pay15
  generalize k0_pay14 v40 v43 v50 v53 ha ha = q
  pointwise []
  try rfl

end

theorem pay4_apply (a : Vec Ideal S1024x3584 .i8) (w : Vec Ideal S3584x256 .i8) (r : Fin 1024) (k : Fin 256) :
    k0_pay4 (k0_pay17 a w) (ix2 r k)
      = ∑ x : Fin 3584, FloatOps.sitofp (F := Ideal) .bf16 (a (ix2 r x)) * FloatOps.sitofp (F := Ideal) .bf16 (w (ix2 x k)) := by
  pointwise [k0_pay4, k0_pay17, k0_pay16]

theorem pay5_apply (a : Vec Ideal S1024x3584 .i8) (w : Vec Ideal S3584x256 .i8) (r : Fin 1024) (k : Fin 256) :
    k0_pay5 (k0_pay16 a) w (ix2 r k)
      = ∑ x : Fin 3584, FloatOps.sitofp (F := Ideal) .bf16 (a (ix2 r x)) * FloatOps.sitofp (F := Ideal) .bf16 (w (ix2 x k)) := by
  pointwise [k0_pay5, k0_pay16]

/-- The scale from a largest magnitude: it over 127, or 1 if it is zero. -/
def scaleOf (x : EReal) : EReal := if x = 0 then 1 else Ideal.div x (Ideal.ofBits .f32 1123942400#32)

theorem pay6_apply (x : Vec Ideal S1024x128 .f32) (r : Fin 1024) (k : Fin 128) :
    k0_pay6 (k0_pay28 x) (k0_pay29 x) (ix2 r k)
      = scaleOf (Finset.univ.fold max (Ideal.ofBits .f32 0xFF800000#32) (fun l : Fin 128 => x (ix2 r l))) := by
  pointwise [k0_pay6, k0_pay28, k0_pay29, k0_pay27]
  try rfl

/-- What the prepared matrix operands hold: block-diagonal copies of `h`, and zeros. -/
structure Ops (h : Fin 64 → Fin 64 → EReal) (ha : Vec Ideal S256x256 .bf16) (hbc : Vec Ideal S512x256 .bf16) : Prop where
  a1 : ∀ x k : Fin 128, ha (ix2 ⟨x.val, by omega⟩ ⟨k.val, by omega⟩) = diag h x.val k.val
  a2 : ∀ (x : Fin 256) (k : Fin 128), ha (ix2 x ⟨128 + k.val, by omega⟩) = 0
  b : ∀ x k : Fin 256, hbc (ix2 ⟨256 + x.val, by omega⟩ k) = 0

variable {s g u sg su sm ha hbc}
variable {h : Fin 64 → Fin 64 → EReal}

/-- The rotation of a row of finite entries: the remainders of the three-way split are zero, so the six products are
    the one product of the row with the block-diagonal matrix. -/
theorem rot_apply (ho : Ops h ha hbc) (r : Fin 1024) (hf : ∀ k : Fin 256, Fin' (k0_pay8 s g sg u su sm (ix2 r k))) (k : Fin 256) :
    k0_pay14 (k0_pay9 s g sg u su sm) (k0_pay11 s g sg u su sm) (k0_pay12 s g sg u su sm hbc) (k0_pay13 s g sg u su sm) ha ha (ix2 r k)
      = ∑ i : Fin 64, k0_pay8 s g sg u su sm (ix2 r ⟨64 * (k.val / 64) + i.val, by omega⟩) * h i ⟨k.val % 64, Nat.mod_lt _ (by decide)⟩ := by
  have z10 : ∀ x : Fin 256, k0_pay10 s g sg u su sm (ix2 r x) = 0 := fun x => by rw [pay10_apply]; exact (hf x).sub_self
  have z11 : ∀ x : Fin 256, k0_pay11 s g sg u su sm (ix2 r x) = 0 := fun x => by rw [pay11_apply]; exact z10 x
  have z12 : ∀ x : Fin 256, k0_pay12 s g sg u su sm hbc (ix2 r x) = 0 := fun x => by
    rw [pay12_apply, Finset.sum_eq_zero, Finset.sum_eq_zero, add_zero]
    · intro y _; rw [ho.b, mul_zero]
    · intro y _; rw [z10, z11, sub_zero, zero_mul]
  by_cases hk : k.val < 128
  · have e := pay14_lo ha (k0_pay9 s g sg u su sm) (k0_pay11 s g sg u su sm) (k0_pay12 s g sg u su sm hbc) (k0_pay13 s g sg u su sm) r ⟨k.val, hk⟩
    refine e.trans ?_
    rw [z12, zero_add, Finset.sum_eq_zero, zero_add]
    · have sp : ∀ f : Fin 256 → EReal, ∑ x, f x = (∑ x : Fin 128, f ⟨x.val, by omega⟩) + ∑ x : Fin 128, f ⟨128 + x.val, by omega⟩ :=
        fun f => Fin.sum_univ_add (a := 128) (b := 128) f
      rw [sp]
      have z : ∑ x : Fin 128, k0_pay13 s g sg u su sm (ix2 r ⟨128 + x.val, by omega⟩) * ha (ix2 ⟨128 + x.val, by omega⟩ ⟨k.val, by omega⟩) = 0 :=
        Finset.sum_eq_zero fun x _ => by rw [pay13_hi, z11, zero_mul]
      rw [z, add_zero]
      refine Eq.trans ?_ (sum_diag h (fun x => k0_pay8 s g sg u su sm (ix2 r ⟨x.val, by omega⟩)) k.val hk)
      refine Finset.sum_congr rfl fun x _ => ?_
      rw [pay13_lo, pay9_apply, ho.a1 x ⟨k.val, hk⟩]
    · intro x _; rw [ho.a2 x ⟨k.val, hk⟩, mul_zero]
  · refine (pay14_hi ha _ _ _ _ r k hk).trans ?_
    rw [z12, zero_add, Finset.sum_eq_zero, Finset.sum_eq_zero (f := fun x : Fin 128 => k0_pay11 s g sg u su sm (ix2 r ⟨128 + x.val, by omega⟩) * ha (ix2 ⟨128 + x.val, by omega⟩ ⟨128 + (k.val - 128), by omega⟩)),
      Finset.sum_eq_zero (f := fun x : Fin 128 => k0_pay11 s g sg u su sm (ix2 r ⟨128 + x.val, by omega⟩) * ha (ix2 ⟨128 + x.val, by omega⟩ ⟨k.val - 128, by omega⟩)), zero_add, zero_add, add_zero]
    · have hk' : k.val - 128 < 128 := by omega
      refine Eq.trans ?_ ((sum_diag h (fun x => k0_pay8 s g sg u su sm (ix2 r ⟨128 + x.val, by omega⟩)) (k.val - 128) hk').trans ?_)
      · refine Finset.sum_congr rfl fun x _ => ?_
        rw [pay9_apply, ho.a1 x ⟨k.val - 128, hk'⟩]
      · refine Finset.sum_congr rfl fun i _ => ?_
        have hi := i.isLt
        congr 2
        · congr 1
          exact Fin.ext (by show 128 + (64 * ((k.val - 128) / 64) + i.val) = 64 * (k.val / 64) + i.val; omega)
        · exact Fin.ext (by show (k.val - 128) % 64 = k.val % 64; omega)
    · intro x _; rw [z11, zero_mul]
    · intro x _; rw [z11, zero_mul]
    · intro x _; rw [ho.a2 _ ⟨k.val - 128, by omega⟩, mul_zero]

end Cert.SharedUpIdeal.Pay

end
-- ==== Proof.Up.Ops.lean ====
/- The two prepared matrix operands hold block-diagonal copies of the rotation in the first place and zeros in the
   places of the split's remainders. -/
module

public import proofs.«01_k».proof.Proof.Up.Host
public import proofs.«01_k».proof.Proof.Up.Pay

@[expose] public section

set_option maxRecDepth 16384
set_option maxHeartbeats 1000000

noncomputable section

open Idealize.ShloMosaic Idealize.ShloMosaic.TcCoe Idealize.SL.Sem

namespace Cert.SharedUpIdeal.Host

open Cert.SharedUpIdeal Cert.SharedUpIdeal.Gen Cert.UpMath Cert.SharedUpIdeal.Pay

/-- Two matrices side by side, twice under one another. -/
def four (q1 q2 : FVec Ideal S128x128 .f32) : FVec Ideal S256x256 .f32 :=
  let k := concatenate S128x256 1 [⟨S128x128, q1⟩, ⟨S128x128, q2⟩] concatenates_S128x128_S128x128_S128x256_d1
  concatenate S256x256 0 [⟨S128x256, k⟩, ⟨S128x256, k⟩] concatenates_S128x256_S128x256_S256x256_d0

/-- One matrix over another. -/
def over (q1 q2 : FVec Ideal S256x256 .f32) : FVec Ideal S512x256 .f32 :=
  concatenate S512x256 0 [⟨S256x256, q1⟩, ⟨S256x256, q2⟩] concatenates_S256x256_S256x256_S512x256_d0

theorem four_lo (q1 q2 : FVec Ideal S128x128 .f32) (x k : Fin 128) : four q1 q2 (ix2 ⟨x.val, by omega⟩ ⟨k.val, by omega⟩) = q1 (ix2 x k) := by
  pointwise [four]

theorem four_hi0 (q1 q2 : FVec Ideal S128x128 .f32) (x k : Fin 128) : four q1 q2 (ix2 ⟨x.val, by omega⟩ ⟨128 + k.val, by omega⟩) = q2 (ix2 x k) := by
  pointwise [four]

theorem four_hi1 (q1 q2 : FVec Ideal S128x128 .f32) (x k : Fin 128) : four q1 q2 (ix2 ⟨128 + x.val, by omega⟩ ⟨128 + k.val, by omega⟩) = q2 (ix2 x k) := by
  pointwise [four]

theorem over_hi (q1 q2 : FVec Ideal S256x256 .f32) (x k : Fin 256) : over q1 q2 (ix2 ⟨256 + x.val, by omega⟩ k) = q2 (ix2 x k) := by
  pointwise [over]

variable (m : (ℓ : Loc nD τ sig) → Buf (Elt Ideal) ℓ)

theorem ops (c : Dev nD) (h : FVec Ideal S64x64 .f32) (e : m ((c : Thread nD τ).loc main_arg5) = h)
    (hf : ∀ i j : Fin 64, Fin' (h (ix2 i j))) :
    Ops (fun i j => h (ix2 i j)) (V m c main_v26 : Vec Ideal S256x256 .bf16) (V m c main_v45 : Vec Ideal S512x256 .bf16) := by
  have hz : ∀ i j : Fin 64, subf h h (ix2 i j) = 0 := fun i j => by
    show h (ix2 i j) - h (ix2 i j) = 0
    exact (hf i j).sub_self
  have hz' : ∀ i j : Fin 64, subf (subf h h) (subf h h) (ix2 i j) = 0 := fun i j => by
    show subf h h (ix2 i j) - subf h h (ix2 i j) = 0
    rw [hz, sub_zero]
  have e26 : (V m c main_v26 : Vec Ideal S256x256 .bf16) = four (kron2 eye2 h) (kron2 eye2 (subf h h)) := by
    subst e; exact V26 m c
  have e45 : (V m c main_v45 : Vec Ideal S512x256 .bf16) = over (kron4 eye4 h) (kron4 eye4 (subf (subf h h) (subf h h))) := by
    subst e; exact V45 m c
  rw [e26, e45]
  refine ⟨fun x k => ?_, fun x k => ?_, fun x k => ?_⟩
  · rw [four_lo, kron2_apply, eye2_apply]
    unfold diag
    by_cases hd : x.val / 64 = k.val / 64
    · rw [if_pos hd, if_pos (Fin.ext hd), one_mul]
    · rw [if_neg hd, if_neg (fun h => hd (Fin.mk.inj h)), zero_mul]
  · by_cases hx : x.val < 128
    · refine (four_hi0 _ _ ⟨x.val, hx⟩ k).trans ?_
      rw [kron2_apply, hz, mul_zero]
    · have hs : x = ⟨128 + (x.val - 128), by omega⟩ := Fin.ext (by show x.val = 128 + (x.val - 128); omega)
      rw [hs]
      refine (four_hi1 _ _ ⟨x.val - 128, by omega⟩ k).trans ?_
      rw [kron2_apply, hz, mul_zero]
  · rw [over_hi, kron4_apply, hz', mul_zero]

end Cert.SharedUpIdeal.Host

end
-- ==== Proof.Up.Target.lean ====
/- What the shared up-projection computes, entry by entry, and that one grid point's chunk of 256 columns is it. -/
module

public import proofs.«01_k».proof.Proof.Up.Pay

@[expose] public section

set_option maxRecDepth 16384
set_option maxHeartbeats 1000000

noncomputable section

open Idealize.ShloMosaic Idealize.ShloMosaic.TcCoe Idealize.SL.Sem

namespace Cert.SharedUpIdeal.Target

open Cert.SharedUpIdeal Cert.SharedUpIdeal.Gen Cert.SharedUpIdeal.Hand Cert.UpMath Cert.Rows Cert.SharedUpIdeal.Pay

/-- The operands as plain functions: codes, weights, row scales, column scales, smoothing factors, rotation. -/
structure Tgt where
  A : Fin 4096 → Fin 3584 → EReal
  W : Fin 3584 → ℕ → EReal
  S : Fin 4096 → EReal
  B : ℕ → EReal
  M : ℕ → EReal
  H : Fin 64 → Fin 64 → EReal

namespace Tgt

variable (T : Tgt)

/-- The product of the codes. -/
def dot (R : Fin 4096) (K : ℕ) : EReal := ∑ x : Fin 3584, T.A R x * T.W x K

/-- The product, scaled by row and by column. -/
def gs (R : Fin 4096) (K : ℕ) : EReal := T.dot R K * T.S R * T.B K

/-- The gated product. -/
def us (R : Fin 4096) (K : ℕ) : EReal := act (T.gs R K) (T.gs R (20480 + K))

/-- The gated product, smoothed. -/
def v (R : Fin 4096) (K : ℕ) : EReal := T.us R K * T.M K

/-- The rotation of each group of 64 columns. -/
def rot (R : Fin 4096) (K : ℕ) : EReal :=
  ∑ i : Fin 64, T.v R (64 * (K / 64) + i.val) * T.H i ⟨K % 64, Nat.mod_lt _ (by decide)⟩

/-- The scale of a row of rotated entries. -/
def scale (R : Fin 4096) : EReal :=
  scaleOf (Finset.univ.fold max (Ideal.ofBits .f32 0xFF800000#32) (fun K : Fin 20480 => ab (T.rot R K.val)))

/-- All operands that enter are real numbers. -/
structure Fine : Prop where
  A : ∀ R x, Fin' (T.A R x)
  W : ∀ x K, Fin' (T.W x K)
  S : ∀ R, Fin' (T.S R)
  B : ∀ K, Fin' (T.B K)
  M : ∀ K, Fin' (T.M K)

variable {T}

theorem Fine.v (h : T.Fine) (R : Fin 4096) (K : ℕ) : Fin' (T.v R K) := by
  have g : ∀ K, Fin' (T.gs R K) := fun K =>
    ((Fin'.sum fun x => (h.A R x).mul (h.W x K)).mul (h.S R)).mul (h.B K)
  exact (Fin'.act (g K) (g (20480 + K))).mul (h.M K)

end Tgt

theorem band_row {α : Type} {N : ℕ} (x : (⟨2, ![4096, N]⟩ : Shape).Idx → α) (R : Fin 4096) (k : Fin N) :
    band x ⟨R.val / 1024, by omega⟩ (ix2 ⟨R.val % 1024, Nat.mod_lt _ (by decide)⟩ k) = x (ix2 R k) := by
  show x (ix2 ⟨1024 * (R.val / 1024) + R.val % 1024, _⟩ k) = _
  congr 2
  exact Fin.ext (by show 1024 * (R.val / 1024) + R.val % 1024 = R.val; omega)

theorem glue_row {α : Type} {N : ℕ} (f : Fin 4 → (⟨2, ![1024, N]⟩ : Shape).Idx → α) (R : Fin 4096) (k : Fin N) :
    glue f (ix2 R k) = f ⟨R.val / 1024, by omega⟩ (ix2 ⟨R.val % 1024, Nat.mod_lt _ (by decide)⟩ k) := rfl

section
variable {s : Vec Ideal S4096x128 .f32} {g u : Vec Ideal S4096x256 .f32} {sg su sm : Vec Ideal S1x256 .f32}
variable {ha : Vec Ideal S256x256 .bf16} {hbc : Vec Ideal S512x256 .bf16} {mx : Vec Ideal S4096x128 .f32}
variable {T : Tgt} {n : ℕ}

/-- What a point finds, in terms of the operands: the products of chunk `n`, and the operands of that chunk. -/
structure Finds (T : Tgt) (n : ℕ) (s : Vec Ideal S4096x128 .f32) (g u : Vec Ideal S4096x256 .f32)
    (sg su sm : Vec Ideal S1x256 .f32) : Prop where
  s : ∀ R : Fin 4096, s (ix2 R 0) = T.S R
  g : ∀ (R : Fin 4096) (k : Fin 256), g (ix2 R k) = T.dot R (256 * n + k.val)
  u : ∀ (R : Fin 4096) (k : Fin 256), u (ix2 R k) = T.dot R (20480 + (256 * n + k.val))
  sg : ∀ k : Fin 256, sg (ix2 0 k) = T.B (256 * n + k.val)
  su : ∀ k : Fin 256, su (ix2 0 k) = T.B (20480 + (256 * n + k.val))
  sm : ∀ k : Fin 256, sm (ix2 0 k) = T.M (256 * n + k.val)

theorem us_chunk (hF : Finds T n s g u sg su sm) (R : Fin 4096) (k : Fin 256) :
    glue (usC s g sg u su) (ix2 R k) = T.us R (256 * n + k.val) := by
  rw [glue_row]
  unfold usC
  rw [pay7_apply, band_row g, band_row u, band_row s, hF.s, hF.g, hF.u, hF.sg, hF.su]
  rfl

theorem v_chunk (hF : Finds T n s g u sg su sm) (R : Fin 4096) (k : Fin 256) :
    k0_pay8 (band s ⟨R.val / 1024, by omega⟩) (band g ⟨R.val / 1024, by omega⟩) sg (band u ⟨R.val / 1024, by omega⟩) su sm
      (ix2 ⟨R.val % 1024, Nat.mod_lt _ (by decide)⟩ k) = T.v R (256 * n + k.val) := by
  rw [pay8_apply, hF.sm]
  exact congrArg (· * T.M (256 * n + k.val)) (us_chunk hF R k)

theorem rot_chunk (hT : T.Fine) (ho : Ops T.H ha hbc) (hF : Finds T n s g u sg su sm) (R : Fin 4096) (k : Fin 256) :
    glue (rC s g sg u su sm ha hbc) (ix2 R k) = T.rot R (256 * n + k.val) := by
  rw [glue_row]
  unfold rC
  refine (rot_apply ho _ (fun k => ?_) k).trans ?_
  · rw [v_chunk hF]; exact hT.v _ _
  · refine Finset.sum_congr rfl fun i _ => ?_
    rw [v_chunk hF]
    have hi := i.isLt
    congr 2
    · show 256 * n + (64 * (k.val / 64) + i.val) = 64 * ((256 * n + k.val) / 64) + i.val
      omega
    · exact Fin.ext (by show k.val % 64 = (256 * n + k.val) % 64; omega)

theorem mx_chunk (hT : T.Fine) (ho : Ops T.H ha hbc) (hF : Finds T n s g u sg su sm) (R : Fin 4096) (l : Fin 128) :
    glue (mC s g sg u su sm ha hbc mx) (ix2 R l)
      = max (mx (ix2 R l)) (max (ab (T.rot R (256 * n + l.val))) (ab (T.rot R (256 * n + 128 + l.val)))) := by
  rw [glue_row]
  unfold mC
  rw [pay15_apply, band_row mx]
  have e0 := rot_chunk hT ho hF R ⟨l.val, by omega⟩
  have e1 := rot_chunk hT ho hF R ⟨128 + l.val, by omega⟩
  rw [glue_row] at e0 e1
  unfold rC at e0 e1
  rw [e0, e1, ← Nat.add_assoc]

/-- Before the first products there are zeros, and the largest magnitudes stay zero. -/
theorem mx_zero {H : Fin 64 → Fin 64 → EReal} (ho : Ops H ha hbc) (R : Fin 4096) (l : Fin 128) :
    glue (mC s (k0_pay1 (F := Ideal)) sg (k0_pay2 (F := Ideal)) su sm ha hbc (k0_pay3 (F := Ideal))) (ix2 R l) = 0 := by
  have z1 : ∀ (k : Fin 4) (r : Fin 1024) (q : Fin 256), band (k0_pay1 (F := Ideal)) k (ix2 r q) = 0 := fun k r q => by
    show k0_pay1 (F := Ideal) (ix2 _ q) = 0
    pointwise [k0_pay1]
  have z2 : ∀ (k : Fin 4) (r : Fin 1024) (q : Fin 256), band (k0_pay2 (F := Ideal)) k (ix2 r q) = 0 := fun k r q => by
    show k0_pay2 (F := Ideal) (ix2 _ q) = 0
    pointwise [k0_pay2]
  have z3 : k0_pay3 (F := Ideal) (ix2 R l) = 0 := by
    pointwise [k0_pay3]
  have z8 : ∀ (k : Fin 4) (r : Fin 1024) (q : Fin 256),
      k0_pay8 (band s k) (band (k0_pay1 (F := Ideal)) k) sg (band (k0_pay2 (F := Ideal)) k) su sm (ix2 r q) = 0 := fun k r q => by
    rw [pay8_apply, pay7_apply, z1, z2]
    simp [act]
  have zr : ∀ (k : Fin 4) (r : Fin 1024) (q : Fin 256), k0_pay14 (k0_pay9 (band s k) (band (k0_pay1 (F := Ideal)) k) sg (band (k0_pay2 (F := Ideal)) k) su sm)
      (k0_pay11 (band s k) (band (k0_pay1 (F := Ideal)) k) sg (band (k0_pay2 (F := Ideal)) k) su sm)
      (k0_pay12 (band s k) (band (k0_pay1 (F := Ideal)) k) sg (band (k0_pay2 (F := Ideal)) k) su sm hbc)
      (k0_pay13 (band s k) (band (k0_pay1 (F := Ideal)) k) sg (band (k0_pay2 (F := Ideal)) k) su sm) ha ha (ix2 r q) = 0 := fun k r q => by
    refine (rot_apply ho r (fun q => ?_) q).trans ?_
    · rw [z8]; exact ⟨0, EReal.coe_zero.symm⟩
    · exact Finset.sum_eq_zero fun i _ => by rw [z8, zero_mul]
  rw [glue_row]
  unfold mC
  rw [pay15_apply, band_row (k0_pay3 (F := Ideal)), z3, zr, zr, ab_zero, max_self, max_self]

theorem g_chunk {a : Vec Ideal S4096x3584 .i8} {w : Vec Ideal S3584x256 .i8} {o : ℕ}
    (h0 : ∀ R x, FloatOps.sitofp (F := Ideal) .bf16 (a (ix2 R x)) = T.A R x)
    (hw : ∀ x (k : Fin 256), FloatOps.sitofp (F := Ideal) .bf16 (w (ix2 x k)) = T.W x (o + k.val)) (R : Fin 4096) (k : Fin 256) :
    glue (gC a w) (ix2 R k) = T.dot R (o + k.val) := by
  rw [glue_row]
  unfold gC
  rw [pay4_apply]
  refine Finset.sum_congr rfl fun x _ => ?_
  rw [band_row a, h0, hw]

theorem u_chunk {a : Vec Ideal S4096x3584 .i8} {w : Vec Ideal S3584x256 .i8} {o : ℕ}
    (h0 : ∀ R x, FloatOps.sitofp (F := Ideal) .bf16 (a (ix2 R x)) = T.A R x)
    (hw : ∀ x (k : Fin 256), FloatOps.sitofp (F := Ideal) .bf16 (w (ix2 x k)) = T.W x (o + k.val)) (R : Fin 4096) (k : Fin 256) :
    glue (uC a w) (ix2 R k) = T.dot R (o + k.val) := by
  rw [glue_row]
  unfold uC
  rw [pay5_apply]
  refine Finset.sum_congr rfl fun x _ => ?_
  rw [band_row a, h0, hw]

theorem scale_chunk (hm : ∀ (R : Fin 4096) (l : Fin 128), glue (mC s g sg u su sm ha hbc mx) (ix2 R l) = run (T.rot R) l.val 80)
    (R : Fin 4096) (l : Fin 128) :
    glue (sC (mC s g sg u su sm ha hbc mx)) (ix2 R l) = T.scale R := by
  rw [glue_row]
  unfold sC
  rw [pay6_apply]
  unfold Tgt.scale
  rw [← fold_run (T.rot R) _ bits_bot]
  congr 2
  funext l
  exact hm R l

end

/-- The operands as functions, from the argument arrays. -/
def tgt (x0 : Vec Ideal S4096x3584 .i8) (x1 : Vec Ideal S4096x128 .f32) (x2 : Vec Ideal S3584x40960 .i8)
    (x3 : Vec Ideal S40960 .f32) (x4 : Vec Ideal S20480 .f32) (x5 : Vec Ideal S64x64 .f32) : Tgt where
  A R x := FloatOps.sitofp (F := Ideal) .bf16 (x0 (ix2 R x))
  W x K := FloatOps.sitofp (F := Ideal) .bf16 (x2 (ix2 x ⟨K % 40960, Nat.mod_lt _ (by decide)⟩))
  S R := x1 (ix2 R 0)
  B K := x3 (ix1 ⟨K % 40960, Nat.mod_lt _ (by decide)⟩)
  M K := x4 (ix1 ⟨K % 20480, Nat.mod_lt _ (by decide)⟩)
  H i j := x5 (ix2 i j)

/-- The gated products as an array. -/
def usV (T : Tgt) : Vec Ideal S4096x20480 .f32 := fun i => T.us (i 0) (i 1).val
/-- The rotated products as an array. -/
def rotV (T : Tgt) : Vec Ideal S4096x20480 .f32 := fun i => T.rot (i 0) (i 1).val
/-- The scales as an array: each row's in all its lanes. -/
def scaleV (T : Tgt) : Vec Ideal S4096x128 .f32 := fun i => T.scale (i 0)

section
variable (x0 : Vec Ideal S4096x3584 .i8) (x1 : Vec Ideal S4096x128 .f32) (x2 : Vec Ideal S3584x40960 .i8)
variable (x3 : Vec Ideal S40960 .f32) (x4 : Vec Ideal S20480 .f32) (x5 : Vec Ideal S64x64 .f32)

theorem tgt_W (x : Fin 3584) (K : ℕ) (h : K < 40960) :
    (tgt x0 x1 x2 x3 x4 x5).W x K = FloatOps.sitofp (F := Ideal) .bf16 (x2 (ix2 x ⟨K, h⟩)) := by
  have e : (⟨K % 40960, Nat.mod_lt _ (by decide)⟩ : Fin 40960) = ⟨K, h⟩ := Fin.ext (Nat.mod_eq_of_lt h)
  show FloatOps.sitofp (F := Ideal) .bf16 (x2 (ix2 x ⟨K % 40960, Nat.mod_lt _ (by decide)⟩)) = _
  rw [e]

theorem tgt_B (K : ℕ) (h : K < 40960) : (tgt x0 x1 x2 x3 x4 x5).B K = x3 (ix1 ⟨K, h⟩) := by
  have e : (⟨K % 40960, Nat.mod_lt _ (by decide)⟩ : Fin 40960) = ⟨K, h⟩ := Fin.ext (Nat.mod_eq_of_lt h)
  show x3 (ix1 ⟨K % 40960, Nat.mod_lt _ (by decide)⟩) = _
  rw [e]

theorem tgt_M (K : ℕ) (h : K < 20480) : (tgt x0 x1 x2 x3 x4 x5).M K = x4 (ix1 ⟨K, h⟩) := by
  have e : (⟨K % 20480, Nat.mod_lt _ (by decide)⟩ : Fin 20480) = ⟨K, h⟩ := Fin.ext (Nat.mod_eq_of_lt h)
  show x4 (ix1 ⟨K % 20480, Nat.mod_lt _ (by decide)⟩) = _
  rw [e]

theorem fine (h1 : ∀ R : Fin 4096, Fin' (x1 (ix2 R 0))) (h3 : ∀ K : Fin 40960, Fin' (x3 (ix1 K)))
    (h4 : ∀ K : Fin 20480, Fin' (x4 (ix1 K))) : (tgt x0 x1 x2 x3 x4 x5).Fine where
  A R x := ⟨_, rfl⟩
  W x K := ⟨_, rfl⟩
  S R := h1 R
  B K := h3 _
  M K := h4 _

end

end Cert.SharedUpIdeal.Target

end
-- ==== Proof.Up.Step.lean ====
/- What every grid point of the shared up-projection leaves, in terms of the argument arrays: point `n` leaves the
   products of chunk `n`, and the gated products, the rotation and the running magnitudes of the chunk before. -/
module

public import proofs.«01_k».proof.Proof.Up.Blocks
public import proofs.«01_k».proof.Proof.Up.Ops
public import proofs.«01_k».proof.Proof.Up.Target

@[expose] public section

set_option maxRecDepth 16384
set_option maxHeartbeats 1000000

noncomputable section

open Idealize.ShloMosaic Idealize.ShloMosaic.TcCoe Idealize.SL.Sem

namespace Cert.SharedUpIdeal.Step

open Cert.SharedUpIdeal Cert.SharedUpIdeal.Gen Cert.SharedUpIdeal.Hand Cert.UpMath Cert.Rows Cert.SharedUpIdeal.Pay
open Cert.SharedUpIdeal.Blocks Cert.SharedUpIdeal.Target

variable (m : (ℓ : Loc nD τ sig) → Buf (Elt Ideal) ℓ)

/-- The operands of device `c`. -/
abbrev T (c : Dev nD) : Tgt := tgt (a0 m c) (a1 m c) (a2 m c) (a3 m c) (a4 m c) (a5 m c)

/-- Every operand that is multiplied is a real number. -/
structure Real (c : Dev nD) : Prop where
  s : ∀ R : Fin 4096, Fin' (a1 m c (ix2 R 0))
  b : ∀ K : Fin 40960, Fin' (a3 m c (ix1 K))
  q : ∀ K : Fin 20480, Fin' (a4 m c (ix1 K))
  h : ∀ i j : Fin 64, Fin' (a5 m c (ix2 i j))

theorem Real.fine {c : Dev nD} (h : Real m c) : (T m c).Fine := Target.fine _ _ _ _ _ _ h.s h.b h.q

theorem Real.ops {c : Dev nD} (h : Real m c) (t : Fin cfg0.N) :
    Ops (T m c).H (iblk m c 7 t : Vec Ideal S256x256 .bf16) (iblk m c 8 t : Vec Ideal S512x256 .bf16) := by
  rw [blk7, blk8]
  exact Host.ops m c (a5 m c) rfl h.h

/-- The gate products of point `t`. -/
theorem dot_g (c : Dev nD) (t : Fin cfg0.N) (ht : t.val < 80) (R : Fin 4096) (k : Fin 256) :
    glue (gC (iblk m c 0 t) (iblk m c 2 t)) (ix2 R k) = (T m c).dot R (256 * t.val + k.val) := by
  refine g_chunk (fun R x => ?_) (fun x k => ?_) R k
  · exact congrArg (FloatOps.sitofp (F := Ideal) .bf16) (blk0 m c t R x)
  · exact (congrArg (FloatOps.sitofp (F := Ideal) .bf16) (blk2 m c t ht x k)).trans (tgt_W _ _ _ _ _ _ x _ (by omega)).symm

/-- The up products of point `t`. -/
theorem dot_u (c : Dev nD) (t : Fin cfg0.N) (ht : t.val < 80) (R : Fin 4096) (k : Fin 256) :
    glue (uC (iblk m c 0 t) (iblk m c 3 t)) (ix2 R k) = (T m c).dot R (20480 + (256 * t.val + k.val)) := by
  rw [← Nat.add_assoc]
  refine u_chunk (fun R x => ?_) (fun x k => ?_) R k
  · exact congrArg (FloatOps.sitofp (F := Ideal) .bf16) (blk0 m c t R x)
  · exact (congrArg (FloatOps.sitofp (F := Ideal) .bf16) (blk3 m c t ht x k)).trans (tgt_W _ _ _ _ _ _ x _ (by omega)).symm

/-- What is carried from point `n` to the next. -/
structure Holds (c : Dev nD) (n : ℕ) (o : Left Ideal) : Prop where
  g : ∀ (R : Fin 4096) (k : Fin 256), o.2.2.2.1 (ix2 R k) = (T m c).dot R (256 * n + k.val)
  u : ∀ (R : Fin 4096) (k : Fin 256), o.2.2.2.2.1 (ix2 R k) = (T m c).dot R (20480 + (256 * n + k.val))
  x : ∀ (R : Fin 4096) (l : Fin 128), o.2.2.2.2.2 (ix2 R l) = run ((T m c).rot R) l.val n

variable {m}

theorem Holds.finds {c : Dev nD} {n : ℕ} {o : Left Ideal} (h : Holds m c n o) (t : Fin cfg0.N) (hn : t.val = n + 1) :
    Finds (T m c) n (iblk m c 1 t) o.2.2.2.1 o.2.2.2.2.1 (iblk m c 4 t) (iblk m c 5 t) (iblk m c 6 t) where
  s := blk1 m c t
  g := h.g
  u := h.u
  sg k := (blk4 m c t n hn k).trans (tgt_B _ _ _ _ _ _ _ _).symm
  su k := (blk5 m c t n hn k).trans (tgt_B _ _ _ _ _ _ _ _).symm
  sm k := (blk6 m c t n hn k).trans (tgt_M _ _ _ _ _ _ _ (by
    have h : t.val < 81 := lt_of_lt_of_eq t.isLt N_0
    omega)).symm

variable (m)

/-- The magnitudes after the point behind `n`. -/
theorem mx_next {c : Dev nD} (hR : Real m c) {n : ℕ} {o : Left Ideal} (h : Holds m c n o) (t : Fin cfg0.N) (hn : t.val = n + 1)
    (R : Fin 4096) (l : Fin 128) :
    glue (mC (iblk m c 1 t) o.2.2.2.1 (iblk m c 4 t) o.2.2.2.2.1 (iblk m c 5 t) (iblk m c 6 t) (iblk m c 7 t) (iblk m c 8 t)
      o.2.2.2.2.2) (ix2 R l) = run ((T m c).rot R) l.val (n + 1) :=
  (mx_chunk hR.fine (hR.ops m t) (h.finds t hn) R l).trans (by rw [h.x]; rfl)

/-- A point of the products carries on its own products, and the magnitudes up to the chunk before. -/
theorem holds_of {c : Dev nD} (t : Fin cfg0.N) (ht : t.val < 80) (g u : Vec Ideal S4096x256 .f32) (x : Vec Ideal S4096x128 .f32)
    (o : Left Ideal) (e : o = leftB m c t g u x)
    (hm : ∀ (R : Fin 4096) (l : Fin 128), glue (mC (iblk m c 1 t) g (iblk m c 4 t) u (iblk m c 5 t) (iblk m c 6 t) (iblk m c 7 t)
      (iblk m c 8 t) x) (ix2 R l) = run ((T m c).rot R) l.val t.val) : Holds m c t.val o := by
  have eg : o.2.2.2.1 = glue (gC (iblk m c 0 t) (iblk m c 2 t)) := by rw [e]; rfl
  have eu : o.2.2.2.2.1 = glue (uC (iblk m c 0 t) (iblk m c 3 t)) := by rw [e]; rfl
  have ex : o.2.2.2.2.2 = glue (mC (iblk m c 1 t) g (iblk m c 4 t) u (iblk m c 5 t) (iblk m c 6 t) (iblk m c 7 t)
      (iblk m c 8 t) x) := by rw [e]; rfl
  refine ⟨fun R k => ?_, fun R k => ?_, fun R l => ?_⟩
  · rw [eg]; exact dot_g m c t ht R k
  · rw [eu]; exact dot_u m c t ht R k
  · rw [ex]; exact hm R l

theorem holds_zero {c : Dev nD} (hR : Real m c) (t : Fin cfg0.N) (h0 : t.val = 0) : Holds m c t.val (outsAt0 m c t.val t.isLt) := by
  refine holds_of m t (by omega) _ _ _ _ (outsAt0_A m c t (by omega)) fun R l => ?_
  rw [h0]
  exact mx_zero (hR.ops m t) R l

theorem holds_succ {c : Dev nD} (hR : Real m c) (t : Fin cfg0.N) (n : ℕ) (hn : t.val = n + 1) (hlt : t.val < 80)
    (ih : Holds m c (t.val - 1) (outsAt0 m c (t.val - 1) (Nat.lt_of_le_of_lt (Nat.sub_le _ _) t.isLt))) :
    Holds m c t.val (outsAt0 m c t.val t.isLt) := by
  refine holds_of m t hlt _ _ _ _ (outsAt0_B m c t (by omega) hlt) fun R l => ?_
  have h := mx_next m hR ih t (by omega) R l
  rw [show t.val - 1 + 1 = t.val by omega] at h
  exact h

/-- What point `n` of the products leaves. -/
theorem holds {c : Dev nD} (hR : Real m c) (n : ℕ) : ∀ (hn : n < cfg0.N), n < 80 → Holds m c n (outsAt0 m c n hn) := by
  induction n with
  | zero => exact fun hn _ => holds_zero m hR ⟨0, hn⟩ rfl
  | succ n ih => exact fun hn hlt => holds_succ m hR ⟨n + 1, hn⟩ n rfl hlt (ih (Nat.lt_of_succ_lt hn) (Nat.lt_of_succ_lt hlt))

/-- What point `t` leaves in its blocks of the gated products and of the rotation. -/
theorem outs_next {c : Dev nD} (hR : Real m c) (t : Fin cfg0.N) (ht : t.val ≠ 0) (R : Fin 4096) (k : Fin 256) :
    (outsAt0 m c t.val t.isLt).1 (ix2 R k) = (T m c).us R (256 * (t.val - 1) + k.val)
    ∧ (outsAt0 m c t.val t.isLt).2.1 (ix2 R k) = (T m c).rot R (256 * (t.val - 1) + k.val) := by
  have h81 : t.val < 81 := lt_of_lt_of_eq t.isLt N_0
  have ih := holds m hR (t.val - 1) (Nat.lt_of_le_of_lt (Nat.sub_le _ _) t.isLt) (by omega)
  have hf := ih.finds t (by omega)
  have h0 : ¬ t.val % 81 = 0 := by omega
  by_cases hlt : t.val < 80
  · rw [outsAt0_B m c t h0 hlt]
    exact ⟨us_chunk hf R k, rot_chunk hR.fine (hR.ops m t) hf R k⟩
  · rw [outsAt0_C m c t h0 hlt]
    exact ⟨us_chunk hf R k, rot_chunk hR.fine (hR.ops m t) hf R k⟩

theorem leftC_scale {F : FTy → Type} [FloatOps F] (m : (ℓ : Loc nD τ sig) → Buf (Elt F) ℓ) (c : Dev nD) (t : Fin cfg0.N)
    (g u : Vec F S4096x256 .f32) (x : Vec F S4096x128 .f32) :
    (leftC m c t g u x).2.2.1 = glue (sC (mC (iblk m c 1 t) g (iblk m c 4 t) u (iblk m c 5 t) (iblk m c 6 t) (iblk m c 7 t)
      (iblk m c 8 t) x)) := by
  unfold leftC
  dsimp only

theorem scale_of {c : Dev nD} (t : Fin cfg0.N) (g u : Vec Ideal S4096x256 .f32) (x : Vec Ideal S4096x128 .f32)
    (o : Left Ideal) (e : o = leftC m c t g u x)
    (hm : ∀ (R : Fin 4096) (l : Fin 128), glue (mC (iblk m c 1 t) g (iblk m c 4 t) u (iblk m c 5 t) (iblk m c 6 t) (iblk m c 7 t)
      (iblk m c 8 t) x) (ix2 R l) = run ((T m c).rot R) l.val 80) (R : Fin 4096) (l : Fin 128) :
    o.2.2.1 (ix2 R l) = (T m c).scale R := by
  have ex := leftC_scale m c t g u x
  rw [← e] at ex
  rw [ex]
  exact scale_chunk (T := T m c) hm R l

/-- What the last point leaves in the block of scales. -/
theorem scale_last {c : Dev nD} (hR : Real m c) (t : Fin cfg0.N) (ht : t.val = 80) (R : Fin 4096) (l : Fin 128) :
    (outsAt0 m c t.val t.isLt).2.2.1 (ix2 R l) = (T m c).scale R := by
  have ih := holds m hR (t.val - 1) (Nat.lt_of_le_of_lt (Nat.sub_le _ _) t.isLt) (by omega)
  refine scale_of m t _ _ _ _ (outsAt0_C m c t (by omega) (by omega)) (fun R l => ?_) R l
  have h := mx_next m hR ih t (by omega) R l
  have e : t.val - 1 + 1 = 80 := by omega
  exact h.trans (congrArg (run ((T m c).rot R) l.val) e)

end Cert.SharedUpIdeal.Step

end
-- ==== Proof.Up.Value.lean ====
/- The three result arrays of the shared up-projection as whole arrays, and the run that ends with them. -/
module

public import proofs.«01_k».proof.Proof.Up.Step

@[expose] public section

set_option maxRecDepth 16384

noncomputable section

open Idealize.ShloMosaic Idealize.ShloMosaic.TcCoe Idealize.SL.Sem
open Idealize.ShloMosaic.Pipeline (Dat)

namespace Cert.SharedUpIdeal.Arrays

open Cert.SharedUpIdeal Cert.SharedUpIdeal.Gen Cert.SharedUpIdeal.Hand Cert.SharedUpIdeal.Blocks Cert.SharedUpIdeal.Target
open Cert.SharedUpIdeal.Step

variable (m : (ℓ : Loc nD τ sig) → Buf (Elt Ideal) ℓ) (ρ : Dev nD → PrngReg)

/-- The row of the array that row `r` of a point's blocks is: the blocks hold all rows. -/
abbrev row (r : Fin 4096) : Fin 4096 := r

/-- The column of the array that column `k` of point `t`'s blocks is: they hold the chunk before `t`. -/
abbrev col (t : Fin cfg0.N) (k : Fin 256) : Fin 20480 :=
  ⟨256 * (t.val - 1) + k.val, by have h : t.val < 81 := lt_of_lt_of_eq t.isLt N_0; have := k.isLt; omega⟩

/-- The lane of the array that lane `l` of a point's block of scales is. -/
abbrev lane (l : Fin 128) : Fin 128 := l

/-- What a point behind the first writes back to the gated products is their chunk. -/
theorem flushed9 {c : Dev nD} (hR : Real m c) (t : Fin cfg0.N) (hf : (cfg0.win 9).flush t = true) :
    (dats m 0 c).flushed 9 t = ((cfg0.win 9).blk t).view.read (Elt Ideal) (usV (T m c)) := by
  have ht := (flush9 t).mp hf
  have h81 : t.val < 81 := lt_of_lt_of_eq t.isLt N_0
  show (cfg0.win 9).cut (grid0.coords t) ((dats m 0 c).after 9 t) = _
  rw [after0_9]
  funext j
  show (outsAt0 m c t.val t.isLt).1 (j : S4096x256.Idx) = usV (T m c) (((cfg0.win 9).blk t).view.emb j)
  have hi := idx9 t
  have hj : (j : S4096x256.Idx) = ix2 (j 0) (j 1) := funext fun a => by fin_cases a <;> rfl
  have e : (((cfg0.win 9).blk t).view.emb j : S4096x20480.Idx) = ix2 (row (j 0)) (col t (j 1)) := by
    funext a
    apply Fin.ext
    match a with
    | ⟨0, _⟩ => show win0_9.index t 0 * 4096 + 1 * (j 0).val = (j 0).val; rw [hi.1]; omega
    | ⟨1, _⟩ => show win0_9.index t 1 * 256 + 1 * (j 1).val = 256 * (t.val - 1) + (j 1).val; rw [hi.2]; omega
  refine (congrArg (outsAt0 m c t.val t.isLt).1 hj).trans ((outs_next m hR t ht (row (j 0)) (j 1)).1.trans ?_)
  exact (congrArg (usV (T m c)) e).symm

/-- What a point behind the first writes back to the rotation is its chunk. -/
theorem flushed10 {c : Dev nD} (hR : Real m c) (t : Fin cfg0.N) (hf : (cfg0.win 10).flush t = true) :
    (dats m 0 c).flushed 10 t = ((cfg0.win 10).blk t).view.read (Elt Ideal) (rotV (T m c)) := by
  have ht := (flush10 t).mp hf
  have h81 : t.val < 81 := lt_of_lt_of_eq t.isLt N_0
  show (cfg0.win 10).cut (grid0.coords t) ((dats m 0 c).after 10 t) = _
  rw [after0_10]
  funext j
  show (outsAt0 m c t.val t.isLt).2.1 (j : S4096x256.Idx) = rotV (T m c) (((cfg0.win 10).blk t).view.emb j)
  have hi := idx10 t
  have hj : (j : S4096x256.Idx) = ix2 (j 0) (j 1) := funext fun a => by fin_cases a <;> rfl
  have e : (((cfg0.win 10).blk t).view.emb j : S4096x20480.Idx) = ix2 (row (j 0)) (col t (j 1)) := by
    funext a
    apply Fin.ext
    match a with
    | ⟨0, _⟩ => show win0_10.index t 0 * 4096 + 1 * (j 0).val = (j 0).val; rw [hi.1]; omega
    | ⟨1, _⟩ => show win0_10.index t 1 * 256 + 1 * (j 1).val = 256 * (t.val - 1) + (j 1).val; rw [hi.2]; omega
  refine (congrArg (outsAt0 m c t.val t.isLt).2.1 hj).trans ((outs_next m hR t ht (row (j 0)) (j 1)).2.trans ?_)
  exact (congrArg (rotV (T m c)) e).symm

/-- What the last point writes back to the scales is all of them. -/
theorem flushed11 {c : Dev nD} (hR : Real m c) (t : Fin cfg0.N) (hf : (cfg0.win 11).flush t = true) :
    (dats m 0 c).flushed 11 t = ((cfg0.win 11).blk t).view.read (Elt Ideal) (scaleV (T m c)) := by
  have h81 : t.val < 81 := lt_of_lt_of_eq t.isLt N_0
  have ht : t.val = 80 := by have := (flush0_11 t).mp hf; omega
  have hs : ∀ (R : Fin 4096) (l : Fin 128), (outsAt0 m c t.val t.isLt).2.2.1 (ix2 R l) = scaleV (T m c) (ix2 R l) :=
    fun R l => scale_last m hR t ht R l
  show (cfg0.win 11).cut (grid0.coords t) ((dats m 0 c).after 11 t) = _
  rw [after0_11]
  generalize (outsAt0 m c t.val t.isLt).2.2.1 = o at hs ⊢
  generalize scaleV (T m c) = G at hs ⊢
  funext j
  show o (j : S4096x128.Idx) = G (((cfg0.win 11).blk t).view.emb j)
  have hi := idx11 t
  have hj : (j : S4096x128.Idx) = ix2 (j 0) (j 1) := funext fun a => by fin_cases a <;> rfl
  have e : (((cfg0.win 11).blk t).view.emb j : S4096x128.Idx) = ix2 (row (j 0)) (lane (j 1)) := by
    funext a
    apply Fin.ext
    match a with
    | ⟨0, _⟩ => show win0_11.index t 0 * 4096 + 1 * (j 0).val = (j 0).val; rw [hi.1]; omega
    | ⟨1, _⟩ => show win0_11.index t 1 * 128 + 1 * (j 1).val = (j 1).val; rw [hi.2]; omega
  refine (congrArg o hj).trans ((hs (row (j 0)) (lane (j 1))).trans ?_)
  exact (congrArg G e).symm

/-- Every entry of the gated products is in the chunk of some point behind the first. -/
theorem covered9 (i : S4096x20480.Idx) :
    ∃ t : Fin cfg0.N, (cfg0.win 9).flush t = true ∧ i ∈ ((cfg0.win 9).blk t).view.set := by
  have h0 : (i 0 : Nat) < 4096 := (i 0).isLt
  have h1 : (i 1 : Nat) < 20480 := (i 1).isLt
  have hN : cfg0.N = 81 := N_0
  let t : Fin cfg0.N := ⟨(i 1 : Nat) / 256 + 1, by omega⟩
  have hv : t.val = (i 1 : Nat) / 256 + 1 := rfl
  refine ⟨t, (flush9 t).mpr (by omega), ?_⟩
  have hi := idx9 t
  show i ∈ ((View.whole main_v48_0).slice (win0_9.rect t)).set
  rw [View.set_slice_whole, Rect.mem_set_unit]
  intro a
  match a with
  | ⟨0, _⟩ =>
    show win0_9.index t 0 * 4096 ≤ (i 0 : Nat) ∧ (i 0 : Nat) < win0_9.index t 0 * 4096 + 4096
    rw [hi.1]; omega
  | ⟨1, _⟩ =>
    show win0_9.index t 1 * 256 ≤ (i 1 : Nat) ∧ (i 1 : Nat) < win0_9.index t 1 * 256 + 256
    rw [hi.2]; omega

/-- Every entry of the rotation likewise. -/
theorem covered10 (i : S4096x20480.Idx) :
    ∃ t : Fin cfg0.N, (cfg0.win 10).flush t = true ∧ i ∈ ((cfg0.win 10).blk t).view.set := by
  have h0 : (i 0 : Nat) < 4096 := (i 0).isLt
  have h1 : (i 1 : Nat) < 20480 := (i 1).isLt
  have hN : cfg0.N = 81 := N_0
  let t : Fin cfg0.N := ⟨(i 1 : Nat) / 256 + 1, by omega⟩
  have hv : t.val = (i 1 : Nat) / 256 + 1 := rfl
  refine ⟨t, (flush10 t).mpr (by omega), ?_⟩
  have hi := idx10 t
  show i ∈ ((View.whole main_v48_1).slice (win0_10.rect t)).set
  rw [View.set_slice_whole, Rect.mem_set_unit]
  intro a
  match a with
  | ⟨0, _⟩ =>
    show win0_10.index t 0 * 4096 ≤ (i 0 : Nat) ∧ (i 0 : Nat) < win0_10.index t 0 * 4096 + 4096
    rw [hi.1]; omega
  | ⟨1, _⟩ =>
    show win0_10.index t 1 * 256 ≤ (i 1 : Nat) ∧ (i 1 : Nat) < win0_10.index t 1 * 256 + 256
    rw [hi.2]; omega

/-- The last point's block of scales is all of them. -/
theorem covered11 (i : S4096x128.Idx) :
    ∃ t : Fin cfg0.N, (cfg0.win 11).flush t = true ∧ i ∈ ((cfg0.win 11).blk t).view.set := by
  have h0 : (i 0 : Nat) < 4096 := (i 0).isLt
  have h1 : (i 1 : Nat) < 128 := (i 1).isLt
  have hN : cfg0.N = 81 := N_0
  let t : Fin cfg0.N := ⟨80, by omega⟩
  have hv : t.val = 80 := rfl
  refine ⟨t, (flush0_11 t).mpr (by omega), ?_⟩
  have hi := idx11 t
  show i ∈ ((View.whole main_v48_2).slice (win0_11.rect t)).set
  rw [View.set_slice_whole, Rect.mem_set_unit]
  intro a
  match a with
  | ⟨0, _⟩ =>
    show win0_11.index t 0 * 4096 ≤ (i 0 : Nat) ∧ (i 0 : Nat) < win0_11.index t 0 * 4096 + 4096
    rw [hi.1]; omega
  | ⟨1, _⟩ =>
    show win0_11.index t 1 * 128 ≤ (i 1 : Nat) ∧ (i 1 : Nat) < win0_11.index t 1 * 128 + 128
    rw [hi.2]; omega

/-- The gated products after the run. -/
theorem final9 {c : Dev nD} (hR : Real m c) : (dats m 0 c).arrAt 9 cfg0.N = usV (T m c) :=
  (dats m 0 c).arrAt_eq_of_cover 9 (usV (T m c)) (fun t hf => flushed9 m hR t hf) covered9

/-- The rotation after the run. -/
theorem final10 {c : Dev nD} (hR : Real m c) : (dats m 0 c).arrAt 10 cfg0.N = rotV (T m c) :=
  (dats m 0 c).arrAt_eq_of_cover 10 (rotV (T m c)) (fun t hf => flushed10 m hR t hf) covered10

/-- The scales after the run. -/
theorem final11 {c : Dev nD} (hR : Real m c) : (dats m 0 c).arrAt 11 cfg0.N = scaleV (T m c) :=
  (dats m 0 c).arrAt_eq_of_cover 11 (scaleV (T m c)) (fun t hf => flushed11 m hR t hf) covered11

section
variable (r : PUnit × MemSt nD τ sig (Elt Ideal)) (h : Pipeline.FramePost cfgs (dats m) 0 (V m) r) (c : Dev nD)
include h

theorem post9 : r.2.mem ((c : Thread nD τ).loc main_v48_0) = (dats m 0 c).arrAt 9 cfg0.N := (h c).1 9

theorem post10 : r.2.mem ((c : Thread nD τ).loc main_v48_1) = (dats m 0 c).arrAt 10 cfg0.N := (h c).1 10

theorem post11 : r.2.mem ((c : Thread nD τ).loc main_v48_2) = (dats m 0 c).arrAt 11 cfg0.N := (h c).1 11

theorem kept0 : r.2.mem ((c : Thread nD τ).loc main_arg0) = m ((c : Thread nD τ).loc main_arg0) :=
  ((h c).1 0).trans (((dats m 0 c).arrAt_in 0 rfl _).trans ((A_eq m c 0).trans (V_main_arg0 m c)))

theorem kept1 : r.2.mem ((c : Thread nD τ).loc main_arg1) = m ((c : Thread nD τ).loc main_arg1) :=
  ((h c).1 1).trans (((dats m 0 c).arrAt_in 1 rfl _).trans ((A_eq m c 1).trans (V_main_arg1 m c)))

theorem kept2 : r.2.mem ((c : Thread nD τ).loc main_arg2) = m ((c : Thread nD τ).loc main_arg2) :=
  ((h c).1 3).trans (((dats m 0 c).arrAt_in 3 rfl _).trans ((A_eq m c 3).trans (V_main_arg2 m c)))

theorem kept3 : r.2.mem ((c : Thread nD τ).loc main_arg3) = m ((c : Thread nD τ).loc main_arg3) :=
  ((h c).2 main_arg3 (Pipeline.mem_restRefs_of main_arg3 (by decide) (by decide))).trans (V_main_arg3 m c)

theorem kept4 : r.2.mem ((c : Thread nD τ).loc main_arg4) = m ((c : Thread nD τ).loc main_arg4) :=
  ((h c).2 main_arg4 (Pipeline.mem_restRefs_of main_arg4 (by decide) (by decide))).trans (V_main_arg4 m c)

theorem kept5 : r.2.mem ((c : Thread nD τ).loc main_arg5) = m ((c : Thread nD τ).loc main_arg5) :=
  ((h c).2 main_arg5 (Pipeline.mem_restRefs_of main_arg5 (by decide) (by decide))).trans (V_main_arg5 m c)

end

/-- The run: the three results are the target's, and the arguments are as launched. -/
theorem run (hR : ∀ c, Real m c) : θ_run defs (onTc (τ := τ) (main (F := Ideal))) ⟨m, fun _ => 0, ρ⟩ fun r => ∀ c : Dev nD,
      r.2.mem ((c : Thread nD τ).loc main_v48_0) = usV (T m c)
      ∧ r.2.mem ((c : Thread nD τ).loc main_v48_1) = rotV (T m c)
      ∧ r.2.mem ((c : Thread nD τ).loc main_v48_2) = scaleV (T m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(post9 m r h c).trans (final9 m (hR c)), (post10 m r h c).trans (final10 m (hR c)),
      (post11 m r h c).trans (final11 m (hR c)), kept0 m r h c, kept1 m r h c, kept2 m r h c, kept3 m r h c, kept4 m r h c,
      kept5 m r h c⟩)
    (run_main m ρ)

end Cert.SharedUpIdeal.Arrays

end
-- ==== Proof.Up.Ref.lean ====
/- The reference of the shared up-projection computes the same three arrays. -/
module

public import proofs.«01_k».proof.Proof.Up.Target
public import proofs.«01_k».proof.Proof.Gen.RefUpIdeal.Value

@[expose] public section

set_option maxRecDepth 16384

noncomputable section

open Idealize.ShloMosaic Idealize.ShloMosaic.TcCoe Idealize.SL.Sem

namespace Cert.RefUpIdeal.Equal

open Cert.RefUpIdeal Cert.RefUpIdeal.Gen Cert.UpMath Cert.SharedUpIdeal.Target

variable (x0 : Vec Ideal S4096x3584 .i8) (x1 : Vec Ideal S4096x128 .f32) (x2 : Vec Ideal S3584x40960 .i8)
variable (x3 : Vec Ideal S40960 .f32) (x4 : Vec Ideal S20480 .f32) (x5 : Vec Ideal S64x64 .f32)

/-- The column of row scales that the reference loads. -/
theorem ld_scale (r : Fin 4096) : (View.ld x1 r0_2 : Vec Ideal S4096x1 .f32) (ix2 r 0) = x1 (ix2 r 0) := by
  show x1 _ = x1 _
  congr 1
  funext a
  apply Fin.ext
  match a with
  | ⟨0, _⟩ => show 0 + 1 * r.val = r.val; omega
  | ⟨1, _⟩ => rfl

/-- The reference's gated products, entry by entry. -/
theorem pay1 (u : Vec Ideal S4096x1 .f32) (r : Fin 4096) (k : Fin 20480) : k0_pay1 x0 x2 u x3 (ix2 r k)
    = act ((∑ x : Fin 3584, FloatOps.sitofp (F := Ideal) .bf16 (x0 (ix2 r x)) * FloatOps.sitofp (F := Ideal) .bf16 (x2 (ix2 x ⟨k.val, by omega⟩))) * u (ix2 r 0) * x3 (ix1 ⟨k.val, by omega⟩))
        ((∑ x : Fin 3584, FloatOps.sitofp (F := Ideal) .bf16 (x0 (ix2 r x)) * FloatOps.sitofp (F := Ideal) .bf16 (x2 (ix2 x ⟨20480 + k.val, by omega⟩))) * u (ix2 r 0) * x3 (ix1 ⟨20480 + k.val, by omega⟩)) := by
  pointwise [k0_pay1]
  simp only [act]

/-- The reference's rotation, entry by entry. -/
theorem pay2 (u : Vec Ideal S4096x1 .f32) (r : Fin 4096) (k : Fin 20480) : k0_pay2 x0 x2 u x3 x4 x5 (ix2 r k)
    = ∑ i : Fin 64, k0_pay1 x0 x2 u x3 (ix2 r ⟨64 * (k.val / 64) + i.val, by omega⟩) * x4 (ix1 ⟨64 * (k.val / 64) + i.val, by omega⟩)
        * x5 (ix2 i ⟨k.val % 64, Nat.mod_lt _ (by decide)⟩) := by
  unfold k0_pay2
  generalize k0_pay1 x0 x2 u x3 = q
  pointwise []
  simp only [Nat.mul_comm (k.val / 64) 64]

/-- A row's largest entry, as the fold along the row. -/
theorem row_max (q : FVec Ideal S4096x20480 .f32) (h : S4096x20480.Reduces [1] S4096) (hφ : FKind.Formats .f32)
    (hacc : (0xFF800000#32 : BitVec 32) = FKind.maximumf.neutral .f32 hφ) (r : Fin 4096) :
    multiReduction .maximumf [1] S4096 q 0xFF800000#32 h hφ hacc (ix1 r)
      = Finset.univ.fold max (Ideal.ofBits .f32 0xFF800000#32) (fun K : Fin 20480 => q (ix2 r K)) := by
  pointwise []

/-- A scale from each row's largest entry, spread along 128 columns. -/
theorem spread (z : FVec Ideal S4096 .f32) (r : Fin 4096) (k : Fin 128) :
    (broadcastTo S4096x128 (shapeCast S4096x1 (shapeCast S4096x1 (select (cmpf .oeq z (broadcast S4096 (Scalar.ofBits .f32 0x00000000#32)))
      (broadcast S4096 (Scalar.ofBits .f32 0x3F800000#32)) (divf z (broadcast S4096 (Scalar.ofBits .f32 0x42FE0000#32)))) shapeCasts_S4096_S4096x1)
      shapeCasts_S4096x1_S4096x1) broadcasts_S4096x1_S4096x128 : FVec Ideal S4096x128 .f32) (ix2 r k)
      = Cert.SharedUpIdeal.Pay.scaleOf (z (ix1 r)) := by
  pointwise []
  generalize z (ix1 r) = y
  unfold Cert.SharedUpIdeal.Pay.scaleOf
  exact Eq.refl _

theorem abs_fold (q : FVec Ideal S4096x20480 .f32) (r : Fin 4096) :
    (fun K : Fin 20480 => (absf q : FVec Ideal S4096x20480 .f32) (ix2 r K)) = fun K : Fin 20480 => ab (q (ix2 r K)) :=
  funext fun _ => rfl

/-- The reference's scales, entry by entry. -/
theorem pay3 (u : Vec Ideal S4096x1 .f32) (r : Fin 4096) (k : Fin 128) : k0_pay3 x0 x2 u x3 x4 x5 (ix2 r k)
    = Cert.SharedUpIdeal.Pay.scaleOf (Finset.univ.fold max (Ideal.ofBits .f32 0xFF800000#32) (fun K : Fin 20480 => ab (k0_pay2 x0 x2 u x3 x4 x5 (ix2 r K)))) := by
  rw [← abs_fold]
  unfold k0_pay3
  exact (spread _ r k).trans (congrArg Cert.SharedUpIdeal.Pay.scaleOf (row_max _ reduces_S4096x20480_S4096 (.inl rfl) rfl r))

theorem us_el (r : Fin 4096) (k : Fin 20480) :
    k0_pay1 x0 x2 (View.ld x1 r0_2) x3 (ix2 r k) = (tgt x0 x1 x2 x3 x4 x5).us r k.val := by
  have hk := k.isLt
  have w : ∀ (K : ℕ) (h : K < 40960), (∑ x : Fin 3584, FloatOps.sitofp (F := Ideal) .bf16 (x0 (ix2 r x)) * FloatOps.sitofp (F := Ideal) .bf16 (x2 (ix2 x ⟨K, h⟩)))
      * (View.ld x1 r0_2 : Vec Ideal S4096x1 .f32) (ix2 r 0) * x3 (ix1 ⟨K, h⟩) = (tgt x0 x1 x2 x3 x4 x5).gs r K := fun K h => by
    have e1 : (∑ x : Fin 3584, FloatOps.sitofp (F := Ideal) .bf16 (x0 (ix2 r x)) * FloatOps.sitofp (F := Ideal) .bf16 (x2 (ix2 x ⟨K, h⟩)))
        = (tgt x0 x1 x2 x3 x4 x5).dot r K :=
      Finset.sum_congr rfl fun x _ => congrArg (FloatOps.sitofp (F := Ideal) .bf16 (x0 (ix2 r x)) * ·) (tgt_W x0 x1 x2 x3 x4 x5 x K h).symm
    rw [e1, ld_scale, ← tgt_B x0 x1 x2 x3 x4 x5 K h]
    unfold Tgt.gs
    exact Eq.refl _
  rw [pay1, w, w]
  unfold Tgt.us
  exact Eq.refl _

theorem rot_el (r : Fin 4096) (k : Fin 20480) :
    k0_pay2 x0 x2 (View.ld x1 r0_2) x3 x4 x5 (ix2 r k) = (tgt x0 x1 x2 x3 x4 x5).rot r k.val := by
  have hk := k.isLt
  rw [pay2]
  unfold Tgt.rot
  refine Finset.sum_congr rfl fun i _ => ?_
  have hi := i.isLt
  rw [us_el x0 x1 x2 x3 x4 x5, ← tgt_M x0 x1 x2 x3 x4 x5 (64 * (k.val / 64) + i.val) (by omega)]
  unfold Tgt.v
  exact Eq.refl _

theorem scale_el (r : Fin 4096) (k : Fin 128) :
    k0_pay3 x0 x2 (View.ld x1 r0_2) x3 x4 x5 (ix2 r k) = (tgt x0 x1 x2 x3 x4 x5).scale r := by
  rw [pay3]
  unfold Tgt.scale
  have e : (fun K : Fin 20480 => ab (k0_pay2 x0 x2 (View.ld x1 r0_2) x3 x4 x5 (ix2 r K))) = fun K : Fin 20480 => ab ((tgt x0 x1 x2 x3 x4 x5).rot r K.val) :=
    funext fun K => congrArg ab (rot_el x0 x1 x2 x3 x4 x5 r K)
  rw [e]

/-- The reference's three arrays are the target's. -/
theorem us_eq : k0_pay1 x0 x2 (View.ld x1 r0_2) x3 = usV (tgt x0 x1 x2 x3 x4 x5) := by
  funext i
  obtain ⟨r, k, rfl⟩ : ∃ r k, i = ix2 r k := ⟨i 0, i 1, funext fun a => by fin_cases a <;> rfl⟩
  exact us_el x0 x1 x2 x3 x4 x5 r k

theorem rot_eq : k0_pay2 x0 x2 (View.ld x1 r0_2) x3 x4 x5 = rotV (tgt x0 x1 x2 x3 x4 x5) := by
  funext i
  obtain ⟨r, k, rfl⟩ : ∃ r k, i = ix2 r k := ⟨i 0, i 1, funext fun a => by fin_cases a <;> rfl⟩
  exact rot_el x0 x1 x2 x3 x4 x5 r k

theorem scale_eq : k0_pay3 x0 x2 (View.ld x1 r0_2) x3 x4 x5 = scaleV (tgt x0 x1 x2 x3 x4 x5) := by
  funext i
  obtain ⟨r, k, rfl⟩ : ∃ r k, i = ix2 r k := ⟨i 0, i 1, funext fun a => by fin_cases a <;> rfl⟩
  exact scale_el x0 x1 x2 x3 x4 x5 r k

end Cert.RefUpIdeal.Equal

end
-- ==== Proof.Up.Claim.lean ====
/- The value claim of the shared up-projection: run from memories that agree on the arguments, and whose scales,
   smoothing factors and rotation are real numbers, the kernel and the reference end with the same three arrays. -/
module

public import proofs.«01_k».proof.Defs
public import proofs.«01_k».proof.Proof.Up.Value
public import proofs.«01_k».proof.Proof.Up.Ref
public import proofs.«01_k».proof.Proof.Gen.Pre_finite

@[expose] public section

set_option maxRecDepth 16384

noncomputable section

open Idealize.ShloMosaic Idealize.ShloMosaic.TcCoe Idealize.SL.Sem

namespace Cert.UpClaim

open Cert.UpMath Cert.SharedUpIdeal.Step Cert.SharedUpIdeal.Blocks Cert.SharedUpIdeal.Target

theorem bits_top : Ideal.ofBits .f32 0x7F800000#32 = (⊤ : EReal) := by
  simp [Ideal.ofBits, Ideal.ieee]

/-- An extended real whose absolute value lies below infinity is a real number. -/
theorem fin_of_abs (x : EReal) (h : BitVec.ofBool (decide (max x (-x) < (⊤ : EReal))) = 1#1) : Fin' x := by
  have h : max x (-x) < (⊤ : EReal) := by
    by_contra hn
    rw [decide_eq_false hn] at h
    exact absurd h (by decide)
  have h1 : x ≠ ⊤ := fun e => by subst e; simp at h
  have h2 : x ≠ ⊥ := fun e => by subst e; simp at h
  exact ⟨x.toReal, (EReal.coe_toReal h1 h2).symm⟩

/-- The comparison the precondition makes, at one entry. -/
theorem fin_at {S : Shape} (v : FVec Ideal S .f32) (i : S.Idx)
    (h : FloatOps.cmpf (F := Ideal) .olt (Host.absf v i) (FloatOps.ofBits .f32 0x7F800000#32) = 1#1) : Fin' (v i) := by
  change (BitVec.ofBool (decide (max (v i) (-v i) < Ideal.ofBits .f32 0x7F800000#32))) = 1#1 at h
  rw [bits_top] at h
  exact fin_of_abs _ h

/-- The column of scales that the precondition reads. -/
theorem col_at (x : FVec Ideal Cert.Pre_finite.S4096x128 .f32) (h : Cert.Pre_finite.S4096x128.Slices ![0, 0] Cert.Pre_finite.S4096x1) (R : Fin 4096) :
    extractStridedSlice Cert.Pre_finite.S4096x1 ![0, 0] x h (ix2 R 0) = x (ix2 R 0) := by
  pointwise []

/-- The precondition says what the kernel's operands need. -/
theorem real (m : (ℓ : Loc Cert.SharedUpIdeal.nD Cert.SharedUpIdeal.τ Cert.SharedUpIdeal.sig) → Buf (Elt Ideal) ℓ)
    (h : Cert.Pre_SharedUpIdeal_finite (hPre_finite := Cert.Pre_finite.Gen.facts) m) (c : Dev Cert.SharedUpIdeal.nD) : Real m c := by
  obtain ⟨h1, h2, h3, h4⟩ := h c
  refine ⟨fun R => ?_, fun K => ?_, fun K => ?_, fun i j => ?_⟩
  · have e := congrFun h1 (ix2 R 0)
    simp only [Cert.Pre_finite.fn, cmpf, broadcastInDim, constant] at e
    have e := fin_at _ _ e
    rw [col_at] at e
    exact e
  · have e := congrFun h2 (ix1 K)
    simp only [Cert.Pre_finite.fn, cmpf, broadcastInDim, constant] at e
    exact fin_at _ _ e
  · have e := congrFun h3 (ix1 K)
    simp only [Cert.Pre_finite.fn, cmpf, broadcastInDim, constant] at e
    exact fin_at _ _ e
  · have e := congrFun h4 (ix2 i j)
    simp only [Cert.Pre_finite.fn, cmpf, broadcastInDim, constant] at e
    exact fin_at _ _ e

/-- Arguments that agree give the same target. -/
theorem tgt_congr {x0 y0 : Vec Ideal Cert.SharedUpIdeal.S4096x3584 .i8} {x1 y1 : Vec Ideal Cert.SharedUpIdeal.S4096x128 .f32}
    {x2 y2 : Vec Ideal Cert.SharedUpIdeal.S3584x40960 .i8} {x3 y3 : Vec Ideal Cert.SharedUpIdeal.S40960 .f32}
    {x4 y4 : Vec Ideal Cert.SharedUpIdeal.S20480 .f32} {x5 y5 : Vec Ideal Cert.SharedUpIdeal.S64x64 .f32}
    (h0 : x0 = y0) (h1 : x1 = y1) (h2 : x2 = y2) (h3 : x3 = y3) (h4 : x4 = y4) (h5 : x5 = y5) :
    tgt x0 x1 x2 x3 x4 x5 = tgt y0 y1 y2 y3 y4 y5 := by
  subst h0 h1 h2 h3 h4 h5
  rfl

theorem algebraic : Cert.algebraic_SharedUpIdeal_RefUpIdeal_pre_finite
    (hSharedUpIdeal := Cert.SharedUpIdeal.Gen.facts) (hRefUpIdeal := Cert.RefUpIdeal.Gen.facts) (hPre_finite := Cert.Pre_finite.Gen.facts) := by
  intro m ρ m' ρ' hp hag
  have ht : ∀ c : Dev Cert.SharedUpIdeal.nD, tgt (m' ((c : Thread Cert.RefUpIdeal.nD Cert.RefUpIdeal.τ).loc Cert.RefUpIdeal.main_arg0)) (m' ((c : Thread Cert.RefUpIdeal.nD Cert.RefUpIdeal.τ).loc Cert.RefUpIdeal.main_arg1)) (m' ((c : Thread Cert.RefUpIdeal.nD Cert.RefUpIdeal.τ).loc Cert.RefUpIdeal.main_arg2))
      (m' ((c : Thread Cert.RefUpIdeal.nD Cert.RefUpIdeal.τ).loc Cert.RefUpIdeal.main_arg3)) (m' ((c : Thread Cert.RefUpIdeal.nD Cert.RefUpIdeal.τ).loc Cert.RefUpIdeal.main_arg4)) (m' ((c : Thread Cert.RefUpIdeal.nD Cert.RefUpIdeal.τ).loc Cert.RefUpIdeal.main_arg5)) = Cert.SharedUpIdeal.Step.T m c := fun c =>
    tgt_congr (hag c).1 (hag c).2.1 (hag c).2.2.1 (hag c).2.2.2.1 (hag c).2.2.2.2.1 (hag c).2.2.2.2.2
  refine ⟨fun c => usV (Cert.SharedUpIdeal.Step.T m c), fun c => rotV (Cert.SharedUpIdeal.Step.T m c), fun c => scaleV (Cert.SharedUpIdeal.Step.T m c), ?_, ?_⟩
  · exact Cert.SharedUpIdeal.Arrays.run m ρ (real m hp)
  · exact (θ_run (Cert.RefUpIdeal.defs (F := Ideal)) _ _).mono
      (fun _ h c => ⟨(h c).1.trans ((Cert.RefUpIdeal.Equal.us_eq _ _ _ _ _ _).trans (congrArg usV (ht c))),
        (h c).2.1.trans ((Cert.RefUpIdeal.Equal.rot_eq _ _ _ _ _ _).trans (congrArg rotV (ht c))),
        (h c).2.2.1.trans ((Cert.RefUpIdeal.Equal.scale_eq _ _ _ _ _ _).trans (congrArg scaleV (ht c))), (h c).2.2.2⟩)
      (Cert.RefUpIdeal.Value.run m' ρ')

end Cert.UpClaim

end
-- ==== Proof.lean ====
/- The claims together: the shared down-projection's frames are the generated ones, its value claim is
   Proof/Down/Claim.lean; the shared up-projection's frames are Proof/UpBits/Frame.lean and Proof/Up/Frame.lean, its
   value claim is Proof/Up/Claim.lean. -/
module

public import proofs.«01_k».proof.Defs
public import proofs.«01_k».proof.Proof.Gen.SharedDown.Frame
public import proofs.«01_k».proof.Proof.Gen.SharedDownIdeal.Value
public import proofs.«01_k».proof.Proof.Gen.RefDownIdeal.Value
public import proofs.«01_k».proof.Proof.Gen.RefUpIdeal.Value
public import proofs.«01_k».proof.Proof.Down.Claim
public import proofs.«01_k».proof.Proof.Gen.Pre_finite
public import proofs.«01_k».proof.Proof.UpBits.Frame
public import proofs.«01_k».proof.Proof.Up.Frame
public import proofs.«01_k».proof.Proof.Up.Claim
public import Idealize.ShloMosaic.Adequacy
public import Idealize.ShloMosaic.Init

@[expose] public section

noncomputable section

namespace Cert.Proof

open Idealize.ShloMosaic Idealize.SL.Sem

theorem claim : Cert.Claim := ⟨Cert.SharedDown.Gen.facts, Cert.SharedDownIdeal.Gen.facts, Cert.RefDownIdeal.Gen.facts,
  Cert.SharedUp.Gen.facts, Cert.SharedUpIdeal.Gen.facts, Cert.RefUpIdeal.Gen.facts, Cert.Pre_finite.Gen.facts,
  fun m ρ _ => Cert.SharedDown.Gen.frame m ρ, fun m ρ _ => Cert.SharedDownIdeal.Gen.frame m ρ,
  fun m ρ _ => Cert.RefDownIdeal.Gen.frame m ρ,
  fun m ρ _ => Cert.SharedUp.Hand.frame m ρ, fun m ρ _ => Cert.SharedUpIdeal.Hand.frame m ρ,
  fun m ρ _ => Cert.SharedUpIdeal.Hand.frame m ρ,
  fun m ρ _ => Cert.RefUpIdeal.Gen.frame m ρ, fun m ρ _ => Cert.RefUpIdeal.Gen.frame m ρ,
  trivial, Cert.DownClaim.algebraic, trivial, Cert.UpClaim.algebraic⟩

end Cert.Proof

end
